-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_and_finite [hPre_causal_and_finite : Cert.Pre_causal_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_and_finite [hPre_causal_and_finite : Cert.Pre_causal_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_causal_and_finite [hKernelIdeal : Cert.KernelIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_causal_and_finite [hReferenceIdeal : Cert.ReferenceIdeal.Facts] [hPre_causal_and_finite : Cert.Pre_causal_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_causal_and_finite [hKernelIdeal : Cert.KernelIdeal.Facts] [hReferenceIdeal : Cert.ReferenceIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_causal_and_finite : Cert.Pre_causal_and_finite.Facts),
    quiescent_Kernel (hKernel := hKernel)
    ∧ quiescent_KernelIdeal (hKernelIdeal := hKernelIdeal)
    ∧ quiescent_KernelIdeal_pre_causal_and_finite (hKernelIdeal := hKernelIdeal) (hPre_causal_and_finite := hPre_causal_and_finite)
    ∧ quiescent_ReferenceIdeal (hReferenceIdeal := hReferenceIdeal)
    ∧ quiescent_ReferenceIdeal_pre_causal_and_finite (hReferenceIdeal := hReferenceIdeal) (hPre_causal_and_finite := hPre_causal_and_finite)
    ∧ preserves_Kernel_KernelIdeal
    ∧ algebraic_KernelIdeal_ReferenceIdeal_pre_causal_and_finite (hKernelIdeal := hKernelIdeal) (hReferenceIdeal := hReferenceIdeal) (hPre_causal_and_finite := hPre_causal_and_finite)
-- ==== Pre_causal_and_finite.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg7 : FVec F S1024 .f32) (main_v3 : IVec S4x2048x2048 1) (main_v6 : IVec S4x2048x1024 1) (main_v9 : IVec S4x2048x1024 1) (main_v12 : IVec S1024x1024 1) (main_v15 : IVec S1024 1) (main_v18 : IVec S1024x1024 1) : IVec S4x2048x2048 1 × IVec S4x2048x1024 1 × IVec S4x2048x1024 1 × IVec S1024x1024 1 × IVec S1024 1 × IVec S1024x1024 1 × IVec S1024 1 :=
  let main_v19 : FVec F S1024 .f32 := Host.absf main_arg7
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  (main_v3, main_v6, main_v9, main_v12, main_v15, main_v18, main_v21)

def fn {F : FTy → Type} [FloatOps F] (main_arg0 : FVec F S4x2048x1024 .f32) (main_arg1 : FVec F S4x2048x1024 .f32) (main_arg2 : FVec F S4x2048x1024 .f32) (main_arg3 : IVec S4x2048x2048 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024 .f32) : IVec S4x2048x2048 1 × IVec S4x2048x1024 1 × IVec S4x2048x1024 1 × IVec S1024x1024 1 × IVec S1024 1 × IVec S1024x1024 1 × IVec S1024 1 :=
  let main_v0 : IVec S4x2048x2048 32 := iotaInDim S4x2048x2048 32 1
  let main_v1 : IVec S4x2048x2048 32 := iotaInDim S4x2048x2048 32 2
  let main_v2 : IVec S4x2048x2048 1 := cmpi .sgt main_v1 main_v0
  let main_v3 : IVec S4x2048x2048 1 := cmpi .eq main_arg3 main_v2
  let main_v4 : FVec F S4x2048x1024 .f32 := Host.absf main_arg0
  let main_cst : FVec F S_ .f32 := constant S_ .f32 0x7F800000#32
  let main_v5 : FVec F S4x2048x1024 .f32 := broadcastInDim S4x2048x1024 ![] bcast_S_S4x2048x1024 main_cst
  let main_v6 : IVec S4x2048x1024 1 := cmpf .olt main_v4 main_v5
  let main_v7 : FVec F S4x2048x1024 .f32 := Host.absf main_arg1
  let main_cst_0 : FVec F S_ .f32 := constant S_ .f32 0x7F800000#32
  let main_v8 : FVec F S4x2048x1024 .f32 := broadcastInDim S4x2048x1024 ![] bcast_S_S4x2048x1024 main_cst_0
  let main_v9 : IVec S4x2048x1024 1 := cmpf .olt main_v7 main_v8
  let main_v10 : FVec F S1024x1024 .f32 := Host.absf main_arg4
  let main_cst_1 : FVec F S_ .f32 := constant S_ .f32 0x7F800000#32
  let main_v11 : FVec F S1024x1024 .f32 := broadcastInDim S1024x1024 ![] bcast_S_S1024x1024 main_cst_1
  let main_v12 : IVec S1024x1024 1 := cmpf .olt main_v10 main_v11
  let main_v13 : FVec F S1024 .f32 := Host.absf main_arg5
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  let main_v16 : FVec F S1024x1024 .f32 := Host.absf main_arg6
  let main_cst_3 : FVec F S_ .f32 := constant S_ .f32 0x7F800000#32
  let main_v17 : FVec F S1024x1024 .f32 := broadcastInDim S1024x1024 ![] bcast_S_S1024x1024 main_cst_3
  let main_v18 : IVec S1024x1024 1 := cmpf .olt main_v16 main_v17
  fn_part1 (F := F) main_arg7 main_v3 main_v6 main_v9 main_v12 main_v15 main_v18
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S4x16x2048x2048 : Shape := ⟨4, ![4, 16, 2048, 2048]⟩
abbrev S1x512x256 : Shape := ⟨3, ![1, 512, 256]⟩
abbrev S1x2048x256 : Shape := ⟨3, ![1, 2048, 256]⟩
abbrev S3x512x2048 : Shape := ⟨3, ![3, 512, 2048]⟩
abbrev S2x512x256 : Shape := ⟨3, ![2, 512, 256]⟩
abbrev S3 : Shape := ⟨1, ![3]⟩
abbrev S2 : Shape := ⟨1, ![2]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1 : Shape := ⟨1, ![1]⟩
abbrev S_ : Shape := ⟨0, ![]⟩
abbrev S1x1x512x2048 : Shape := ⟨4, ![1, 1, 512, 2048]⟩
abbrev S512x2048 : Shape := ⟨2, ![512, 2048]⟩
abbrev S1x512x2048 : Shape := ⟨3, ![1, 512, 2048]⟩
abbrev S1x512x512 : Shape := ⟨3, ![1, 512, 512]⟩
abbrev S64x512 : Shape := ⟨2, ![64, 512]⟩
abbrev S512x256 : Shape := ⟨2, ![512, 256]⟩
abbrev S256x512 : Shape := ⟨2, ![256, 512]⟩
abbrev S1x2048x64 : Shape := ⟨3, ![1, 2048, 64]⟩
abbrev S2048x64 : Shape := ⟨2, ![2048, 64]⟩
abbrev S1x1024x64 : Shape := ⟨3, ![1, 1024, 64]⟩
abbrev S1024x64 : Shape := ⟨2, ![1024, 64]⟩
abbrev S512x1536 : Shape := ⟨2, ![512, 1536]⟩
abbrev S1x1536x64 : Shape := ⟨3, ![1, 1536, 64]⟩
abbrev S1536x64 : Shape := ⟨2, ![1536, 64]⟩

abbrev nBuf : Space → Nat
  | .hbm => 34
  | .vmem => 38
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .bf16⟩
  | .hbm, ⟨29, _⟩ => ⟨S4x16x2048x2048, .f32⟩
  | .hbm, ⟨30, _⟩ => ⟨S4x2048x1024, .bf16⟩
  | .hbm, ⟨31, _⟩ => ⟨S8192x1024, .bf16⟩
  | .hbm, ⟨32, _⟩ => ⟨S8192x1024, .f32⟩
  | .hbm, ⟨33, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x2048x256, .bf16⟩
  | .local _ .vmem, ⟨25, _⟩ => ⟨S1x2048x256, .bf16⟩
  | .local _ .vmem, ⟨26, _⟩ => ⟨S3x512x2048, .f32⟩
  | .local _ .vmem, ⟨27, _⟩ => ⟨S2x512x256, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S1024x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![4, 4, 2], ![false, false, false]⟩

def k1_cond1 (i : grid1.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def k1_cond2 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_6 : BitVec 32 := 0#32
  let v23 : BitVec 32 := Scalar.addi v22 c0_i32_6
  let c0_i32_7 : BitVec 32 := 0#32
  let v24 : BitVec 32 := Scalar.addi v23 c0_i32_7
  let c3_i32_22 : BitVec 32 := 3#32
  let v50 : BitVec 1 := Scalar.cmpi .sge v24 c3_i32_22
  let v51 : BitVec 32 := Scalar.extui v50
  let c0_i32_23 : BitVec 32 := 0#32
  let v52 : BitVec 1 := Scalar.cmpi .ne v51 c0_i32_23
  v52

def k1_off1 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_6 : BitVec 32 := 0#32
  let v23 : BitVec 32 := Scalar.addi v22 c0_i32_6
  let c0_i32_7 : BitVec 32 := 0#32
  let v24 : BitVec 32 := Scalar.addi v23 c0_i32_7
  let c3_i32_8 : BitVec 32 := 3#32
  let v25 : BitVec 32 := Scalar.remsi v24 c3_i32_8
  ![v25.toNat]
def k1_off2 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c0_i32_319 : BitVec 32 := 0#32
  let v544 : BitVec 32 := Scalar.addi v543 c0_i32_319
  let c0_i32_320 : BitVec 32 := 0#32
  let c0_i32_321 : BitVec 32 := 0#32
  ![arg0.toNat, v544.toNat, 0, 0]
def k1_off3 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_6 : BitVec 32 := 0#32
  let v23 : BitVec 32 := Scalar.addi v22 c0_i32_6
  let c0_i32_7 : BitVec 32 := 0#32
  let v24 : BitVec 32 := Scalar.addi v23 c0_i32_7
  let c3_i32_8 : BitVec 32 := 3#32
  let v25 : BitVec 32 := Scalar.remsi v24 c3_i32_8
  let c0_i32_322 : BitVec 32 := 0#32
  let c0_i32_323 : BitVec 32 := 0#32
  ![v25.toNat, 0, 0]
def k1_off4 (i : grid1.Coords) (c0_i32_6 : BitVec 32) (c0_i32_7 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  let v53 : Index := Scalar.indexCast v25
  let c0_24 : Index := 0#32
  let c0_25 : Index := 0#32
  ![v53.toNat, 0, 0]
def k1_off5 (i : grid1.Coords) (c0_i32_6 : BitVec 32) (c0_i32_7 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  let v58 : Index := Scalar.indexCast v25
  let c0_27 : Index := 0#32
  let c512 : Index := 512#32
  ![v58.toNat, 0, 512]
def k1_off6 (i : grid1.Coords) (c0_i32_6 : BitVec 32) (c0_i32_7 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  let v63 : Index := Scalar.indexCast v25
  let c0_29 : Index := 0#32
  let c1024 : Index := 1024#32
  ![v63.toNat, 0, 1024]
def k1_off7 (i : grid1.Coords) (c0_i32_6 : BitVec 32) (c0_i32_7 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  let v68 : Index := Scalar.indexCast v25
  let c0_31 : Index := 0#32
  let c1536 : Index := 1536#32
  ![v68.toNat, 0, 1536]
def k1_off8 (i : grid1.Coords) (c0_i32_6 : BitVec 32) (c0_i32_7 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  ![v25.toNat]
def k1_off9 (i : grid1.Coords) (c0_i32_33 : BitVec 32) : Fin 4 → Nat :=
  let arg0 : BitVec 32 := BitVec.ofNat 32 (i 0).val
  let arg1 : BitVec 32 := BitVec.ofNat 32 (i 1).val
  let c4_i32_32 : BitVec 32 := 4#32
  let v72 : BitVec 32 := Scalar.muli arg1 c4_i32_32
  let v73 : BitVec 32 := Scalar.addi v72 c0_i32_33
  let c0_i32_34 : BitVec 32 := 0#32
  let c0_i32_35 : BitVec 32 := 0#32
  ![arg0.toNat, v73.toNat, 0, 0]
def k1_off10 (i : grid1.Coords) (c0_i32_6 : BitVec 32) (c0_i32_7 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_6
  let v24 : BitVec 32 := Scalar.addi v23 c0_i32_7
  let c3_i32_8 : BitVec 32 := 3#32
  let v25 : BitVec 32 := Scalar.remsi v24 c3_i32_8
  let c0_i32_36 : BitVec 32 := 0#32
  let c0_i32_37 : BitVec 32 := 0#32
  ![v25.toNat, 0, 0]
def k1_cond3 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_39 : BitVec 32 := 8#32
  let v81 : BitVec 32 := Scalar.muli v3 c8_i32_39
  let c0_i32_40 : BitVec 32 := 0#32
  let v82 : BitVec 32 := Scalar.addi v81 c0_i32_40
  let c1_i32_41 : BitVec 32 := 1#32
  let v83 : BitVec 32 := Scalar.addi v82 c1_i32_41
  let c3_i32_57 : BitVec 32 := 3#32
  let v109 : BitVec 1 := Scalar.cmpi .sge v83 c3_i32_57
  let v110 : BitVec 32 := Scalar.extui v109
  let c0_i32_58 : BitVec 32 := 0#32
  let v111 : BitVec 1 := Scalar.cmpi .ne v110 c0_i32_58
  v111

def k1_off11 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_39 : BitVec 32 := 8#32
  let v81 : BitVec 32 := Scalar.muli v3 c8_i32_39
  let c0_i32_40 : BitVec 32 := 0#32
  let v82 : BitVec 32 := Scalar.addi v81 c0_i32_40
  let c1_i32_41 : BitVec 32 := 1#32
  let v83 : BitVec 32 := Scalar.addi v82 c1_i32_41
  let c3_i32_42 : BitVec 32 := 3#32
  let v84 : BitVec 32 := Scalar.remsi v83 c3_i32_42
  ![v84.toNat]
def k1_off12 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c1_i32_319 : BitVec 32 := 1#32
  let v544 : BitVec 32 := Scalar.addi v543 c1_i32_319
  let c0_i32_320 : BitVec 32 := 0#32
  let c0_i32_321 : BitVec 32 := 0#32
  ![arg0.toNat, v544.toNat, 0, 0]
def k1_off13 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_39 : BitVec 32 := 8#32
  let v81 : BitVec 32 := Scalar.muli v3 c8_i32_39
  let c0_i32_40 : BitVec 32 := 0#32
  let v82 : BitVec 32 := Scalar.addi v81 c0_i32_40
  let c1_i32_41 : BitVec 32 := 1#32
  let v83 : BitVec 32 := Scalar.addi v82 c1_i32_41
  let c3_i32_42 : BitVec 32 := 3#32
  let v84 : BitVec 32 := Scalar.remsi v83 c3_i32_42
  let c0_i32_322 : BitVec 32 := 0#32
  let c0_i32_323 : BitVec 32 := 0#32
  ![v84.toNat, 0, 0]
def k1_cond4 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_77 : BitVec 32 := 8#32
  let v140 : BitVec 32 := Scalar.muli v3 c8_i32_77
  let c0_i32_78 : BitVec 32 := 0#32
  let v141 : BitVec 32 := Scalar.addi v140 c0_i32_78
  let c2_i32_79 : BitVec 32 := 2#32
  let v142 : BitVec 32 := Scalar.addi v141 c2_i32_79
  let c3_i32_95 : BitVec 32 := 3#32
  let v168 : BitVec 1 := Scalar.cmpi .sge v142 c3_i32_95
  let v169 : BitVec 32 := Scalar.extui v168
  let c0_i32_96 : BitVec 32 := 0#32
  let v170 : BitVec 1 := Scalar.cmpi .ne v169 c0_i32_96
  v170

def k1_off14 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_77 : BitVec 32 := 8#32
  let v140 : BitVec 32 := Scalar.muli v3 c8_i32_77
  let c0_i32_78 : BitVec 32 := 0#32
  let v141 : BitVec 32 := Scalar.addi v140 c0_i32_78
  let c2_i32_79 : BitVec 32 := 2#32
  let v142 : BitVec 32 := Scalar.addi v141 c2_i32_79
  let c3_i32_80 : BitVec 32 := 3#32
  let v143 : BitVec 32 := Scalar.remsi v142 c3_i32_80
  ![v143.toNat]
def k1_off15 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c2_i32_319 : BitVec 32 := 2#32
  let v544 : BitVec 32 := Scalar.addi v543 c2_i32_319
  let c0_i32_320 : BitVec 32 := 0#32
  let c0_i32_321 : BitVec 32 := 0#32
  ![arg0.toNat, v544.toNat, 0, 0]
def k1_off16 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_77 : BitVec 32 := 8#32
  let v140 : BitVec 32 := Scalar.muli v3 c8_i32_77
  let c0_i32_78 : BitVec 32 := 0#32
  let v141 : BitVec 32 := Scalar.addi v140 c0_i32_78
  let c2_i32_79 : BitVec 32 := 2#32
  let v142 : BitVec 32 := Scalar.addi v141 c2_i32_79
  let c3_i32_80 : BitVec 32 := 3#32
  let v143 : BitVec 32 := Scalar.remsi v142 c3_i32_80
  let c0_i32_322 : BitVec 32 := 0#32
  let c0_i32_323 : BitVec 32 := 0#32
  ![v143.toNat, 0, 0]
def k1_cond5 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_115 : BitVec 32 := 8#32
  let v199 : BitVec 32 := Scalar.muli v3 c8_i32_115
  let c0_i32_116 : BitVec 32 := 0#32
  let v200 : BitVec 32 := Scalar.addi v199 c0_i32_116
  let c3_i32_117 : BitVec 32 := 3#32
  let v201 : BitVec 32 := Scalar.addi v200 c3_i32_117
  let c3_i32_133 : BitVec 32 := 3#32
  let v227 : BitVec 1 := Scalar.cmpi .sge v201 c3_i32_133
  let v228 : BitVec 32 := Scalar.extui v227
  let c0_i32_134 : BitVec 32 := 0#32
  let v229 : BitVec 1 := Scalar.cmpi .ne v228 c0_i32_134
  v229

def k1_off17 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_115 : BitVec 32 := 8#32
  let v199 : BitVec 32 := Scalar.muli v3 c8_i32_115
  let c0_i32_116 : BitVec 32 := 0#32
  let v200 : BitVec 32 := Scalar.addi v199 c0_i32_116
  let c3_i32_117 : BitVec 32 := 3#32
  let v201 : BitVec 32 := Scalar.addi v200 c3_i32_117
  let c3_i32_118 : BitVec 32 := 3#32
  let v202 : BitVec 32 := Scalar.remsi v201 c3_i32_118
  ![v202.toNat]
def k1_off18 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c3_i32_319 : BitVec 32 := 3#32
  let v544 : BitVec 32 := Scalar.addi v543 c3_i32_319
  let c0_i32_320 : BitVec 32 := 0#32
  let c0_i32_321 : BitVec 32 := 0#32
  ![arg0.toNat, v544.toNat, 0, 0]
def k1_off19 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_115 : BitVec 32 := 8#32
  let v199 : BitVec 32 := Scalar.muli v3 c8_i32_115
  let c0_i32_116 : BitVec 32 := 0#32
  let v200 : BitVec 32 := Scalar.addi v199 c0_i32_116
  let c3_i32_117 : BitVec 32 := 3#32
  let v201 : BitVec 32 := Scalar.addi v200 c3_i32_117
  let c3_i32_118 : BitVec 32 := 3#32
  let v202 : BitVec 32 := Scalar.remsi v201 c3_i32_118
  let c0_i32_322 : BitVec 32 := 0#32
  let c0_i32_323 : BitVec 32 := 0#32
  ![v202.toNat, 0, 0]
def k1_cond6 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let c0_i32_154 : BitVec 32 := 0#32
  let v259 : BitVec 32 := Scalar.addi v258 c0_i32_154
  let c2_i32_156 : BitVec 32 := 2#32
  let v261 : BitVec 1 := Scalar.cmpi .sge v259 c2_i32_156
  let v262 : BitVec 32 := Scalar.extui v261
  let c0_i32_157 : BitVec 32 := 0#32
  let v263 : BitVec 1 := Scalar.cmpi .ne v262 c0_i32_157
  v263

def k1_off20 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let c0_i32_154 : BitVec 32 := 0#32
  let v259 : BitVec 32 := Scalar.addi v258 c0_i32_154
  let c2_i32_155 : BitVec 32 := 2#32
  let v260 : BitVec 32 := Scalar.remsi v259 c2_i32_155
  ![v260.toNat]
def k1_off21 (i : grid1.Coords) : Fin 3 → Nat :=
  let arg0 : BitVec 32 := BitVec.ofNat 32 (i 0).val
  let c0_i32_319 : BitVec 32 := 0#32
  let arg1 : BitVec 32 := BitVec.ofNat 32 (i 1).val
  let c256_i32_318 : BitVec 32 := 256#32
  let v543 : BitVec 32 := Scalar.muli arg1 c256_i32_318
  ![arg0.toNat, 0, v543.toNat]
def k1_off22 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let c0_i32_154 : BitVec 32 := 0#32
  let v259 : BitVec 32 := Scalar.addi v258 c0_i32_154
  let c2_i32_155 : BitVec 32 := 2#32
  let v260 : BitVec 32 := Scalar.remsi v259 c2_i32_155
  let c0_i32_320 : BitVec 32 := 0#32
  let c0_i32_321 : BitVec 32 := 0#32
  ![v260.toNat, 0, 0]
def k1_off23 (i : grid1.Coords) (c0_i32_154 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let v259 : BitVec 32 := Scalar.addi v258 c0_i32_154
  let c2_i32_155 : BitVec 32 := 2#32
  let v260 : BitVec 32 := Scalar.remsi v259 c2_i32_155
  let v267 : Index := Scalar.indexCast v260
  let c0_158 : Index := 0#32
  let c0_159 : Index := 0#32
  ![v267.toNat, 0, 0]
def k1_off24 (i : grid1.Coords) (c0_i32_154 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let v259 : BitVec 32 := Scalar.addi v258 c0_i32_154
  let c2_i32_155 : BitVec 32 := 2#32
  let v260 : BitVec 32 := Scalar.remsi v259 c2_i32_155
  ![v260.toNat]
def k1_off25 (i : grid1.Coords) : Fin 3 → Nat :=
  let arg0 : BitVec 32 := BitVec.ofNat 32 (i 0).val
  let c0_i32_160 : BitVec 32 := 0#32
  let arg1 : BitVec 32 := BitVec.ofNat 32 (i 1).val
  let c256_i32 : BitVec 32 := 256#32
  let v271 : BitVec 32 := Scalar.muli arg1 c256_i32
  ![arg0.toNat, 0, v271.toNat]
def k1_off26 (i : grid1.Coords) (c0_i32_154 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_153 : BitVec 32 := 2#32
  let v258 : BitVec 32 := Scalar.muli v3 c2_i32_153
  let v259 : BitVec 32 := Scalar.addi v258 c0_i32_154
  let c2_i32_155 : BitVec 32 := 2#32
  let v260 : BitVec 32 := Scalar.remsi v259 c2_i32_155
  let c0_i32_161 : BitVec 32 := 0#32
  let c0_i32_162 : BitVec 32 := 0#32
  ![v260.toNat, 0, 0]
def k1_cond7 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_163 : BitVec 32 := 8#32
  let v283 : BitVec 32 := Scalar.muli v3 c8_i32_163
  let c4_i32_164 : BitVec 32 := 4#32
  let v284 : BitVec 32 := Scalar.addi v283 c4_i32_164
  let c0_i32_165 : BitVec 32 := 0#32
  let v285 : BitVec 32 := Scalar.addi v284 c0_i32_165
  let c3_i32_182 : BitVec 32 := 3#32
  let v311 : BitVec 1 := Scalar.cmpi .sge v285 c3_i32_182
  let v312 : BitVec 32 := Scalar.extui v311
  let c0_i32_183 : BitVec 32 := 0#32
  let v313 : BitVec 1 := Scalar.cmpi .ne v312 c0_i32_183
  v313

def k1_off27 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_163 : BitVec 32 := 8#32
  let v283 : BitVec 32 := Scalar.muli v3 c8_i32_163
  let c4_i32_164 : BitVec 32 := 4#32
  let v284 : BitVec 32 := Scalar.addi v283 c4_i32_164
  let c0_i32_165 : BitVec 32 := 0#32
  let v285 : BitVec 32 := Scalar.addi v284 c0_i32_165
  let c3_i32_166 : BitVec 32 := 3#32
  let v286 : BitVec 32 := Scalar.remsi v285 c3_i32_166
  ![v286.toNat]
def k1_off28 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c0_i32_319 : BitVec 32 := 0#32
  let v544 : BitVec 32 := Scalar.addi v543 c0_i32_319
  let c1536_i32_320 : BitVec 32 := 1536#32
  let c0_i32_321 : BitVec 32 := 0#32
  ![arg0.toNat, v544.toNat, 1536, 0]
def k1_off29 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_163 : BitVec 32 := 8#32
  let v283 : BitVec 32 := Scalar.muli v3 c8_i32_163
  let c4_i32_164 : BitVec 32 := 4#32
  let v284 : BitVec 32 := Scalar.addi v283 c4_i32_164
  let c0_i32_165 : BitVec 32 := 0#32
  let v285 : BitVec 32 := Scalar.addi v284 c0_i32_165
  let c3_i32_166 : BitVec 32 := 3#32
  let v286 : BitVec 32 := Scalar.remsi v285 c3_i32_166
  let c0_i32_322 : BitVec 32 := 0#32
  let c0_i32_323 : BitVec 32 := 0#32
  ![v286.toNat, 0, 0]
def k1_off30 (i : grid1.Coords) (c0_i32_193 : BitVec 32) : Fin 4 → Nat :=
  let arg0 : BitVec 32 := BitVec.ofNat 32 (i 0).val
  let arg1 : BitVec 32 := BitVec.ofNat 32 (i 1).val
  let c4_i32_192 : BitVec 32 := 4#32
  let v334 : BitVec 32 := Scalar.muli arg1 c4_i32_192
  let v335 : BitVec 32 := Scalar.addi v334 c0_i32_193
  let c1536_i32_194 : BitVec 32 := 1536#32
  let c0_i32_195 : BitVec 32 := 0#32
  ![arg0.toNat, v335.toNat, 1536, 0]
def k1_cond8 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_199 : BitVec 32 := 8#32
  let v343 : BitVec 32 := Scalar.muli v3 c8_i32_199
  let c4_i32_200 : BitVec 32 := 4#32
  let v344 : BitVec 32 := Scalar.addi v343 c4_i32_200
  let c1_i32_201 : BitVec 32 := 1#32
  let v345 : BitVec 32 := Scalar.addi v344 c1_i32_201
  let c3_i32_218 : BitVec 32 := 3#32
  let v371 : BitVec 1 := Scalar.cmpi .sge v345 c3_i32_218
  let v372 : BitVec 32 := Scalar.extui v371
  let c0_i32_219 : BitVec 32 := 0#32
  let v373 : BitVec 1 := Scalar.cmpi .ne v372 c0_i32_219
  v373

def k1_off31 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_199 : BitVec 32 := 8#32
  let v343 : BitVec 32 := Scalar.muli v3 c8_i32_199
  let c4_i32_200 : BitVec 32 := 4#32
  let v344 : BitVec 32 := Scalar.addi v343 c4_i32_200
  let c1_i32_201 : BitVec 32 := 1#32
  let v345 : BitVec 32 := Scalar.addi v344 c1_i32_201
  let c3_i32_202 : BitVec 32 := 3#32
  let v346 : BitVec 32 := Scalar.remsi v345 c3_i32_202
  ![v346.toNat]
def k1_off32 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c1_i32_319 : BitVec 32 := 1#32
  let v544 : BitVec 32 := Scalar.addi v543 c1_i32_319
  let c1536_i32_320 : BitVec 32 := 1536#32
  let c0_i32_321 : BitVec 32 := 0#32
  ![arg0.toNat, v544.toNat, 1536, 0]
def k1_off33 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_199 : BitVec 32 := 8#32
  let v343 : BitVec 32 := Scalar.muli v3 c8_i32_199
  let c4_i32_200 : BitVec 32 := 4#32
  let v344 : BitVec 32 := Scalar.addi v343 c4_i32_200
  let c1_i32_201 : BitVec 32 := 1#32
  let v345 : BitVec 32 := Scalar.addi v344 c1_i32_201
  let c3_i32_202 : BitVec 32 := 3#32
  let v346 : BitVec 32 := Scalar.remsi v345 c3_i32_202
  let c0_i32_322 : BitVec 32 := 0#32
  let c0_i32_323 : BitVec 32 := 0#32
  ![v346.toNat, 0, 0]
def k1_cond9 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_235 : BitVec 32 := 8#32
  let v403 : BitVec 32 := Scalar.muli v3 c8_i32_235
  let c4_i32_236 : BitVec 32 := 4#32
  let v404 : BitVec 32 := Scalar.addi v403 c4_i32_236
  let c2_i32_237 : BitVec 32 := 2#32
  let v405 : BitVec 32 := Scalar.addi v404 c2_i32_237
  let c3_i32_254 : BitVec 32 := 3#32
  let v431 : BitVec 1 := Scalar.cmpi .sge v405 c3_i32_254
  let v432 : BitVec 32 := Scalar.extui v431
  let c0_i32_255 : BitVec 32 := 0#32
  let v433 : BitVec 1 := Scalar.cmpi .ne v432 c0_i32_255
  v433

def k1_off34 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_235 : BitVec 32 := 8#32
  let v403 : BitVec 32 := Scalar.muli v3 c8_i32_235
  let c4_i32_236 : BitVec 32 := 4#32
  let v404 : BitVec 32 := Scalar.addi v403 c4_i32_236
  let c2_i32_237 : BitVec 32 := 2#32
  let v405 : BitVec 32 := Scalar.addi v404 c2_i32_237
  let c3_i32_238 : BitVec 32 := 3#32
  let v406 : BitVec 32 := Scalar.remsi v405 c3_i32_238
  ![v406.toNat]
def k1_off35 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c2_i32_319 : BitVec 32 := 2#32
  let v544 : BitVec 32 := Scalar.addi v543 c2_i32_319
  let c1536_i32_320 : BitVec 32 := 1536#32
  let c0_i32_321 : BitVec 32 := 0#32
  ![arg0.toNat, v544.toNat, 1536, 0]
def k1_off36 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_235 : BitVec 32 := 8#32
  let v403 : BitVec 32 := Scalar.muli v3 c8_i32_235
  let c4_i32_236 : BitVec 32 := 4#32
  let v404 : BitVec 32 := Scalar.addi v403 c4_i32_236
  let c2_i32_237 : BitVec 32 := 2#32
  let v405 : BitVec 32 := Scalar.addi v404 c2_i32_237
  let c3_i32_238 : BitVec 32 := 3#32
  let v406 : BitVec 32 := Scalar.remsi v405 c3_i32_238
  let c0_i32_322 : BitVec 32 := 0#32
  let c0_i32_323 : BitVec 32 := 0#32
  ![v406.toNat, 0, 0]
def k1_cond10 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_271 : BitVec 32 := 8#32
  let v463 : BitVec 32 := Scalar.muli v3 c8_i32_271
  let c4_i32_272 : BitVec 32 := 4#32
  let v464 : BitVec 32 := Scalar.addi v463 c4_i32_272
  let c3_i32_273 : BitVec 32 := 3#32
  let v465 : BitVec 32 := Scalar.addi v464 c3_i32_273
  let c3_i32_290 : BitVec 32 := 3#32
  let v491 : BitVec 1 := Scalar.cmpi .sge v465 c3_i32_290
  let v492 : BitVec 32 := Scalar.extui v491
  let c0_i32_291 : BitVec 32 := 0#32
  let v493 : BitVec 1 := Scalar.cmpi .ne v492 c0_i32_291
  v493

def k1_off37 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_271 : BitVec 32 := 8#32
  let v463 : BitVec 32 := Scalar.muli v3 c8_i32_271
  let c4_i32_272 : BitVec 32 := 4#32
  let v464 : BitVec 32 := Scalar.addi v463 c4_i32_272
  let c3_i32_273 : BitVec 32 := 3#32
  let v465 : BitVec 32 := Scalar.addi v464 c3_i32_273
  let c3_i32_274 : BitVec 32 := 3#32
  let v466 : BitVec 32 := Scalar.remsi v465 c3_i32_274
  ![v466.toNat]
def k1_off38 (i : grid1.Coords) : Fin 4 → Nat :=
  let arg0 : BitVec 32 := BitVec.ofNat 32 (i 0).val
  let arg1 : BitVec 32 := BitVec.ofNat 32 (i 1).val
  let c4_i32_318 : BitVec 32 := 4#32
  let v543 : BitVec 32 := Scalar.muli arg1 c4_i32_318
  let c3_i32_319 : BitVec 32 := 3#32
  let v544 : BitVec 32 := Scalar.addi v543 c3_i32_319
  let c1536_i32_320 : BitVec 32 := 1536#32
  let c0_i32_321 : BitVec 32 := 0#32
  ![arg0.toNat, v544.toNat, 1536, 0]
def k1_off39 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_271 : BitVec 32 := 8#32
  let v463 : BitVec 32 := Scalar.muli v3 c8_i32_271
  let c4_i32_272 : BitVec 32 := 4#32
  let v464 : BitVec 32 := Scalar.addi v463 c4_i32_272
  let c3_i32_273 : BitVec 32 := 3#32
  let v465 : BitVec 32 := Scalar.addi v464 c3_i32_273
  let c3_i32_274 : BitVec 32 := 3#32
  let v466 : BitVec 32 := Scalar.remsi v465 c3_i32_274
  let c0_i32_322 : BitVec 32 := 0#32
  let c0_i32_323 : BitVec 32 := 0#32
  ![v466.toNat, 0, 0]
def k1_cond11 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_307 : BitVec 32 := 2#32
  let v523 : BitVec 32 := Scalar.muli v3 c2_i32_307
  let c1_i32_308 : BitVec 32 := 1#32
  let v524 : BitVec 32 := Scalar.addi v523 c1_i32_308
  let c2_i32_310 : BitVec 32 := 2#32
  let v526 : BitVec 1 := Scalar.cmpi .sge v524 c2_i32_310
  let v527 : BitVec 32 := Scalar.extui v526
  let c0_i32_311 : BitVec 32 := 0#32
  let v528 : BitVec 1 := Scalar.cmpi .ne v527 c0_i32_311
  v528

def k1_off40 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_307 : BitVec 32 := 2#32
  let v523 : BitVec 32 := Scalar.muli v3 c2_i32_307
  let c1_i32_308 : BitVec 32 := 1#32
  let v524 : BitVec 32 := Scalar.addi v523 c1_i32_308
  let c2_i32_309 : BitVec 32 := 2#32
  let v525 : BitVec 32 := Scalar.remsi v524 c2_i32_309
  ![v525.toNat]
def k1_off41 (i : grid1.Coords) : Fin 3 → Nat :=
  let arg0 : BitVec 32 := BitVec.ofNat 32 (i 0).val
  let c1536_i32_319 : BitVec 32 := 1536#32
  let arg1 : BitVec 32 := BitVec.ofNat 32 (i 1).val
  let c256_i32_318 : BitVec 32 := 256#32
  let v543 : BitVec 32 := Scalar.muli arg1 c256_i32_318
  ![arg0.toNat, 1536, v543.toNat]
def k1_off42 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_307 : BitVec 32 := 2#32
  let v523 : BitVec 32 := Scalar.muli v3 c2_i32_307
  let c1_i32_308 : BitVec 32 := 1#32
  let v524 : BitVec 32 := Scalar.addi v523 c1_i32_308
  let c2_i32_309 : BitVec 32 := 2#32
  let v525 : BitVec 32 := Scalar.remsi v524 c2_i32_309
  let c0_i32_320 : BitVec 32 := 0#32
  let c0_i32_321 : BitVec 32 := 0#32
  ![v525.toNat, 0, 0]
def k1_off43 (i : grid1.Coords) : Fin 3 → Nat :=
  let arg0 : BitVec 32 := BitVec.ofNat 32 (i 0).val
  let c1536_i32_315 : BitVec 32 := 1536#32
  let arg1 : BitVec 32 := BitVec.ofNat 32 (i 1).val
  let c256_i32_314 : BitVec 32 := 256#32
  let v536 : BitVec 32 := Scalar.muli arg1 c256_i32_314
  ![arg0.toNat, 1536, v536.toNat]
def k1_cond12 (i : grid1.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_1 : BitVec 32 := 0#32
  let v9 : BitVec 1 := Scalar.cmpi .ne v8 c0_i32_1
  v9

def k1_cond13 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_5 : BitVec 32 := 0#32
  let v23 : BitVec 32 := Scalar.addi v22 c0_i32_5
  let c0_i32_6 : BitVec 32 := 0#32
  let v24 : BitVec 32 := Scalar.addi v23 c0_i32_6
  let c3_i32_21 : BitVec 32 := 3#32
  let v50 : BitVec 1 := Scalar.cmpi .sge v24 c3_i32_21
  let v51 : BitVec 32 := Scalar.extui v50
  let c0_i32_22 : BitVec 32 := 0#32
  let v52 : BitVec 1 := Scalar.cmpi .ne v51 c0_i32_22
  v52

def k1_off44 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_5 : BitVec 32 := 0#32
  let v23 : BitVec 32 := Scalar.addi v22 c0_i32_5
  let c0_i32_6 : BitVec 32 := 0#32
  let v24 : BitVec 32 := Scalar.addi v23 c0_i32_6
  let c3_i32_7 : BitVec 32 := 3#32
  let v25 : BitVec 32 := Scalar.remsi v24 c3_i32_7
  ![v25.toNat]
def k1_off45 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c0_i32_318 : BitVec 32 := 0#32
  let v548 : BitVec 32 := Scalar.addi v547 c0_i32_318
  let c512_i32_319 : BitVec 32 := 512#32
  let c0_i32_320 : BitVec 32 := 0#32
  ![arg0.toNat, v548.toNat, 512, 0]
def k1_off46 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let c0_i32_5 : BitVec 32 := 0#32
  let v23 : BitVec 32 := Scalar.addi v22 c0_i32_5
  let c0_i32_6 : BitVec 32 := 0#32
  let v24 : BitVec 32 := Scalar.addi v23 c0_i32_6
  let c3_i32_7 : BitVec 32 := 3#32
  let v25 : BitVec 32 := Scalar.remsi v24 c3_i32_7
  let c0_i32_321 : BitVec 32 := 0#32
  let c0_i32_322 : BitVec 32 := 0#32
  ![v25.toNat, 0, 0]
def k1_off47 (i : grid1.Coords) (c0_i32_5 : BitVec 32) (c0_i32_6 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  let v54 : Index := Scalar.indexCast v25
  let c0_23 : Index := 0#32
  let c0_24 : Index := 0#32
  ![v54.toNat, 0, 0]
def k1_off48 (i : grid1.Coords) (c0_i32_5 : BitVec 32) (c0_i32_6 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  let v59 : Index := Scalar.indexCast v25
  let c0_25 : Index := 0#32
  let c512 : Index := 512#32
  ![v59.toNat, 0, 512]
def k1_off49 (i : grid1.Coords) (c0_i32_5 : BitVec 32) (c0_i32_6 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  let v64 : Index := Scalar.indexCast v25
  let c0_27 : Index := 0#32
  let c1024 : Index := 1024#32
  ![v64.toNat, 0, 1024]
def k1_off50 (i : grid1.Coords) (c0_i32_5 : BitVec 32) (c0_i32_6 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  let v69 : Index := Scalar.indexCast v25
  let c0_29 : Index := 0#32
  let c1536 : Index := 1536#32
  ![v69.toNat, 0, 1536]
def k1_off51 (i : grid1.Coords) (c0_i32_5 : BitVec 32) (c0_i32_6 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  ![v25.toNat]
def k1_off52 (i : grid1.Coords) (c0_i32_31 : BitVec 32) : Fin 4 → Nat :=
  let arg0 : BitVec 32 := BitVec.ofNat 32 (i 0).val
  let arg1 : BitVec 32 := BitVec.ofNat 32 (i 1).val
  let c4_i32_30 : BitVec 32 := 4#32
  let v73 : BitVec 32 := Scalar.muli arg1 c4_i32_30
  let v74 : BitVec 32 := Scalar.addi v73 c0_i32_31
  let c512_i32_32 : BitVec 32 := 512#32
  let c0_i32_33 : BitVec 32 := 0#32
  ![arg0.toNat, v74.toNat, 512, 0]
def k1_off53 (i : grid1.Coords) (c0_i32_5 : BitVec 32) (c0_i32_6 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32 : BitVec 32 := 8#32
  let v22 : BitVec 32 := Scalar.muli v3 c8_i32
  let v23 : BitVec 32 := Scalar.addi v22 c0_i32_5
  let v24 : BitVec 32 := Scalar.addi v23 c0_i32_6
  let c3_i32_7 : BitVec 32 := 3#32
  let v25 : BitVec 32 := Scalar.remsi v24 c3_i32_7
  let c0_i32_34 : BitVec 32 := 0#32
  let c0_i32_35 : BitVec 32 := 0#32
  ![v25.toNat, 0, 0]
def k1_cond14 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_37 : BitVec 32 := 8#32
  let v82 : BitVec 32 := Scalar.muli v3 c8_i32_37
  let c0_i32_38 : BitVec 32 := 0#32
  let v83 : BitVec 32 := Scalar.addi v82 c0_i32_38
  let c1_i32_39 : BitVec 32 := 1#32
  let v84 : BitVec 32 := Scalar.addi v83 c1_i32_39
  let c3_i32_55 : BitVec 32 := 3#32
  let v110 : BitVec 1 := Scalar.cmpi .sge v84 c3_i32_55
  let v111 : BitVec 32 := Scalar.extui v110
  let c0_i32_56 : BitVec 32 := 0#32
  let v112 : BitVec 1 := Scalar.cmpi .ne v111 c0_i32_56
  v112

def k1_off54 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_37 : BitVec 32 := 8#32
  let v82 : BitVec 32 := Scalar.muli v3 c8_i32_37
  let c0_i32_38 : BitVec 32 := 0#32
  let v83 : BitVec 32 := Scalar.addi v82 c0_i32_38
  let c1_i32_39 : BitVec 32 := 1#32
  let v84 : BitVec 32 := Scalar.addi v83 c1_i32_39
  let c3_i32_40 : BitVec 32 := 3#32
  let v85 : BitVec 32 := Scalar.remsi v84 c3_i32_40
  ![v85.toNat]
def k1_off55 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c1_i32_318 : BitVec 32 := 1#32
  let v548 : BitVec 32 := Scalar.addi v547 c1_i32_318
  let c512_i32_319 : BitVec 32 := 512#32
  let c0_i32_320 : BitVec 32 := 0#32
  ![arg0.toNat, v548.toNat, 512, 0]
def k1_off56 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_37 : BitVec 32 := 8#32
  let v82 : BitVec 32 := Scalar.muli v3 c8_i32_37
  let c0_i32_38 : BitVec 32 := 0#32
  let v83 : BitVec 32 := Scalar.addi v82 c0_i32_38
  let c1_i32_39 : BitVec 32 := 1#32
  let v84 : BitVec 32 := Scalar.addi v83 c1_i32_39
  let c3_i32_40 : BitVec 32 := 3#32
  let v85 : BitVec 32 := Scalar.remsi v84 c3_i32_40
  let c0_i32_321 : BitVec 32 := 0#32
  let c0_i32_322 : BitVec 32 := 0#32
  ![v85.toNat, 0, 0]
def k1_cond15 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_74 : BitVec 32 := 8#32
  let v142 : BitVec 32 := Scalar.muli v3 c8_i32_74
  let c0_i32_75 : BitVec 32 := 0#32
  let v143 : BitVec 32 := Scalar.addi v142 c0_i32_75
  let c2_i32_76 : BitVec 32 := 2#32
  let v144 : BitVec 32 := Scalar.addi v143 c2_i32_76
  let c3_i32_92 : BitVec 32 := 3#32
  let v170 : BitVec 1 := Scalar.cmpi .sge v144 c3_i32_92
  let v171 : BitVec 32 := Scalar.extui v170
  let c0_i32_93 : BitVec 32 := 0#32
  let v172 : BitVec 1 := Scalar.cmpi .ne v171 c0_i32_93
  v172

def k1_off57 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_74 : BitVec 32 := 8#32
  let v142 : BitVec 32 := Scalar.muli v3 c8_i32_74
  let c0_i32_75 : BitVec 32 := 0#32
  let v143 : BitVec 32 := Scalar.addi v142 c0_i32_75
  let c2_i32_76 : BitVec 32 := 2#32
  let v144 : BitVec 32 := Scalar.addi v143 c2_i32_76
  let c3_i32_77 : BitVec 32 := 3#32
  let v145 : BitVec 32 := Scalar.remsi v144 c3_i32_77
  ![v145.toNat]
def k1_off58 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c2_i32_318 : BitVec 32 := 2#32
  let v548 : BitVec 32 := Scalar.addi v547 c2_i32_318
  let c512_i32_319 : BitVec 32 := 512#32
  let c0_i32_320 : BitVec 32 := 0#32
  ![arg0.toNat, v548.toNat, 512, 0]
def k1_off59 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_74 : BitVec 32 := 8#32
  let v142 : BitVec 32 := Scalar.muli v3 c8_i32_74
  let c0_i32_75 : BitVec 32 := 0#32
  let v143 : BitVec 32 := Scalar.addi v142 c0_i32_75
  let c2_i32_76 : BitVec 32 := 2#32
  let v144 : BitVec 32 := Scalar.addi v143 c2_i32_76
  let c3_i32_77 : BitVec 32 := 3#32
  let v145 : BitVec 32 := Scalar.remsi v144 c3_i32_77
  let c0_i32_321 : BitVec 32 := 0#32
  let c0_i32_322 : BitVec 32 := 0#32
  ![v145.toNat, 0, 0]
def k1_cond16 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_111 : BitVec 32 := 8#32
  let v202 : BitVec 32 := Scalar.muli v3 c8_i32_111
  let c0_i32_112 : BitVec 32 := 0#32
  let v203 : BitVec 32 := Scalar.addi v202 c0_i32_112
  let c3_i32_113 : BitVec 32 := 3#32
  let v204 : BitVec 32 := Scalar.addi v203 c3_i32_113
  let c3_i32_129 : BitVec 32 := 3#32
  let v230 : BitVec 1 := Scalar.cmpi .sge v204 c3_i32_129
  let v231 : BitVec 32 := Scalar.extui v230
  let c0_i32_130 : BitVec 32 := 0#32
  let v232 : BitVec 1 := Scalar.cmpi .ne v231 c0_i32_130
  v232

def k1_off60 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_111 : BitVec 32 := 8#32
  let v202 : BitVec 32 := Scalar.muli v3 c8_i32_111
  let c0_i32_112 : BitVec 32 := 0#32
  let v203 : BitVec 32 := Scalar.addi v202 c0_i32_112
  let c3_i32_113 : BitVec 32 := 3#32
  let v204 : BitVec 32 := Scalar.addi v203 c3_i32_113
  let c3_i32_114 : BitVec 32 := 3#32
  let v205 : BitVec 32 := Scalar.remsi v204 c3_i32_114
  ![v205.toNat]
def k1_off61 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c3_i32_318 : BitVec 32 := 3#32
  let v548 : BitVec 32 := Scalar.addi v547 c3_i32_318
  let c512_i32_319 : BitVec 32 := 512#32
  let c0_i32_320 : BitVec 32 := 0#32
  ![arg0.toNat, v548.toNat, 512, 0]
def k1_off62 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_111 : BitVec 32 := 8#32
  let v202 : BitVec 32 := Scalar.muli v3 c8_i32_111
  let c0_i32_112 : BitVec 32 := 0#32
  let v203 : BitVec 32 := Scalar.addi v202 c0_i32_112
  let c3_i32_113 : BitVec 32 := 3#32
  let v204 : BitVec 32 := Scalar.addi v203 c3_i32_113
  let c3_i32_114 : BitVec 32 := 3#32
  let v205 : BitVec 32 := Scalar.remsi v204 c3_i32_114
  let c0_i32_321 : BitVec 32 := 0#32
  let c0_i32_322 : BitVec 32 := 0#32
  ![v205.toNat, 0, 0]
def k1_cond17 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let c0_i32_149 : BitVec 32 := 0#32
  let v263 : BitVec 32 := Scalar.addi v262 c0_i32_149
  let c2_i32_151 : BitVec 32 := 2#32
  let v265 : BitVec 1 := Scalar.cmpi .sge v263 c2_i32_151
  let v266 : BitVec 32 := Scalar.extui v265
  let c0_i32_152 : BitVec 32 := 0#32
  let v267 : BitVec 1 := Scalar.cmpi .ne v266 c0_i32_152
  v267

def k1_off63 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let c0_i32_149 : BitVec 32 := 0#32
  let v263 : BitVec 32 := Scalar.addi v262 c0_i32_149
  let c2_i32_150 : BitVec 32 := 2#32
  let v264 : BitVec 32 := Scalar.remsi v263 c2_i32_150
  ![v264.toNat]
def k1_off64 (i : grid1.Coords) : Fin 3 → Nat :=
  let arg0 : BitVec 32 := BitVec.ofNat 32 (i 0).val
  let c512_i32_318 : BitVec 32 := 512#32
  let arg1 : BitVec 32 := BitVec.ofNat 32 (i 1).val
  let c256_i32_317 : BitVec 32 := 256#32
  let v547 : BitVec 32 := Scalar.muli arg1 c256_i32_317
  ![arg0.toNat, 512, v547.toNat]
def k1_off65 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let c0_i32_149 : BitVec 32 := 0#32
  let v263 : BitVec 32 := Scalar.addi v262 c0_i32_149
  let c2_i32_150 : BitVec 32 := 2#32
  let v264 : BitVec 32 := Scalar.remsi v263 c2_i32_150
  let c0_i32_319 : BitVec 32 := 0#32
  let c0_i32_320 : BitVec 32 := 0#32
  ![v264.toNat, 0, 0]
def k1_off66 (i : grid1.Coords) (c0_i32_149 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let v263 : BitVec 32 := Scalar.addi v262 c0_i32_149
  let c2_i32_150 : BitVec 32 := 2#32
  let v264 : BitVec 32 := Scalar.remsi v263 c2_i32_150
  let v271 : Index := Scalar.indexCast v264
  let c0_153 : Index := 0#32
  let c0_154 : Index := 0#32
  ![v271.toNat, 0, 0]
def k1_off67 (i : grid1.Coords) (c0_i32_149 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let v263 : BitVec 32 := Scalar.addi v262 c0_i32_149
  let c2_i32_150 : BitVec 32 := 2#32
  let v264 : BitVec 32 := Scalar.remsi v263 c2_i32_150
  ![v264.toNat]
def k1_off68 (i : grid1.Coords) : Fin 3 → Nat :=
  let arg0 : BitVec 32 := BitVec.ofNat 32 (i 0).val
  let c512_i32_155 : BitVec 32 := 512#32
  let arg1 : BitVec 32 := BitVec.ofNat 32 (i 1).val
  let c256_i32 : BitVec 32 := 256#32
  let v275 : BitVec 32 := Scalar.muli arg1 c256_i32
  ![arg0.toNat, 512, v275.toNat]
def k1_off69 (i : grid1.Coords) (c0_i32_149 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_148 : BitVec 32 := 2#32
  let v262 : BitVec 32 := Scalar.muli v3 c2_i32_148
  let v263 : BitVec 32 := Scalar.addi v262 c0_i32_149
  let c2_i32_150 : BitVec 32 := 2#32
  let v264 : BitVec 32 := Scalar.remsi v263 c2_i32_150
  let c0_i32_156 : BitVec 32 := 0#32
  let c0_i32_157 : BitVec 32 := 0#32
  ![v264.toNat, 0, 0]
def k1_cond18 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_158 : BitVec 32 := 8#32
  let v287 : BitVec 32 := Scalar.muli v3 c8_i32_158
  let c4_i32_159 : BitVec 32 := 4#32
  let v288 : BitVec 32 := Scalar.addi v287 c4_i32_159
  let c0_i32_160 : BitVec 32 := 0#32
  let v289 : BitVec 32 := Scalar.addi v288 c0_i32_160
  let c3_i32_177 : BitVec 32 := 3#32
  let v315 : BitVec 1 := Scalar.cmpi .sge v289 c3_i32_177
  let v316 : BitVec 32 := Scalar.extui v315
  let c0_i32_178 : BitVec 32 := 0#32
  let v317 : BitVec 1 := Scalar.cmpi .ne v316 c0_i32_178
  v317

def k1_off70 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_158 : BitVec 32 := 8#32
  let v287 : BitVec 32 := Scalar.muli v3 c8_i32_158
  let c4_i32_159 : BitVec 32 := 4#32
  let v288 : BitVec 32 := Scalar.addi v287 c4_i32_159
  let c0_i32_160 : BitVec 32 := 0#32
  let v289 : BitVec 32 := Scalar.addi v288 c0_i32_160
  let c3_i32_161 : BitVec 32 := 3#32
  let v290 : BitVec 32 := Scalar.remsi v289 c3_i32_161
  ![v290.toNat]
def k1_off71 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c0_i32_318 : BitVec 32 := 0#32
  let v548 : BitVec 32 := Scalar.addi v547 c0_i32_318
  let c1024_i32_319 : BitVec 32 := 1024#32
  let c0_i32_320 : BitVec 32 := 0#32
  ![arg0.toNat, v548.toNat, 1024, 0]
def k1_off72 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_158 : BitVec 32 := 8#32
  let v287 : BitVec 32 := Scalar.muli v3 c8_i32_158
  let c4_i32_159 : BitVec 32 := 4#32
  let v288 : BitVec 32 := Scalar.addi v287 c4_i32_159
  let c0_i32_160 : BitVec 32 := 0#32
  let v289 : BitVec 32 := Scalar.addi v288 c0_i32_160
  let c3_i32_161 : BitVec 32 := 3#32
  let v290 : BitVec 32 := Scalar.remsi v289 c3_i32_161
  let c0_i32_321 : BitVec 32 := 0#32
  let c0_i32_322 : BitVec 32 := 0#32
  ![v290.toNat, 0, 0]
def k1_off73 (i : grid1.Coords) (c0_i32_189 : BitVec 32) : Fin 4 → Nat :=
  let arg0 : BitVec 32 := BitVec.ofNat 32 (i 0).val
  let arg1 : BitVec 32 := BitVec.ofNat 32 (i 1).val
  let c4_i32_188 : BitVec 32 := 4#32
  let v338 : BitVec 32 := Scalar.muli arg1 c4_i32_188
  let v339 : BitVec 32 := Scalar.addi v338 c0_i32_189
  let c1024_i32_190 : BitVec 32 := 1024#32
  let c0_i32_191 : BitVec 32 := 0#32
  ![arg0.toNat, v339.toNat, 1024, 0]
def k1_cond19 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_195 : BitVec 32 := 8#32
  let v347 : BitVec 32 := Scalar.muli v3 c8_i32_195
  let c4_i32_196 : BitVec 32 := 4#32
  let v348 : BitVec 32 := Scalar.addi v347 c4_i32_196
  let c1_i32_197 : BitVec 32 := 1#32
  let v349 : BitVec 32 := Scalar.addi v348 c1_i32_197
  let c3_i32_214 : BitVec 32 := 3#32
  let v375 : BitVec 1 := Scalar.cmpi .sge v349 c3_i32_214
  let v376 : BitVec 32 := Scalar.extui v375
  let c0_i32_215 : BitVec 32 := 0#32
  let v377 : BitVec 1 := Scalar.cmpi .ne v376 c0_i32_215
  v377

def k1_off74 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_195 : BitVec 32 := 8#32
  let v347 : BitVec 32 := Scalar.muli v3 c8_i32_195
  let c4_i32_196 : BitVec 32 := 4#32
  let v348 : BitVec 32 := Scalar.addi v347 c4_i32_196
  let c1_i32_197 : BitVec 32 := 1#32
  let v349 : BitVec 32 := Scalar.addi v348 c1_i32_197
  let c3_i32_198 : BitVec 32 := 3#32
  let v350 : BitVec 32 := Scalar.remsi v349 c3_i32_198
  ![v350.toNat]
def k1_off75 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c1_i32_318 : BitVec 32 := 1#32
  let v548 : BitVec 32 := Scalar.addi v547 c1_i32_318
  let c1024_i32_319 : BitVec 32 := 1024#32
  let c0_i32_320 : BitVec 32 := 0#32
  ![arg0.toNat, v548.toNat, 1024, 0]
def k1_off76 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_195 : BitVec 32 := 8#32
  let v347 : BitVec 32 := Scalar.muli v3 c8_i32_195
  let c4_i32_196 : BitVec 32 := 4#32
  let v348 : BitVec 32 := Scalar.addi v347 c4_i32_196
  let c1_i32_197 : BitVec 32 := 1#32
  let v349 : BitVec 32 := Scalar.addi v348 c1_i32_197
  let c3_i32_198 : BitVec 32 := 3#32
  let v350 : BitVec 32 := Scalar.remsi v349 c3_i32_198
  let c0_i32_321 : BitVec 32 := 0#32
  let c0_i32_322 : BitVec 32 := 0#32
  ![v350.toNat, 0, 0]
def k1_cond20 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_232 : BitVec 32 := 8#32
  let v407 : BitVec 32 := Scalar.muli v3 c8_i32_232
  let c4_i32_233 : BitVec 32 := 4#32
  let v408 : BitVec 32 := Scalar.addi v407 c4_i32_233
  let c2_i32_234 : BitVec 32 := 2#32
  let v409 : BitVec 32 := Scalar.addi v408 c2_i32_234
  let c3_i32_251 : BitVec 32 := 3#32
  let v435 : BitVec 1 := Scalar.cmpi .sge v409 c3_i32_251
  let v436 : BitVec 32 := Scalar.extui v435
  let c0_i32_252 : BitVec 32 := 0#32
  let v437 : BitVec 1 := Scalar.cmpi .ne v436 c0_i32_252
  v437

def k1_off77 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_232 : BitVec 32 := 8#32
  let v407 : BitVec 32 := Scalar.muli v3 c8_i32_232
  let c4_i32_233 : BitVec 32 := 4#32
  let v408 : BitVec 32 := Scalar.addi v407 c4_i32_233
  let c2_i32_234 : BitVec 32 := 2#32
  let v409 : BitVec 32 := Scalar.addi v408 c2_i32_234
  let c3_i32_235 : BitVec 32 := 3#32
  let v410 : BitVec 32 := Scalar.remsi v409 c3_i32_235
  ![v410.toNat]
def k1_off78 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c2_i32_318 : BitVec 32 := 2#32
  let v548 : BitVec 32 := Scalar.addi v547 c2_i32_318
  let c1024_i32_319 : BitVec 32 := 1024#32
  let c0_i32_320 : BitVec 32 := 0#32
  ![arg0.toNat, v548.toNat, 1024, 0]
def k1_off79 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_232 : BitVec 32 := 8#32
  let v407 : BitVec 32 := Scalar.muli v3 c8_i32_232
  let c4_i32_233 : BitVec 32 := 4#32
  let v408 : BitVec 32 := Scalar.addi v407 c4_i32_233
  let c2_i32_234 : BitVec 32 := 2#32
  let v409 : BitVec 32 := Scalar.addi v408 c2_i32_234
  let c3_i32_235 : BitVec 32 := 3#32
  let v410 : BitVec 32 := Scalar.remsi v409 c3_i32_235
  let c0_i32_321 : BitVec 32 := 0#32
  let c0_i32_322 : BitVec 32 := 0#32
  ![v410.toNat, 0, 0]
def k1_cond21 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_269 : BitVec 32 := 8#32
  let v467 : BitVec 32 := Scalar.muli v3 c8_i32_269
  let c4_i32_270 : BitVec 32 := 4#32
  let v468 : BitVec 32 := Scalar.addi v467 c4_i32_270
  let c3_i32_271 : BitVec 32 := 3#32
  let v469 : BitVec 32 := Scalar.addi v468 c3_i32_271
  let c3_i32_288 : BitVec 32 := 3#32
  let v495 : BitVec 1 := Scalar.cmpi .sge v469 c3_i32_288
  let v496 : BitVec 32 := Scalar.extui v495
  let c0_i32_289 : BitVec 32 := 0#32
  let v497 : BitVec 1 := Scalar.cmpi .ne v496 c0_i32_289
  v497

def k1_off80 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_269 : BitVec 32 := 8#32
  let v467 : BitVec 32 := Scalar.muli v3 c8_i32_269
  let c4_i32_270 : BitVec 32 := 4#32
  let v468 : BitVec 32 := Scalar.addi v467 c4_i32_270
  let c3_i32_271 : BitVec 32 := 3#32
  let v469 : BitVec 32 := Scalar.addi v468 c3_i32_271
  let c3_i32_272 : BitVec 32 := 3#32
  let v470 : BitVec 32 := Scalar.remsi v469 c3_i32_272
  ![v470.toNat]
def k1_off81 (i : grid1.Coords) : Fin 4 → Nat :=
  let arg0 : BitVec 32 := BitVec.ofNat 32 (i 0).val
  let arg1 : BitVec 32 := BitVec.ofNat 32 (i 1).val
  let c4_i32_317 : BitVec 32 := 4#32
  let v547 : BitVec 32 := Scalar.muli arg1 c4_i32_317
  let c3_i32_318 : BitVec 32 := 3#32
  let v548 : BitVec 32 := Scalar.addi v547 c3_i32_318
  let c1024_i32_319 : BitVec 32 := 1024#32
  let c0_i32_320 : BitVec 32 := 0#32
  ![arg0.toNat, v548.toNat, 1024, 0]
def k1_off82 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c8_i32_269 : BitVec 32 := 8#32
  let v467 : BitVec 32 := Scalar.muli v3 c8_i32_269
  let c4_i32_270 : BitVec 32 := 4#32
  let v468 : BitVec 32 := Scalar.addi v467 c4_i32_270
  let c3_i32_271 : BitVec 32 := 3#32
  let v469 : BitVec 32 := Scalar.addi v468 c3_i32_271
  let c3_i32_272 : BitVec 32 := 3#32
  let v470 : BitVec 32 := Scalar.remsi v469 c3_i32_272
  let c0_i32_321 : BitVec 32 := 0#32
  let c0_i32_322 : BitVec 32 := 0#32
  ![v470.toNat, 0, 0]
def k1_cond22 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_306 : BitVec 32 := 2#32
  let v527 : BitVec 32 := Scalar.muli v3 c2_i32_306
  let c1_i32_307 : BitVec 32 := 1#32
  let v528 : BitVec 32 := Scalar.addi v527 c1_i32_307
  let c2_i32_309 : BitVec 32 := 2#32
  let v530 : BitVec 1 := Scalar.cmpi .sge v528 c2_i32_309
  let v531 : BitVec 32 := Scalar.extui v530
  let c0_i32_310 : BitVec 32 := 0#32
  let v532 : BitVec 1 := Scalar.cmpi .ne v531 c0_i32_310
  v532

def k1_off83 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_306 : BitVec 32 := 2#32
  let v527 : BitVec 32 := Scalar.muli v3 c2_i32_306
  let c1_i32_307 : BitVec 32 := 1#32
  let v528 : BitVec 32 := Scalar.addi v527 c1_i32_307
  let c2_i32_308 : BitVec 32 := 2#32
  let v529 : BitVec 32 := Scalar.remsi v528 c2_i32_308
  ![v529.toNat]
def k1_off84 (i : grid1.Coords) : Fin 3 → Nat :=
  let arg0 : BitVec 32 := BitVec.ofNat 32 (i 0).val
  let c1024_i32_318 : BitVec 32 := 1024#32
  let arg1 : BitVec 32 := BitVec.ofNat 32 (i 1).val
  let c256_i32_317 : BitVec 32 := 256#32
  let v547 : BitVec 32 := Scalar.muli arg1 c256_i32_317
  ![arg0.toNat, 1024, v547.toNat]
def k1_off85 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_306 : BitVec 32 := 2#32
  let v527 : BitVec 32 := Scalar.muli v3 c2_i32_306
  let c1_i32_307 : BitVec 32 := 1#32
  let v528 : BitVec 32 := Scalar.addi v527 c1_i32_307
  let c2_i32_308 : BitVec 32 := 2#32
  let v529 : BitVec 32 := Scalar.remsi v528 c2_i32_308
  let c0_i32_319 : BitVec 32 := 0#32
  let c0_i32_320 : BitVec 32 := 0#32
  ![v529.toNat, 0, 0]
def k1_off86 (i : grid1.Coords) : Fin 3 → Nat :=
  let arg0 : BitVec 32 := BitVec.ofNat 32 (i 0).val
  let c1024_i32_314 : BitVec 32 := 1024#32
  let arg1 : BitVec 32 := BitVec.ofNat 32 (i 1).val
  let c256_i32_313 : BitVec 32 := 256#32
  let v540 : BitVec 32 := Scalar.muli arg1 c256_i32_313
  ![arg0.toNat, 1024, v540.toNat]
def k1_cond23 (i : grid1.Coords) : BitVec 1 :=
  let arg0 : BitVec 32 := BitVec.ofNat 32 (i 0).val
  let c3_i32 : BitVec 32 := 3#32
  let v10 : BitVec 1 := Scalar.cmpi .eq arg0 c3_i32
  let arg1 : BitVec 32 := BitVec.ofNat 32 (i 1).val
  let c3_i32_2 : BitVec 32 := 3#32
  let v11 : BitVec 1 := Scalar.cmpi .eq arg1 c3_i32_2
  let v12 : BitVec 1 := Scalar.andi v10 v11
  let arg2 : BitVec 32 := BitVec.ofNat 32 (i 2).val
  let c1_i32_3 : BitVec 32 := 1#32
  let v13 : BitVec 1 := Scalar.cmpi .eq arg2 c1_i32_3
  let v14 : BitVec 1 := Scalar.andi v12 v13
  let v15 : BitVec 32 := Scalar.extui v14
  let c0_i32_4 : BitVec 32 := 0#32
  let v16 : BitVec 1 := Scalar.cmpi .ne v15 c0_i32_4
  v16

def k1_off87 (i : grid1.Coords) : Fin 4 → Nat :=
  let arg0 : BitVec 32 := BitVec.ofNat 32 (i 0).val
  let arg1 : BitVec 32 := BitVec.ofNat 32 (i 1).val
  let c4_i32_5 : BitVec 32 := 4#32
  let v17 : BitVec 32 := Scalar.muli arg1 c4_i32_5
  let c0_i32_6 : BitVec 32 := 0#32
  let v18 : BitVec 32 := Scalar.addi v17 c0_i32_6
  let c0_i32_9 : BitVec 32 := 0#32
  let c0_i32_10 : BitVec 32 := 0#32
  ![arg0.toNat, v18.toNat, 0, 0]
def k1_off88 (i : grid1.Coords) : Fin 3 → Nat :=
  let arg0 : BitVec 32 := BitVec.ofNat 32 (i 0).val
  let c0_i32_31 : BitVec 32 := 0#32
  let arg1 : BitVec 32 := BitVec.ofNat 32 (i 1).val
  let c256_i32 : BitVec 32 := 256#32
  let v41 : BitVec 32 := Scalar.muli arg1 c256_i32
  ![arg0.toNat, 0, v41.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S1024x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x16x64, .f32⟩
  | .hbm, ⟨27, _⟩ => ⟨S4x16x2048x64, .f32⟩
  | .hbm, ⟨28, _⟩ => ⟨S1024x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x16x64, .f32⟩
  | .hbm, ⟨34, _⟩ => ⟨S4x16x2048x64, .f32⟩
  | .hbm, ⟨35, _⟩ => ⟨S4x16x2048x2048, .f32⟩
  | .hbm, ⟨36, _⟩ => ⟨S_, .f32⟩
  | .hbm, ⟨37, _⟩ => ⟨S4x16x2048x2048, .f32⟩
  | .hbm, ⟨38, _⟩ => ⟨S4x16x2048x2048, .f32⟩
  | .hbm, ⟨39, _⟩ => ⟨S4x1x2048x2048, .i1⟩
  | .hbm, ⟨40, _⟩ => ⟨S_, .f32⟩
  | .hbm, ⟨41, _⟩ => ⟨S_, .f32⟩
  | .hbm, ⟨42, _⟩ => ⟨S4x16x2048x2048, .i1⟩
  | .hbm, ⟨43, _⟩ => ⟨S4x16x2048x2048, .f32⟩
  | .hbm, ⟨44, _⟩ => ⟨S4x16x2048x2048, .f32⟩
  | .hbm, ⟨45, _⟩ => ⟨S_, .f32⟩
  | .hbm, ⟨46, _⟩ => ⟨S4x16x2048, .f32⟩
  | .hbm, ⟨47, _⟩ => ⟨S_, .f32⟩
  | .hbm, ⟨48, _⟩ => ⟨S4x16x2048, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x16x2048x2048, .f32⟩
  | .hbm, ⟨54, _⟩ => ⟨S_, .f32⟩
  | .hbm, ⟨55, _⟩ => ⟨S4x16x2048, .f32⟩
  | .hbm, ⟨56, _⟩ => ⟨S4x16x2048x1, .f32⟩
  | .hbm, ⟨57, _⟩ => ⟨S4x16x2048x2048, .f32⟩
  | .hbm, ⟨58, _⟩ => ⟨S4x16x2048x2048, .f32⟩
  | .hbm, ⟨59, _⟩ => ⟨S4x16x2048x64, .f32⟩
  | .hbm, ⟨60, _⟩ => ⟨S4x2048x16x64, .f32⟩
  | .hbm, ⟨61, _⟩ => ⟨S4x2048x1024, .f32⟩
  | .hbm, ⟨62, _⟩ => ⟨S1024x1024, .f32⟩
  | .hbm, ⟨63, _⟩ => ⟨S4x2048x1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S4x2048, .f32⟩
  | .hbm, ⟨79, _⟩ => ⟨S4x2048x1, .f32⟩
  | .hbm, ⟨80, _⟩ => ⟨S_, .f32⟩
  | .hbm, ⟨81, _⟩ => ⟨S4x2048x1, .f32⟩
  | .hbm, ⟨82, _⟩ => ⟨S4x2048x1, .f32⟩
  | .hbm, ⟨83, _⟩ => ⟨S4x2048x1024, .f32⟩
  | .hbm, ⟨84, _⟩ => ⟨S4x2048x1024, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S4x2048x1, .f32⟩
  | .hbm, ⟨89, _⟩ => ⟨S4x2048x1024, .f32⟩
  | .hbm, ⟨90, _⟩ => ⟨S4x2048x1024, .f32⟩
  | .hbm, ⟨91, _⟩ => ⟨S1x1x1024, .f32⟩
  | .hbm, ⟨92, _⟩ => ⟨S4x2048x1024, .f32⟩
  | .hbm, ⟨93, _⟩ => ⟨S4x2048x1024, .f32⟩
  | .hbm, ⟨94, _⟩ => ⟨S1x1x1024, .f32⟩
  | .hbm, ⟨95, _⟩ => ⟨S4x2048x1024, .f32⟩
  | .hbm, ⟨96, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Proof.IAttnNames.lean ====
/-
  The names the attention kernel's body moves its memory by.

  The body stages one score block per head in a ring of three slots and one context block per band in a ring of
  two, and sends each block to its place in the result by a transfer of its own.  This module names the slots
  (`rslot`, `cslot`), their semaphores (`csm`, `ccsm`), and the blocks of the two results (`pc`, `cpc`) in the
  order in which they are sent, and states that the offsets the kernel computes are the offsets of these names.
  Each statement is decided over the thirty-two grid points.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Ring
public import Idealize.ShloMosaic.Lib.Tactic

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI

/-- The number of the grid point in the order of execution. -/
def stp (i : grid1.Coords) : ℕ := ((i 0).val * 4 + (i 1).val) * 2 + (i 2).val
/-- The number of the first of the two grid points with these outer coordinates. -/
def hbs (i : grid1.Coords) : ℕ := ((i 0).val * 4 + (i 1).val) * 2
/-- The slot of the `j`-th score block of step `s`. -/
def sn (s j : ℕ) : Fin 3 := ⟨(8 * s + j) % 3, Nat.mod_lt _ (by decide)⟩
/-- The number of the `j`-th score block of step `s` among the 256. -/
def gi (s j : ℕ) : Fin 256 := ⟨(8 * s + j) % 256, Nat.mod_lt _ (by decide)⟩
/-- The number of the `j`-th context block of step `s` among the 64. -/
def ci (s j : ℕ) : Fin 64 := ⟨(2 * s + j) % 64, Nat.mod_lt _ (by decide)⟩

abbrev attM : Memref sig .tc .hbm S4x16x2048x2048 .f32 := Memref.whole main_v13_0
abbrev ctxM : Memref sig .tc .hbm S4x2048x1024 .bf16 := Memref.whole main_v13_1
abbrev stgM : Memref sig .tc .vmem S3x512x2048 .f32 := Memref.whole cc1_scratch0
abbrev cstM : Memref sig .tc .vmem S2x512x256 .bf16 := Memref.whole cc1_scratch1

/-- Where score block `g` lies in the result: batch, head, first row, first column. -/
def pcOff (g : Fin 256) : Fin 4 → ℕ :=
  ![g.val / 64, 4 * (g.val / 16 % 4) + g.val % 4, 512 * (if g.val / 4 % 2 = 0 then g.val / 8 % 2 else 3 - g.val / 8 % 2), 0]
theorem pcOff_inb : ∀ (g : Fin 256) (a : Fin 4), pcOff g a + S1x1x512x2048.size a ≤ S4x16x2048x2048.size a := by decide +kernel
/-- Where context block `g` lies in the result: batch, first row, first column. -/
def cpcOff (g : Fin 64) : Fin 3 → ℕ :=
  ![g.val / 16, 512 * (if g.val % 2 = 0 then g.val / 2 % 2 else 3 - g.val / 2 % 2), 256 * (g.val / 4 % 4)]
theorem cpcOff_inb : ∀ (g : Fin 64) (a : Fin 3), cpcOff g a + S1x512x256.size a ≤ S4x2048x1024.size a := by decide +kernel
abbrev slotOff (s : Fin 3) : Fin 3 → ℕ := ![s.val, 0, 0]
theorem slotOff_inb : ∀ (s : Fin 3) (a : Fin 3), slotOff s a + S1x512x2048.size a ≤ S3x512x2048.size a := by decide +kernel
abbrev cslotOff (s : Fin 2) : Fin 3 → ℕ := ![s.val, 0, 0]
theorem cslotOff_inb : ∀ (s : Fin 2) (a : Fin 3), cslotOff s a + S1x512x256.size a ≤ S2x512x256.size a := by decide +kernel
abbrev semOff (s : Fin 3) : Fin 1 → ℕ := ![s.val]
theorem semOff_inb : ∀ (s : Fin 3) (a : Fin 1), semOff s a + S1.size a ≤ S3.size a := by decide +kernel
abbrev csemOff (s : Fin 2) : Fin 1 → ℕ := ![s.val]
theorem csemOff_inb : ∀ (s : Fin 2) (a : Fin 1), csemOff s a + S1.size a ≤ S2.size a := by decide +kernel

/-- Score block `g` of the result. -/
def pc (g : Fin 256) : Memref sig .tc .hbm S512x2048 .f32 :=
  (attM.slice (Rect.unit (s := S4x16x2048x2048) (pcOff g) S1x1x512x2048.size (pcOff_inb g)) (fun _ => rfl)).squeeze S512x2048 squeezes_S1x1x512x2048_S512x2048
/-- Context block `g` of the result. -/
def cpc (g : Fin 64) : Memref sig .tc .hbm S512x256 .bf16 :=
  (ctxM.slice (Rect.unit (s := S4x2048x1024) (cpcOff g) S1x512x256.size (cpcOff_inb g)) (fun _ => rfl)).squeeze S512x256 squeezes_S1x512x256_S512x256
/-- Slot `s` of the score ring. -/
def rslot (s : Fin 3) : Memref sig .tc .vmem S512x2048 .f32 :=
  (stgM.slice (Rect.unit (s := S3x512x2048) (slotOff s) S1x512x2048.size (slotOff_inb s)) (fun _ => rfl)).squeeze S512x2048 squeezes_S1x512x2048_S512x2048
/-- Slot `s` of the context ring. -/
def cslot (s : Fin 2) : Memref sig .tc .vmem S512x256 .bf16 :=
  (cstM.slice (Rect.unit (s := S2x512x256) (cslotOff s) S1x512x256.size (cslotOff_inb s)) (fun _ => rfl)).squeeze S512x256 squeezes_S1x512x256_S512x256
/-- The semaphore of slot `s` of the score ring. -/
def csm (s : Fin 3) : DmaSems sig S_ := (cc1_scratch2.slice (Rect.unit (s := S3) (semOff s) S1.size (semOff_inb s))).squeeze S_ squeezes_S1_S_
/-- The semaphore of slot `s` of the context ring. -/
def ccsm (s : Fin 2) : DmaSems sig S_ := (cc1_scratch3.slice (Rect.unit (s := S2) (csemOff s) S1.size (csemOff_inb s))).squeeze S_ squeezes_S1_S_

instance (s : Fin 3) : ClosedOff (slotOff s) := ⟨slotOff s, rfl⟩
instance (s : Fin 2) : ClosedOff (cslotOff s) := ⟨cslotOff s, rfl⟩

private theorem csm_congr {o : Fin 1 → ℕ} {s : Fin 3} (e : o = semOff s) (hh) : (cc1_scratch2.slice (Rect.unit (s := S3) o S1.size hh)).squeeze S_ squeezes_S1_S_ = csm s :=
  congrArg (fun M : DmaSems sig S1 => M.squeeze S_ squeezes_S1_S_) (SemArray.slice_unit_congr _ e _ _)
private theorem ccsm_congr {o : Fin 1 → ℕ} {s : Fin 2} (e : o = csemOff s) (hh) : (cc1_scratch3.slice (Rect.unit (s := S2) o S1.size hh)).squeeze S_ squeezes_S1_S_ = ccsm s :=
  congrArg (fun M : DmaSems sig S1 => M.squeeze S_ squeezes_S1_S_) (SemArray.slice_unit_congr _ e _ _)
private theorem rslot_congr {o : Fin 3 → ℕ} {s : Fin 3} (e : o = slotOff s) (hh hs) : (stgM.slice (Rect.unit (s := S3x512x2048) o S1x512x2048.size hh) hs).squeeze S512x2048 squeezes_S1x512x2048_S512x2048 = rslot s :=
  congrArg (fun M : Memref sig .tc .vmem S1x512x2048 .f32 => M.squeeze S512x2048 squeezes_S1x512x2048_S512x2048) (Memref.slice_unit_congr _ e _ _ _ _)
private theorem cslot_congr {o : Fin 3 → ℕ} {s : Fin 2} (e : o = cslotOff s) (hh hs) : (cstM.slice (Rect.unit (s := S2x512x256) o S1x512x256.size hh) hs).squeeze S512x256 squeezes_S1x512x256_S512x256 = cslot s :=
  congrArg (fun M : Memref sig .tc .vmem S1x512x256 .bf16 => M.squeeze S512x256 squeezes_S1x512x256_S512x256) (Memref.slice_unit_congr _ e _ _ _ _)
private theorem pc_congr {o : Fin 4 → ℕ} {g : Fin 256} (e : o = pcOff g) (hh hs) : (attM.slice (Rect.unit (s := S4x16x2048x2048) o S1x1x512x2048.size hh) hs).squeeze S512x2048 squeezes_S1x1x512x2048_S512x2048 = pc g :=
  congrArg (fun M : Memref sig .tc .hbm S1x1x512x2048 .f32 => M.squeeze S512x2048 squeezes_S1x1x512x2048_S512x2048) (Memref.slice_unit_congr _ e _ _ _ _)
private theorem cpc_congr {o : Fin 3 → ℕ} {g : Fin 64} (e : o = cpcOff g) (hh hs) : (ctxM.slice (Rect.unit (s := S4x2048x1024) o S1x512x256.size hh) hs).squeeze S512x256 squeezes_S1x512x256_S512x256 = cpc g :=
  congrArg (fun M : Memref sig .tc .hbm S1x512x256 .bf16 => M.squeeze S512x256 squeezes_S1x512x256_S512x256) (Memref.slice_unit_congr _ e _ _ _ _)

/-! ### The literal names of the last step -/

@[sl_canon] theorem csm_lit0 (hh) : (cc1_scratch2.slice (Rect.unit (s := S3) ![0] S1.size hh)).squeeze S_ squeezes_S1_S_ = csm 0 := csm_congr (by decide) _
@[sl_canon] theorem csm_lit1 (hh) : (cc1_scratch2.slice (Rect.unit (s := S3) ![1] S1.size hh)).squeeze S_ squeezes_S1_S_ = csm 1 := csm_congr (by decide) _
@[sl_canon] theorem csm_lit2 (hh) : (cc1_scratch2.slice (Rect.unit (s := S3) ![2] S1.size hh)).squeeze S_ squeezes_S1_S_ = csm 2 := csm_congr (by decide) _
@[sl_canon] theorem ccsm_lit0 (hh) : (cc1_scratch3.slice (Rect.unit (s := S2) ![0] S1.size hh)).squeeze S_ squeezes_S1_S_ = ccsm 0 := ccsm_congr (by decide) _
@[sl_canon] theorem ccsm_lit1 (hh) : (cc1_scratch3.slice (Rect.unit (s := S2) ![1] S1.size hh)).squeeze S_ squeezes_S1_S_ = ccsm 1 := ccsm_congr (by decide) _

/-! ### The offsets computed at inner coordinate 0 -/

theorem off1_eq : ∀ i : grid1.Coords, k1_off1 i = semOff (sn (stp i) 0) := by decide +kernel
@[sl_canon] theorem csm_1 (i : grid1.Coords) (hh) : (cc1_scratch2.slice (Rect.unit (s := S3) (k1_off1 i) S1.size hh)).squeeze S_ squeezes_S1_S_ = csm (sn (stp i) 0) := csm_congr (off1_eq i) _
theorem off11_eq : ∀ i : grid1.Coords, k1_off11 i = semOff (sn (stp i) 1) := by decide +kernel
@[sl_canon] theorem csm_11 (i : grid1.Coords) (hh) : (cc1_scratch2.slice (Rect.unit (s := S3) (k1_off11 i) S1.size hh)).squeeze S_ squeezes_S1_S_ = csm (sn (stp i) 1) := csm_congr (off11_eq i) _
theorem off14_eq : ∀ i : grid1.Coords, k1_off14 i = semOff (sn (stp i) 2) := by decide +kernel
@[sl_canon] theorem csm_14 (i : grid1.Coords) (hh) : (cc1_scratch2.slice (Rect.unit (s := S3) (k1_off14 i) S1.size hh)).squeeze S_ squeezes_S1_S_ = csm (sn (stp i) 2) := csm_congr (off14_eq i) _
theorem off17_eq : ∀ i : grid1.Coords, k1_off17 i = semOff (sn (stp i) 0) := by decide +kernel
@[sl_canon] theorem csm_17 (i : grid1.Coords) (hh) : (cc1_scratch2.slice (Rect.unit (s := S3) (k1_off17 i) S1.size hh)).squeeze S_ squeezes_S1_S_ = csm (sn (stp i) 0) := csm_congr (off17_eq i) _
theorem off27_eq : ∀ i : grid1.Coords, k1_off27 i = semOff (sn (stp i) 1) := by decide +kernel
@[sl_canon] theorem csm_27 (i : grid1.Coords) (hh) : (cc1_scratch2.slice (Rect.unit (s := S3) (k1_off27 i) S1.size hh)).squeeze S_ squeezes_S1_S_ = csm (sn (stp i) 1) := csm_congr (off27_eq i) _
theorem off31_eq : ∀ i : grid1.Coords, k1_off31 i = semOff (sn (stp i) 2) := by decide +kernel
@[sl_canon] theorem csm_31 (i : grid1.Coords) (hh) : (cc1_scratch2.slice (Rect.unit (s := S3) (k1_off31 i) S1.size hh)).squeeze S_ squeezes_S1_S_ = csm (sn (stp i) 2) := csm_congr (off31_eq i) _
theorem off34_eq : ∀ i : grid1.Coords, k1_off34 i = semOff (sn (stp i) 0) := by decide +kernel
@[sl_canon] theorem csm_34 (i : grid1.Coords) (hh) : (cc1_scratch2.slice (Rect.unit (s := S3) (k1_off34 i) S1.size hh)).squeeze S_ squeezes_S1_S_ = csm (sn (stp i) 0) := csm_congr (off34_eq i) _
theorem off37_eq : ∀ i : grid1.Coords, k1_off37 i = semOff (sn (stp i) 1) := by decide +kernel
@[sl_canon] theorem csm_37 (i : grid1.Coords) (hh) : (cc1_scratch2.slice (Rect.unit (s := S3) (k1_off37 i) S1.size hh)).squeeze S_ squeezes_S1_S_ = csm (sn (stp i) 1) := csm_congr (off37_eq i) _
theorem off8_eq : ∀ (i : grid1.Coords) (b : Fin 2) (h : Fin 4), k1_off8 i (BitVec.ofNat 32 (4 * b.val)) (BitVec.ofNat 32 h.val) = semOff (sn (stp i) ((4 * b.val + h.val) % 3)) := by decide +kernel
theorem off10_eq : ∀ (i : grid1.Coords) (b : Fin 2) (h : Fin 4), k1_off10 i (BitVec.ofNat 32 (4 * b.val)) (BitVec.ofNat 32 h.val) = slotOff (sn (stp i) ((4 * b.val + h.val) % 3)) := by decide +kernel
theorem off9_eq : ∀ (i : grid1.Coords) (h : Fin 4), k1_off9 i (BitVec.ofNat 32 h.val) = pcOff (gi (hbs i) (0 + h.val)) := by decide +kernel
theorem off30_eq : ∀ (i : grid1.Coords) (h : Fin 4), k1_off30 i (BitVec.ofNat 32 h.val) = pcOff (gi (hbs i) (4 + h.val)) := by decide +kernel
theorem off4_eq : ∀ (i : grid1.Coords) (b : Fin 2) (h : Fin 4), k1_off4 i (BitVec.ofNat 32 (4 * b.val)) (BitVec.ofNat 32 h.val) = ![(sn (stp i) ((4 * b.val + h.val) % 3)).val, 0, 0] := by decide +kernel
theorem off5_eq : ∀ (i : grid1.Coords) (b : Fin 2) (h : Fin 4), k1_off5 i (BitVec.ofNat 32 (4 * b.val)) (BitVec.ofNat 32 h.val) = ![(sn (stp i) ((4 * b.val + h.val) % 3)).val, 0, 512] := by decide +kernel
theorem off6_eq : ∀ (i : grid1.Coords) (b : Fin 2) (h : Fin 4), k1_off6 i (BitVec.ofNat 32 (4 * b.val)) (BitVec.ofNat 32 h.val) = ![(sn (stp i) ((4 * b.val + h.val) % 3)).val, 0, 1024] := by decide +kernel
theorem off7_eq : ∀ (i : grid1.Coords) (b : Fin 2) (h : Fin 4), k1_off7 i (BitVec.ofNat 32 (4 * b.val)) (BitVec.ofNat 32 h.val) = ![(sn (stp i) ((4 * b.val + h.val) % 3)).val, 0, 1536] := by decide +kernel
@[sl_canon] theorem csm_8_00 (i : grid1.Coords) (hh) : (cc1_scratch2.slice (Rect.unit (s := S3) (k1_off8 i 0#32 0#32) S1.size hh)).squeeze S_ squeezes_S1_S_ = csm (sn (stp i) 0) := csm_congr (off8_eq i 0 0) _
@[sl_canon] theorem rslot_10_00 (i : grid1.Coords) (hh hs) : (stgM.slice (Rect.unit (s := S3x512x2048) (k1_off10 i 0#32 0#32) S1x512x2048.size hh) hs).squeeze S512x2048 squeezes_S1x512x2048_S512x2048 = rslot (sn (stp i) 0) := rslot_congr (off10_eq i 0 0) _ _
@[sl_canon] theorem pc_9_0 (i : grid1.Coords) (hh hs) : (attM.slice (Rect.unit (s := S4x16x2048x2048) (k1_off9 i 0#32) S1x1x512x2048.size hh) hs).squeeze S512x2048 squeezes_S1x1x512x2048_S512x2048 = pc (gi (hbs i) 0) := pc_congr (off9_eq i 0) _ _
instance (i : grid1.Coords) : ClosedOff (k1_off4 i 0#32 0#32) := ⟨![(sn (stp i) 0).val, 0, 0], off4_eq i 0 0⟩
instance (i : grid1.Coords) : ClosedOff (k1_off5 i 0#32 0#32) := ⟨![(sn (stp i) 0).val, 0, 512], off5_eq i 0 0⟩
instance (i : grid1.Coords) : ClosedOff (k1_off6 i 0#32 0#32) := ⟨![(sn (stp i) 0).val, 0, 1024], off6_eq i 0 0⟩
instance (i : grid1.Coords) : ClosedOff (k1_off7 i 0#32 0#32) := ⟨![(sn (stp i) 0).val, 0, 1536], off7_eq i 0 0⟩
@[sl_canon] theorem csm_8_01 (i : grid1.Coords) (hh) : (cc1_scratch2.slice (Rect.unit (s := S3) (k1_off8 i 0#32 1#32) S1.size hh)).squeeze S_ squeezes_S1_S_ = csm (sn (stp i) 1) := csm_congr (off8_eq i 0 1) _
@[sl_canon] theorem rslot_10_01 (i : grid1.Coords) (hh hs) : (stgM.slice (Rect.unit (s := S3x512x2048) (k1_off10 i 0#32 1#32) S1x512x2048.size hh) hs).squeeze S512x2048 squeezes_S1x512x2048_S512x2048 = rslot (sn (stp i) 1) := rslot_congr (off10_eq i 0 1) _ _
@[sl_canon] theorem pc_9_1 (i : grid1.Coords) (hh hs) : (attM.slice (Rect.unit (s := S4x16x2048x2048) (k1_off9 i 1#32) S1x1x512x2048.size hh) hs).squeeze S512x2048 squeezes_S1x1x512x2048_S512x2048 = pc (gi (hbs i) 1) := pc_congr (off9_eq i 1) _ _
instance (i : grid1.Coords) : ClosedOff (k1_off4 i 0#32 1#32) := ⟨![(sn (stp i) 1).val, 0, 0], off4_eq i 0 1⟩
instance (i : grid1.Coords) : ClosedOff (k1_off5 i 0#32 1#32) := ⟨![(sn (stp i) 1).val, 0, 512], off5_eq i 0 1⟩
instance (i : grid1.Coords) : ClosedOff (k1_off6 i 0#32 1#32) := ⟨![(sn (stp i) 1).val, 0, 1024], off6_eq i 0 1⟩
instance (i : grid1.Coords) : ClosedOff (k1_off7 i 0#32 1#32) := ⟨![(sn (stp i) 1).val, 0, 1536], off7_eq i 0 1⟩
@[sl_canon] theorem csm_8_02 (i : grid1.Coords) (hh) : (cc1_scratch2.slice (Rect.unit (s := S3) (k1_off8 i 0#32 2#32) S1.size hh)).squeeze S_ squeezes_S1_S_ = csm (sn (stp i) 2) := csm_congr (off8_eq i 0 2) _
@[sl_canon] theorem rslot_10_02 (i : grid1.Coords) (hh hs) : (stgM.slice (Rect.unit (s := S3x512x2048) (k1_off10 i 0#32 2#32) S1x512x2048.size hh) hs).squeeze S512x2048 squeezes_S1x512x2048_S512x2048 = rslot (sn (stp i) 2) := rslot_congr (off10_eq i 0 2) _ _
@[sl_canon] theorem pc_9_2 (i : grid1.Coords) (hh hs) : (attM.slice (Rect.unit (s := S4x16x2048x2048) (k1_off9 i 2#32) S1x1x512x2048.size hh) hs).squeeze S512x2048 squeezes_S1x1x512x2048_S512x2048 = pc (gi (hbs i) 2) := pc_congr (off9_eq i 2) _ _
instance (i : grid1.Coords) : ClosedOff (k1_off4 i 0#32 2#32) := ⟨![(sn (stp i) 2).val, 0, 0], off4_eq i 0 2⟩
instance (i : grid1.Coords) : ClosedOff (k1_off5 i 0#32 2#32) := ⟨![(sn (stp i) 2).val, 0, 512], off5_eq i 0 2⟩
instance (i : grid1.Coords) : ClosedOff (k1_off6 i 0#32 2#32) := ⟨![(sn (stp i) 2).val, 0, 1024], off6_eq i 0 2⟩
instance (i : grid1.Coords) : ClosedOff (k1_off7 i 0#32 2#32) := ⟨![(sn (stp i) 2).val, 0, 1536], off7_eq i 0 2⟩
@[sl_canon] theorem csm_8_03 (i : grid1.Coords) (hh) : (cc1_scratch2.slice (Rect.unit (s := S3) (k1_off8 i 0#32 3#32) S1.size hh)).squeeze S_ squeezes_S1_S_ = csm (sn (stp i) 0) := csm_congr (off8_eq i 0 3) _
@[sl_canon] theorem rslot_10_03 (i : grid1.Coords) (hh hs) : (stgM.slice (Rect.unit (s := S3x512x2048) (k1_off10 i 0#32 3#32) S1x512x2048.size hh) hs).squeeze S512x2048 squeezes_S1x512x2048_S512x2048 = rslot (sn (stp i) 0) := rslot_congr (off10_eq i 0 3) _ _
@[sl_canon] theorem pc_9_3 (i : grid1.Coords) (hh hs) : (attM.slice (Rect.unit (s := S4x16x2048x2048) (k1_off9 i 3#32) S1x1x512x2048.size hh) hs).squeeze S512x2048 squeezes_S1x1x512x2048_S512x2048 = pc (gi (hbs i) 3) := pc_congr (off9_eq i 3) _ _
instance (i : grid1.Coords) : ClosedOff (k1_off4 i 0#32 3#32) := ⟨![(sn (stp i) 0).val, 0, 0], off4_eq i 0 3⟩
instance (i : grid1.Coords) : ClosedOff (k1_off5 i 0#32 3#32) := ⟨![(sn (stp i) 0).val, 0, 512], off5_eq i 0 3⟩
instance (i : grid1.Coords) : ClosedOff (k1_off6 i 0#32 3#32) := ⟨![(sn (stp i) 0).val, 0, 1024], off6_eq i 0 3⟩
instance (i : grid1.Coords) : ClosedOff (k1_off7 i 0#32 3#32) := ⟨![(sn (stp i) 0).val, 0, 1536], off7_eq i 0 3⟩
@[sl_canon] theorem csm_8_10 (i : grid1.Coords) (hh) : (cc1_scratch2.slice (Rect.unit (s := S3) (k1_off8 i 4#32 0#32) S1.size hh)).squeeze S_ squeezes_S1_S_ = csm (sn (stp i) 1) := csm_congr (off8_eq i 1 0) _
@[sl_canon] theorem rslot_10_10 (i : grid1.Coords) (hh hs) : (stgM.slice (Rect.unit (s := S3x512x2048) (k1_off10 i 4#32 0#32) S1x512x2048.size hh) hs).squeeze S512x2048 squeezes_S1x512x2048_S512x2048 = rslot (sn (stp i) 1) := rslot_congr (off10_eq i 1 0) _ _
@[sl_canon] theorem pc_30_0 (i : grid1.Coords) (hh hs) : (attM.slice (Rect.unit (s := S4x16x2048x2048) (k1_off30 i 0#32) S1x1x512x2048.size hh) hs).squeeze S512x2048 squeezes_S1x1x512x2048_S512x2048 = pc (gi (hbs i) 4) := pc_congr (off30_eq i 0) _ _
instance (i : grid1.Coords) : ClosedOff (k1_off4 i 4#32 0#32) := ⟨![(sn (stp i) 1).val, 0, 0], off4_eq i 1 0⟩
instance (i : grid1.Coords) : ClosedOff (k1_off5 i 4#32 0#32) := ⟨![(sn (stp i) 1).val, 0, 512], off5_eq i 1 0⟩
instance (i : grid1.Coords) : ClosedOff (k1_off6 i 4#32 0#32) := ⟨![(sn (stp i) 1).val, 0, 1024], off6_eq i 1 0⟩
instance (i : grid1.Coords) : ClosedOff (k1_off7 i 4#32 0#32) := ⟨![(sn (stp i) 1).val, 0, 1536], off7_eq i 1 0⟩
@[sl_canon] theorem csm_8_11 (i : grid1.Coords) (hh) : (cc1_scratch2.slice (Rect.unit (s := S3) (k1_off8 i 4#32 1#32) S1.size hh)).squeeze S_ squeezes_S1_S_ = csm (sn (stp i) 2) := csm_congr (off8_eq i 1 1) _
@[sl_canon] theorem rslot_10_11 (i : grid1.Coords) (hh hs) : (stgM.slice (Rect.unit (s := S3x512x2048) (k1_off10 i 4#32 1#32) S1x512x2048.size hh) hs).squeeze S512x2048 squeezes_S1x512x2048_S512x2048 = rslot (sn (stp i) 2) := rslot_congr (off10_eq i 1 1) _ _
@[sl_canon] theorem pc_30_1 (i : grid1.Coords) (hh hs) : (attM.slice (Rect.unit (s := S4x16x2048x2048) (k1_off30 i 1#32) S1x1x512x2048.size hh) hs).squeeze S512x2048 squeezes_S1x1x512x2048_S512x2048 = pc (gi (hbs i) 5) := pc_congr (off30_eq i 1) _ _
instance (i : grid1.Coords) : ClosedOff (k1_off4 i 4#32 1#32) := ⟨![(sn (stp i) 2).val, 0, 0], off4_eq i 1 1⟩
instance (i : grid1.Coords) : ClosedOff (k1_off5 i 4#32 1#32) := ⟨![(sn (stp i) 2).val, 0, 512], off5_eq i 1 1⟩
instance (i : grid1.Coords) : ClosedOff (k1_off6 i 4#32 1#32) := ⟨![(sn (stp i) 2).val, 0, 1024], off6_eq i 1 1⟩
instance (i : grid1.Coords) : ClosedOff (k1_off7 i 4#32 1#32) := ⟨![(sn (stp i) 2).val, 0, 1536], off7_eq i 1 1⟩
@[sl_canon] theorem csm_8_12 (i : grid1.Coords) (hh) : (cc1_scratch2.slice (Rect.unit (s := S3) (k1_off8 i 4#32 2#32) S1.size hh)).squeeze S_ squeezes_S1_S_ = csm (sn (stp i) 0) := csm_congr (off8_eq i 1 2) _
@[sl_canon] theorem rslot_10_12 (i : grid1.Coords) (hh hs) : (stgM.slice (Rect.unit (s := S3x512x2048) (k1_off10 i 4#32 2#32) S1x512x2048.size hh) hs).squeeze S512x2048 squeezes_S1x512x2048_S512x2048 = rslot (sn (stp i) 0) := rslot_congr (off10_eq i 1 2) _ _
@[sl_canon] theorem pc_30_2 (i : grid1.Coords) (hh hs) : (attM.slice (Rect.unit (s := S4x16x2048x2048) (k1_off30 i 2#32) S1x1x512x2048.size hh) hs).squeeze S512x2048 squeezes_S1x1x512x2048_S512x2048 = pc (gi (hbs i) 6) := pc_congr (off30_eq i 2) _ _
instance (i : grid1.Coords) : ClosedOff (k1_off4 i 4#32 2#32) := ⟨![(sn (stp i) 0).val, 0, 0], off4_eq i 1 2⟩
instance (i : grid1.Coords) : ClosedOff (k1_off5 i 4#32 2#32) := ⟨![(sn (stp i) 0).val, 0, 512], off5_eq i 1 2⟩
instance (i : grid1.Coords) : ClosedOff (k1_off6 i 4#32 2#32) := ⟨![(sn (stp i) 0).val, 0, 1024], off6_eq i 1 2⟩
instance (i : grid1.Coords) : ClosedOff (k1_off7 i 4#32 2#32) := ⟨![(sn (stp i) 0).val, 0, 1536], off7_eq i 1 2⟩
@[sl_canon] theorem csm_8_13 (i : grid1.Coords) (hh) : (cc1_scratch2.slice (Rect.unit (s := S3) (k1_off8 i 4#32 3#32) S1.size hh)).squeeze S_ squeezes_S1_S_ = csm (sn (stp i) 1) := csm_congr (off8_eq i 1 3) _
@[sl_canon] theorem rslot_10_13 (i : grid1.Coords) (hh hs) : (stgM.slice (Rect.unit (s := S3x512x2048) (k1_off10 i 4#32 3#32) S1x512x2048.size hh) hs).squeeze S512x2048 squeezes_S1x512x2048_S512x2048 = rslot (sn (stp i) 1) := rslot_congr (off10_eq i 1 3) _ _
@[sl_canon] theorem pc_30_3 (i : grid1.Coords) (hh hs) : (attM.slice (Rect.unit (s := S4x16x2048x2048) (k1_off30 i 3#32) S1x1x512x2048.size hh) hs).squeeze S512x2048 squeezes_S1x1x512x2048_S512x2048 = pc (gi (hbs i) 7) := pc_congr (off30_eq i 3) _ _
instance (i : grid1.Coords) : ClosedOff (k1_off4 i 4#32 3#32) := ⟨![(sn (stp i) 1).val, 0, 0], off4_eq i 1 3⟩
instance (i : grid1.Coords) : ClosedOff (k1_off5 i 4#32 3#32) := ⟨![(sn (stp i) 1).val, 0, 512], off5_eq i 1 3⟩
instance (i : grid1.Coords) : ClosedOff (k1_off6 i 4#32 3#32) := ⟨![(sn (stp i) 1).val, 0, 1024], off6_eq i 1 3⟩
instance (i : grid1.Coords) : ClosedOff (k1_off7 i 4#32 3#32) := ⟨![(sn (stp i) 1).val, 0, 1536], off7_eq i 1 3⟩
theorem off20_eq : ∀ i : grid1.Coords, k1_off20 i = csemOff 0 := by decide +kernel
@[sl_canon] theorem ccsm_20 (i : grid1.Coords) (hh) : (cc1_scratch3.slice (Rect.unit (s := S2) (k1_off20 i) S1.size hh)).squeeze S_ squeezes_S1_S_ = ccsm 0 := ccsm_congr (off20_eq i) _
theorem off40_eq : ∀ i : grid1.Coords, k1_off40 i = csemOff 1 := by decide +kernel
@[sl_canon] theorem ccsm_40 (i : grid1.Coords) (hh) : (cc1_scratch3.slice (Rect.unit (s := S2) (k1_off40 i) S1.size hh)).squeeze S_ squeezes_S1_S_ = ccsm 1 := ccsm_congr (off40_eq i) _
theorem off24_eq : ∀ (i : grid1.Coords) (b : Fin 2), k1_off24 i (BitVec.ofNat 32 b.val) = csemOff b := by decide +kernel
theorem off26_eq : ∀ (i : grid1.Coords) (b : Fin 2), k1_off26 i (BitVec.ofNat 32 b.val) = cslotOff b := by decide +kernel
theorem off23_eq : ∀ (i : grid1.Coords) (b : Fin 2), k1_off23 i (BitVec.ofNat 32 b.val) = cslotOff b := by decide +kernel
theorem off25_eq : ∀ i : grid1.Coords, k1_off25 i = cpcOff (ci (hbs i) 0) := by decide +kernel
@[sl_canon] theorem cpc_25 (i : grid1.Coords) (hh hs) : (ctxM.slice (Rect.unit (s := S4x2048x1024) (k1_off25 i) S1x512x256.size hh) hs).squeeze S512x256 squeezes_S1x512x256_S512x256 = cpc (ci (hbs i) 0) := cpc_congr (off25_eq i) _ _
@[sl_canon] theorem ccsm_24_0 (i : grid1.Coords) (hh) : (cc1_scratch3.slice (Rect.unit (s := S2) (k1_off24 i 0#32) S1.size hh)).squeeze S_ squeezes_S1_S_ = ccsm 0 := ccsm_congr (off24_eq i 0) _
@[sl_canon] theorem cslot_26_0 (i : grid1.Coords) (hh hs) : (cstM.slice (Rect.unit (s := S2x512x256) (k1_off26 i 0#32) S1x512x256.size hh) hs).squeeze S512x256 squeezes_S1x512x256_S512x256 = cslot 0 := cslot_congr (off26_eq i 0) _ _
instance (i : grid1.Coords) : ClosedOff (k1_off23 i 0#32) := ⟨cslotOff 0, off23_eq i 0⟩
theorem off43_eq : ∀ i : grid1.Coords, k1_off43 i = cpcOff (ci (hbs i) 1) := by decide +kernel
@[sl_canon] theorem cpc_43 (i : grid1.Coords) (hh hs) : (ctxM.slice (Rect.unit (s := S4x2048x1024) (k1_off43 i) S1x512x256.size hh) hs).squeeze S512x256 squeezes_S1x512x256_S512x256 = cpc (ci (hbs i) 1) := cpc_congr (off43_eq i) _ _
@[sl_canon] theorem ccsm_24_1 (i : grid1.Coords) (hh) : (cc1_scratch3.slice (Rect.unit (s := S2) (k1_off24 i 1#32) S1.size hh)).squeeze S_ squeezes_S1_S_ = ccsm 1 := ccsm_congr (off24_eq i 1) _
@[sl_canon] theorem cslot_26_1 (i : grid1.Coords) (hh hs) : (cstM.slice (Rect.unit (s := S2x512x256) (k1_off26 i 1#32) S1x512x256.size hh) hs).squeeze S512x256 squeezes_S1x512x256_S512x256 = cslot 1 := cslot_congr (off26_eq i 1) _ _
instance (i : grid1.Coords) : ClosedOff (k1_off23 i 1#32) := ⟨cslotOff 1, off23_eq i 1⟩

/-! ### The offsets computed at inner coordinate 1 -/

theorem off44_eq : ∀ i : grid1.Coords, k1_off44 i = semOff (sn (stp i) 0) := by decide +kernel
@[sl_canon] theorem csm_44 (i : grid1.Coords) (hh) : (cc1_scratch2.slice (Rect.unit (s := S3) (k1_off44 i) S1.size hh)).squeeze S_ squeezes_S1_S_ = csm (sn (stp i) 0) := csm_congr (off44_eq i) _
theorem off54_eq : ∀ i : grid1.Coords, k1_off54 i = semOff (sn (stp i) 1) := by decide +kernel
@[sl_canon] theorem csm_54 (i : grid1.Coords) (hh) : (cc1_scratch2.slice (Rect.unit (s := S3) (k1_off54 i) S1.size hh)).squeeze S_ squeezes_S1_S_ = csm (sn (stp i) 1) := csm_congr (off54_eq i) _
theorem off57_eq : ∀ i : grid1.Coords, k1_off57 i = semOff (sn (stp i) 2) := by decide +kernel
@[sl_canon] theorem csm_57 (i : grid1.Coords) (hh) : (cc1_scratch2.slice (Rect.unit (s := S3) (k1_off57 i) S1.size hh)).squeeze S_ squeezes_S1_S_ = csm (sn (stp i) 2) := csm_congr (off57_eq i) _
theorem off60_eq : ∀ i : grid1.Coords, k1_off60 i = semOff (sn (stp i) 0) := by decide +kernel
@[sl_canon] theorem csm_60 (i : grid1.Coords) (hh) : (cc1_scratch2.slice (Rect.unit (s := S3) (k1_off60 i) S1.size hh)).squeeze S_ squeezes_S1_S_ = csm (sn (stp i) 0) := csm_congr (off60_eq i) _
theorem off70_eq : ∀ i : grid1.Coords, k1_off70 i = semOff (sn (stp i) 1) := by decide +kernel
@[sl_canon] theorem csm_70 (i : grid1.Coords) (hh) : (cc1_scratch2.slice (Rect.unit (s := S3) (k1_off70 i) S1.size hh)).squeeze S_ squeezes_S1_S_ = csm (sn (stp i) 1) := csm_congr (off70_eq i) _
theorem off74_eq : ∀ i : grid1.Coords, k1_off74 i = semOff (sn (stp i) 2) := by decide +kernel
@[sl_canon] theorem csm_74 (i : grid1.Coords) (hh) : (cc1_scratch2.slice (Rect.unit (s := S3) (k1_off74 i) S1.size hh)).squeeze S_ squeezes_S1_S_ = csm (sn (stp i) 2) := csm_congr (off74_eq i) _
theorem off77_eq : ∀ i : grid1.Coords, k1_off77 i = semOff (sn (stp i) 0) := by decide +kernel
@[sl_canon] theorem csm_77 (i : grid1.Coords) (hh) : (cc1_scratch2.slice (Rect.unit (s := S3) (k1_off77 i) S1.size hh)).squeeze S_ squeezes_S1_S_ = csm (sn (stp i) 0) := csm_congr (off77_eq i) _
theorem off80_eq : ∀ i : grid1.Coords, k1_off80 i = semOff (sn (stp i) 1) := by decide +kernel
@[sl_canon] theorem csm_80 (i : grid1.Coords) (hh) : (cc1_scratch2.slice (Rect.unit (s := S3) (k1_off80 i) S1.size hh)).squeeze S_ squeezes_S1_S_ = csm (sn (stp i) 1) := csm_congr (off80_eq i) _
theorem off51_eq : ∀ (i : grid1.Coords) (b : Fin 2) (h : Fin 4), k1_off51 i (BitVec.ofNat 32 (4 * b.val)) (BitVec.ofNat 32 h.val) = semOff (sn (stp i) ((4 * b.val + h.val) % 3)) := by decide +kernel
theorem off53_eq : ∀ (i : grid1.Coords) (b : Fin 2) (h : Fin 4), k1_off53 i (BitVec.ofNat 32 (4 * b.val)) (BitVec.ofNat 32 h.val) = slotOff (sn (stp i) ((4 * b.val + h.val) % 3)) := by decide +kernel
theorem off52_eq : ∀ (i : grid1.Coords) (h : Fin 4), k1_off52 i (BitVec.ofNat 32 h.val) = pcOff (gi (hbs i + 1) (0 + h.val)) := by decide +kernel
theorem off73_eq : ∀ (i : grid1.Coords) (h : Fin 4), k1_off73 i (BitVec.ofNat 32 h.val) = pcOff (gi (hbs i + 1) (4 + h.val)) := by decide +kernel
theorem off47_eq : ∀ (i : grid1.Coords) (b : Fin 2) (h : Fin 4), k1_off47 i (BitVec.ofNat 32 (4 * b.val)) (BitVec.ofNat 32 h.val) = ![(sn (stp i) ((4 * b.val + h.val) % 3)).val, 0, 0] := by decide +kernel
theorem off48_eq : ∀ (i : grid1.Coords) (b : Fin 2) (h : Fin 4), k1_off48 i (BitVec.ofNat 32 (4 * b.val)) (BitVec.ofNat 32 h.val) = ![(sn (stp i) ((4 * b.val + h.val) % 3)).val, 0, 512] := by decide +kernel
theorem off49_eq : ∀ (i : grid1.Coords) (b : Fin 2) (h : Fin 4), k1_off49 i (BitVec.ofNat 32 (4 * b.val)) (BitVec.ofNat 32 h.val) = ![(sn (stp i) ((4 * b.val + h.val) % 3)).val, 0, 1024] := by decide +kernel
theorem off50_eq : ∀ (i : grid1.Coords) (b : Fin 2) (h : Fin 4), k1_off50 i (BitVec.ofNat 32 (4 * b.val)) (BitVec.ofNat 32 h.val) = ![(sn (stp i) ((4 * b.val + h.val) % 3)).val, 0, 1536] := by decide +kernel
@[sl_canon] theorem csm_51_00 (i : grid1.Coords) (hh) : (cc1_scratch2.slice (Rect.unit (s := S3) (k1_off51 i 0#32 0#32) S1.size hh)).squeeze S_ squeezes_S1_S_ = csm (sn (stp i) 0) := csm_congr (off51_eq i 0 0) _
@[sl_canon] theorem rslot_53_00 (i : grid1.Coords) (hh hs) : (stgM.slice (Rect.unit (s := S3x512x2048) (k1_off53 i 0#32 0#32) S1x512x2048.size hh) hs).squeeze S512x2048 squeezes_S1x512x2048_S512x2048 = rslot (sn (stp i) 0) := rslot_congr (off53_eq i 0 0) _ _
@[sl_canon] theorem pc_52_0 (i : grid1.Coords) (hh hs) : (attM.slice (Rect.unit (s := S4x16x2048x2048) (k1_off52 i 0#32) S1x1x512x2048.size hh) hs).squeeze S512x2048 squeezes_S1x1x512x2048_S512x2048 = pc (gi (hbs i + 1) 0) := pc_congr (off52_eq i 0) _ _
instance (i : grid1.Coords) : ClosedOff (k1_off47 i 0#32 0#32) := ⟨![(sn (stp i) 0).val, 0, 0], off47_eq i 0 0⟩
instance (i : grid1.Coords) : ClosedOff (k1_off48 i 0#32 0#32) := ⟨![(sn (stp i) 0).val, 0, 512], off48_eq i 0 0⟩
instance (i : grid1.Coords) : ClosedOff (k1_off49 i 0#32 0#32) := ⟨![(sn (stp i) 0).val, 0, 1024], off49_eq i 0 0⟩
instance (i : grid1.Coords) : ClosedOff (k1_off50 i 0#32 0#32) := ⟨![(sn (stp i) 0).val, 0, 1536], off50_eq i 0 0⟩
@[sl_canon] theorem csm_51_01 (i : grid1.Coords) (hh) : (cc1_scratch2.slice (Rect.unit (s := S3) (k1_off51 i 0#32 1#32) S1.size hh)).squeeze S_ squeezes_S1_S_ = csm (sn (stp i) 1) := csm_congr (off51_eq i 0 1) _
@[sl_canon] theorem rslot_53_01 (i : grid1.Coords) (hh hs) : (stgM.slice (Rect.unit (s := S3x512x2048) (k1_off53 i 0#32 1#32) S1x512x2048.size hh) hs).squeeze S512x2048 squeezes_S1x512x2048_S512x2048 = rslot (sn (stp i) 1) := rslot_congr (off53_eq i 0 1) _ _
@[sl_canon] theorem pc_52_1 (i : grid1.Coords) (hh hs) : (attM.slice (Rect.unit (s := S4x16x2048x2048) (k1_off52 i 1#32) S1x1x512x2048.size hh) hs).squeeze S512x2048 squeezes_S1x1x512x2048_S512x2048 = pc (gi (hbs i + 1) 1) := pc_congr (off52_eq i 1) _ _
instance (i : grid1.Coords) : ClosedOff (k1_off47 i 0#32 1#32) := ⟨![(sn (stp i) 1).val, 0, 0], off47_eq i 0 1⟩
instance (i : grid1.Coords) : ClosedOff (k1_off48 i 0#32 1#32) := ⟨![(sn (stp i) 1).val, 0, 512], off48_eq i 0 1⟩
instance (i : grid1.Coords) : ClosedOff (k1_off49 i 0#32 1#32) := ⟨![(sn (stp i) 1).val, 0, 1024], off49_eq i 0 1⟩
instance (i : grid1.Coords) : ClosedOff (k1_off50 i 0#32 1#32) := ⟨![(sn (stp i) 1).val, 0, 1536], off50_eq i 0 1⟩
@[sl_canon] theorem csm_51_02 (i : grid1.Coords) (hh) : (cc1_scratch2.slice (Rect.unit (s := S3) (k1_off51 i 0#32 2#32) S1.size hh)).squeeze S_ squeezes_S1_S_ = csm (sn (stp i) 2) := csm_congr (off51_eq i 0 2) _
@[sl_canon] theorem rslot_53_02 (i : grid1.Coords) (hh hs) : (stgM.slice (Rect.unit (s := S3x512x2048) (k1_off53 i 0#32 2#32) S1x512x2048.size hh) hs).squeeze S512x2048 squeezes_S1x512x2048_S512x2048 = rslot (sn (stp i) 2) := rslot_congr (off53_eq i 0 2) _ _
@[sl_canon] theorem pc_52_2 (i : grid1.Coords) (hh hs) : (attM.slice (Rect.unit (s := S4x16x2048x2048) (k1_off52 i 2#32) S1x1x512x2048.size hh) hs).squeeze S512x2048 squeezes_S1x1x512x2048_S512x2048 = pc (gi (hbs i + 1) 2) := pc_congr (off52_eq i 2) _ _
instance (i : grid1.Coords) : ClosedOff (k1_off47 i 0#32 2#32) := ⟨![(sn (stp i) 2).val, 0, 0], off47_eq i 0 2⟩
instance (i : grid1.Coords) : ClosedOff (k1_off48 i 0#32 2#32) := ⟨![(sn (stp i) 2).val, 0, 512], off48_eq i 0 2⟩
instance (i : grid1.Coords) : ClosedOff (k1_off49 i 0#32 2#32) := ⟨![(sn (stp i) 2).val, 0, 1024], off49_eq i 0 2⟩
instance (i : grid1.Coords) : ClosedOff (k1_off50 i 0#32 2#32) := ⟨![(sn (stp i) 2).val, 0, 1536], off50_eq i 0 2⟩
@[sl_canon] theorem csm_51_03 (i : grid1.Coords) (hh) : (cc1_scratch2.slice (Rect.unit (s := S3) (k1_off51 i 0#32 3#32) S1.size hh)).squeeze S_ squeezes_S1_S_ = csm (sn (stp i) 0) := csm_congr (off51_eq i 0 3) _
@[sl_canon] theorem rslot_53_03 (i : grid1.Coords) (hh hs) : (stgM.slice (Rect.unit (s := S3x512x2048) (k1_off53 i 0#32 3#32) S1x512x2048.size hh) hs).squeeze S512x2048 squeezes_S1x512x2048_S512x2048 = rslot (sn (stp i) 0) := rslot_congr (off53_eq i 0 3) _ _
@[sl_canon] theorem pc_52_3 (i : grid1.Coords) (hh hs) : (attM.slice (Rect.unit (s := S4x16x2048x2048) (k1_off52 i 3#32) S1x1x512x2048.size hh) hs).squeeze S512x2048 squeezes_S1x1x512x2048_S512x2048 = pc (gi (hbs i + 1) 3) := pc_congr (off52_eq i 3) _ _
instance (i : grid1.Coords) : ClosedOff (k1_off47 i 0#32 3#32) := ⟨![(sn (stp i) 0).val, 0, 0], off47_eq i 0 3⟩
instance (i : grid1.Coords) : ClosedOff (k1_off48 i 0#32 3#32) := ⟨![(sn (stp i) 0).val, 0, 512], off48_eq i 0 3⟩
instance (i : grid1.Coords) : ClosedOff (k1_off49 i 0#32 3#32) := ⟨![(sn (stp i) 0).val, 0, 1024], off49_eq i 0 3⟩
instance (i : grid1.Coords) : ClosedOff (k1_off50 i 0#32 3#32) := ⟨![(sn (stp i) 0).val, 0, 1536], off50_eq i 0 3⟩
@[sl_canon] theorem csm_51_10 (i : grid1.Coords) (hh) : (cc1_scratch2.slice (Rect.unit (s := S3) (k1_off51 i 4#32 0#32) S1.size hh)).squeeze S_ squeezes_S1_S_ = csm (sn (stp i) 1) := csm_congr (off51_eq i 1 0) _
@[sl_canon] theorem rslot_53_10 (i : grid1.Coords) (hh hs) : (stgM.slice (Rect.unit (s := S3x512x2048) (k1_off53 i 4#32 0#32) S1x512x2048.size hh) hs).squeeze S512x2048 squeezes_S1x512x2048_S512x2048 = rslot (sn (stp i) 1) := rslot_congr (off53_eq i 1 0) _ _
@[sl_canon] theorem pc_73_0 (i : grid1.Coords) (hh hs) : (attM.slice (Rect.unit (s := S4x16x2048x2048) (k1_off73 i 0#32) S1x1x512x2048.size hh) hs).squeeze S512x2048 squeezes_S1x1x512x2048_S512x2048 = pc (gi (hbs i + 1) 4) := pc_congr (off73_eq i 0) _ _
instance (i : grid1.Coords) : ClosedOff (k1_off47 i 4#32 0#32) := ⟨![(sn (stp i) 1).val, 0, 0], off47_eq i 1 0⟩
instance (i : grid1.Coords) : ClosedOff (k1_off48 i 4#32 0#32) := ⟨![(sn (stp i) 1).val, 0, 512], off48_eq i 1 0⟩
instance (i : grid1.Coords) : ClosedOff (k1_off49 i 4#32 0#32) := ⟨![(sn (stp i) 1).val, 0, 1024], off49_eq i 1 0⟩
instance (i : grid1.Coords) : ClosedOff (k1_off50 i 4#32 0#32) := ⟨![(sn (stp i) 1).val, 0, 1536], off50_eq i 1 0⟩
@[sl_canon] theorem csm_51_11 (i : grid1.Coords) (hh) : (cc1_scratch2.slice (Rect.unit (s := S3) (k1_off51 i 4#32 1#32) S1.size hh)).squeeze S_ squeezes_S1_S_ = csm (sn (stp i) 2) := csm_congr (off51_eq i 1 1) _
@[sl_canon] theorem rslot_53_11 (i : grid1.Coords) (hh hs) : (stgM.slice (Rect.unit (s := S3x512x2048) (k1_off53 i 4#32 1#32) S1x512x2048.size hh) hs).squeeze S512x2048 squeezes_S1x512x2048_S512x2048 = rslot (sn (stp i) 2) := rslot_congr (off53_eq i 1 1) _ _
@[sl_canon] theorem pc_73_1 (i : grid1.Coords) (hh hs) : (attM.slice (Rect.unit (s := S4x16x2048x2048) (k1_off73 i 1#32) S1x1x512x2048.size hh) hs).squeeze S512x2048 squeezes_S1x1x512x2048_S512x2048 = pc (gi (hbs i + 1) 5) := pc_congr (off73_eq i 1) _ _
instance (i : grid1.Coords) : ClosedOff (k1_off47 i 4#32 1#32) := ⟨![(sn (stp i) 2).val, 0, 0], off47_eq i 1 1⟩
instance (i : grid1.Coords) : ClosedOff (k1_off48 i 4#32 1#32) := ⟨![(sn (stp i) 2).val, 0, 512], off48_eq i 1 1⟩
instance (i : grid1.Coords) : ClosedOff (k1_off49 i 4#32 1#32) := ⟨![(sn (stp i) 2).val, 0, 1024], off49_eq i 1 1⟩
instance (i : grid1.Coords) : ClosedOff (k1_off50 i 4#32 1#32) := ⟨![(sn (stp i) 2).val, 0, 1536], off50_eq i 1 1⟩
@[sl_canon] theorem csm_51_12 (i : grid1.Coords) (hh) : (cc1_scratch2.slice (Rect.unit (s := S3) (k1_off51 i 4#32 2#32) S1.size hh)).squeeze S_ squeezes_S1_S_ = csm (sn (stp i) 0) := csm_congr (off51_eq i 1 2) _
@[sl_canon] theorem rslot_53_12 (i : grid1.Coords) (hh hs) : (stgM.slice (Rect.unit (s := S3x512x2048) (k1_off53 i 4#32 2#32) S1x512x2048.size hh) hs).squeeze S512x2048 squeezes_S1x512x2048_S512x2048 = rslot (sn (stp i) 0) := rslot_congr (off53_eq i 1 2) _ _
@[sl_canon] theorem pc_73_2 (i : grid1.Coords) (hh hs) : (attM.slice (Rect.unit (s := S4x16x2048x2048) (k1_off73 i 2#32) S1x1x512x2048.size hh) hs).squeeze S512x2048 squeezes_S1x1x512x2048_S512x2048 = pc (gi (hbs i + 1) 6) := pc_congr (off73_eq i 2) _ _
instance (i : grid1.Coords) : ClosedOff (k1_off47 i 4#32 2#32) := ⟨![(sn (stp i) 0).val, 0, 0], off47_eq i 1 2⟩
instance (i : grid1.Coords) : ClosedOff (k1_off48 i 4#32 2#32) := ⟨![(sn (stp i) 0).val, 0, 512], off48_eq i 1 2⟩
instance (i : grid1.Coords) : ClosedOff (k1_off49 i 4#32 2#32) := ⟨![(sn (stp i) 0).val, 0, 1024], off49_eq i 1 2⟩
instance (i : grid1.Coords) : ClosedOff (k1_off50 i 4#32 2#32) := ⟨![(sn (stp i) 0).val, 0, 1536], off50_eq i 1 2⟩
@[sl_canon] theorem csm_51_13 (i : grid1.Coords) (hh) : (cc1_scratch2.slice (Rect.unit (s := S3) (k1_off51 i 4#32 3#32) S1.size hh)).squeeze S_ squeezes_S1_S_ = csm (sn (stp i) 1) := csm_congr (off51_eq i 1 3) _
@[sl_canon] theorem rslot_53_13 (i : grid1.Coords) (hh hs) : (stgM.slice (Rect.unit (s := S3x512x2048) (k1_off53 i 4#32 3#32) S1x512x2048.size hh) hs).squeeze S512x2048 squeezes_S1x512x2048_S512x2048 = rslot (sn (stp i) 1) := rslot_congr (off53_eq i 1 3) _ _
@[sl_canon] theorem pc_73_3 (i : grid1.Coords) (hh hs) : (attM.slice (Rect.unit (s := S4x16x2048x2048) (k1_off73 i 3#32) S1x1x512x2048.size hh) hs).squeeze S512x2048 squeezes_S1x1x512x2048_S512x2048 = pc (gi (hbs i + 1) 7) := pc_congr (off73_eq i 3) _ _
instance (i : grid1.Coords) : ClosedOff (k1_off47 i 4#32 3#32) := ⟨![(sn (stp i) 1).val, 0, 0], off47_eq i 1 3⟩
instance (i : grid1.Coords) : ClosedOff (k1_off48 i 4#32 3#32) := ⟨![(sn (stp i) 1).val, 0, 512], off48_eq i 1 3⟩
instance (i : grid1.Coords) : ClosedOff (k1_off49 i 4#32 3#32) := ⟨![(sn (stp i) 1).val, 0, 1024], off49_eq i 1 3⟩
instance (i : grid1.Coords) : ClosedOff (k1_off50 i 4#32 3#32) := ⟨![(sn (stp i) 1).val, 0, 1536], off50_eq i 1 3⟩
theorem off63_eq : ∀ i : grid1.Coords, k1_off63 i = csemOff 0 := by decide +kernel
@[sl_canon] theorem ccsm_63 (i : grid1.Coords) (hh) : (cc1_scratch3.slice (Rect.unit (s := S2) (k1_off63 i) S1.size hh)).squeeze S_ squeezes_S1_S_ = ccsm 0 := ccsm_congr (off63_eq i) _
theorem off83_eq : ∀ i : grid1.Coords, k1_off83 i = csemOff 1 := by decide +kernel
@[sl_canon] theorem ccsm_83 (i : grid1.Coords) (hh) : (cc1_scratch3.slice (Rect.unit (s := S2) (k1_off83 i) S1.size hh)).squeeze S_ squeezes_S1_S_ = ccsm 1 := ccsm_congr (off83_eq i) _
theorem off67_eq : ∀ (i : grid1.Coords) (b : Fin 2), k1_off67 i (BitVec.ofNat 32 b.val) = csemOff b := by decide +kernel
theorem off69_eq : ∀ (i : grid1.Coords) (b : Fin 2), k1_off69 i (BitVec.ofNat 32 b.val) = cslotOff b := by decide +kernel
theorem off66_eq : ∀ (i : grid1.Coords) (b : Fin 2), k1_off66 i (BitVec.ofNat 32 b.val) = cslotOff b := by decide +kernel
theorem off68_eq : ∀ i : grid1.Coords, k1_off68 i = cpcOff (ci (hbs i + 1) 0) := by decide +kernel
@[sl_canon] theorem cpc_68 (i : grid1.Coords) (hh hs) : (ctxM.slice (Rect.unit (s := S4x2048x1024) (k1_off68 i) S1x512x256.size hh) hs).squeeze S512x256 squeezes_S1x512x256_S512x256 = cpc (ci (hbs i + 1) 0) := cpc_congr (off68_eq i) _ _
@[sl_canon] theorem ccsm_67_0 (i : grid1.Coords) (hh) : (cc1_scratch3.slice (Rect.unit (s := S2) (k1_off67 i 0#32) S1.size hh)).squeeze S_ squeezes_S1_S_ = ccsm 0 := ccsm_congr (off67_eq i 0) _
@[sl_canon] theorem cslot_69_0 (i : grid1.Coords) (hh hs) : (cstM.slice (Rect.unit (s := S2x512x256) (k1_off69 i 0#32) S1x512x256.size hh) hs).squeeze S512x256 squeezes_S1x512x256_S512x256 = cslot 0 := cslot_congr (off69_eq i 0) _ _
instance (i : grid1.Coords) : ClosedOff (k1_off66 i 0#32) := ⟨cslotOff 0, off66_eq i 0⟩
theorem off86_eq : ∀ i : grid1.Coords, k1_off86 i = cpcOff (ci (hbs i + 1) 1) := by decide +kernel
@[sl_canon] theorem cpc_86 (i : grid1.Coords) (hh hs) : (ctxM.slice (Rect.unit (s := S4x2048x1024) (k1_off86 i) S1x512x256.size hh) hs).squeeze S512x256 squeezes_S1x512x256_S512x256 = cpc (ci (hbs i + 1) 1) := cpc_congr (off86_eq i) _ _
@[sl_canon] theorem ccsm_67_1 (i : grid1.Coords) (hh) : (cc1_scratch3.slice (Rect.unit (s := S2) (k1_off67 i 1#32) S1.size hh)).squeeze S_ squeezes_S1_S_ = ccsm 1 := ccsm_congr (off67_eq i 1) _
@[sl_canon] theorem cslot_69_1 (i : grid1.Coords) (hh hs) : (cstM.slice (Rect.unit (s := S2x512x256) (k1_off69 i 1#32) S1x512x256.size hh) hs).squeeze S512x256 squeezes_S1x512x256_S512x256 = cslot 1 := cslot_congr (off69_eq i 1) _ _
instance (i : grid1.Coords) : ClosedOff (k1_off66 i 1#32) := ⟨cslotOff 1, off66_eq i 1⟩

/-! ### When the body waits -/

theorem cond1_iff : ∀ i : grid1.Coords, k1_cond1 i = 1#1 ↔ (i 2).val = 0 := by decide +kernel
theorem cond12_iff : ∀ i : grid1.Coords, k1_cond12 i = 1#1 ↔ (i 2).val = 1 := by decide +kernel
theorem cond23_iff : ∀ i : grid1.Coords, k1_cond23 i = 1#1 ↔ stp i = 31 := by decide +kernel
theorem cond2_iff : ∀ i : grid1.Coords, k1_cond2 i = 1#1 ↔ stp i ≠ 0 := by decide +kernel
theorem cond3_iff : ∀ i : grid1.Coords, k1_cond3 i = 1#1 ↔ stp i ≠ 0 := by decide +kernel
theorem cond4_iff : ∀ i : grid1.Coords, k1_cond4 i = 1#1 ↔ stp i ≠ 0 := by decide +kernel
theorem cond6_iff : ∀ i : grid1.Coords, k1_cond6 i = 1#1 ↔ stp i ≠ 0 := by decide +kernel
theorem cond11_iff : ∀ i : grid1.Coords, k1_cond11 i = 1#1 ↔ stp i ≠ 0 := by decide +kernel
theorem cond5_true : ∀ i : grid1.Coords, k1_cond5 i = 1#1 := by decide +kernel
theorem cond7_true : ∀ i : grid1.Coords, k1_cond7 i = 1#1 := by decide +kernel
theorem cond8_true : ∀ i : grid1.Coords, k1_cond8 i = 1#1 := by decide +kernel
theorem cond9_true : ∀ i : grid1.Coords, k1_cond9 i = 1#1 := by decide +kernel
theorem cond10_true : ∀ i : grid1.Coords, k1_cond10 i = 1#1 := by decide +kernel
theorem cond13_true : ∀ i : grid1.Coords, (i 2).val = 1 → k1_cond13 i = 1#1 := by decide +kernel
theorem cond14_true : ∀ i : grid1.Coords, (i 2).val = 1 → k1_cond14 i = 1#1 := by decide +kernel
theorem cond15_true : ∀ i : grid1.Coords, (i 2).val = 1 → k1_cond15 i = 1#1 := by decide +kernel
theorem cond16_true : ∀ i : grid1.Coords, (i 2).val = 1 → k1_cond16 i = 1#1 := by decide +kernel
theorem cond17_true : ∀ i : grid1.Coords, (i 2).val = 1 → k1_cond17 i = 1#1 := by decide +kernel
theorem cond18_true : ∀ i : grid1.Coords, (i 2).val = 1 → k1_cond18 i = 1#1 := by decide +kernel
theorem cond19_true : ∀ i : grid1.Coords, (i 2).val = 1 → k1_cond19 i = 1#1 := by decide +kernel
theorem cond20_true : ∀ i : grid1.Coords, (i 2).val = 1 → k1_cond20 i = 1#1 := by decide +kernel
theorem cond21_true : ∀ i : grid1.Coords, (i 2).val = 1 → k1_cond21 i = 1#1 := by decide +kernel
theorem cond22_true : ∀ i : grid1.Coords, (i 2).val = 1 → k1_cond22 i = 1#1 := by decide +kernel

end Cert.KernelIdeal.Attn
-- ==== Proof.IAttnVals.lean ====
/-
  What the attention kernel computes from its blocks, and what its staging slots hold.

  A band of `512` rows meets the first `w` columns of the keys, `w` one of 512, 1024, 1536, 2048.  `prW q k` is
  the band's block of probabilities for one head, `attW q k` the same block widened by zero columns to the 2048
  columns of the result, `hdW v p` the head's rows of the transposed context, and `ctxBlk` four of them side by
  side.  The second half reads a staging slot after its four column stores (`slot_read4`), a context slot after its
  one store (`cslot_read`), and a block of a result after a transfer into it (`pc_landed`, `cpc_landed`).
-/
module

public import proofs.«01_k».proof.Proof.IAttnNames
public import Idealize.ShloMosaic.Lib.ValueLayout

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

/-! ### The blocks of a head -/

theorem ldq_inb : ∀ (h : Fin 4) (a : Fin 3), (![0, 0, 64 * h.val] : Fin 3 → ℕ) a + S1x512x64.size a ≤ S1x512x256.size a := by decide +kernel
/-- Head `h`'s columns of a block of queries. -/
def ldq (x : Vec F S1x512x256 .bf16) (h : Fin 4) : Vec F S1x512x64 .bf16 :=
  View.ld x (Rect.unit (s := S1x512x256) ![0, 0, 64 * h.val] S1x512x64.size (ldq_inb h))
theorem ldk512_inb : ∀ (h : Fin 4) (a : Fin 3), (![0, 0, 64 * h.val] : Fin 3 → ℕ) a + S1x512x64.size a ≤ S1x2048x256.size a := by decide +kernel
/-- Head `h`'s columns of the first 512 rows of a block of keys or values. -/
def ldk512 (x : Vec F S1x2048x256 .bf16) (h : Fin 4) : Vec F S1x512x64 .bf16 :=
  View.ld x (Rect.unit (s := S1x2048x256) ![0, 0, 64 * h.val] S1x512x64.size (ldk512_inb h))
theorem ldk1024_inb : ∀ (h : Fin 4) (a : Fin 3), (![0, 0, 64 * h.val] : Fin 3 → ℕ) a + S1x1024x64.size a ≤ S1x2048x256.size a := by decide +kernel
/-- Head `h`'s columns of the first 1024 rows of a block of keys or values. -/
def ldk1024 (x : Vec F S1x2048x256 .bf16) (h : Fin 4) : Vec F S1x1024x64 .bf16 :=
  View.ld x (Rect.unit (s := S1x2048x256) ![0, 0, 64 * h.val] S1x1024x64.size (ldk1024_inb h))
theorem ldk1536_inb : ∀ (h : Fin 4) (a : Fin 3), (![0, 0, 64 * h.val] : Fin 3 → ℕ) a + S1x1536x64.size a ≤ S1x2048x256.size a := by decide +kernel
/-- Head `h`'s columns of the first 1536 rows of a block of keys or values. -/
def ldk1536 (x : Vec F S1x2048x256 .bf16) (h : Fin 4) : Vec F S1x1536x64 .bf16 :=
  View.ld x (Rect.unit (s := S1x2048x256) ![0, 0, 64 * h.val] S1x1536x64.size (ldk1536_inb h))
theorem ldk2048_inb : ∀ (h : Fin 4) (a : Fin 3), (![0, 0, 64 * h.val] : Fin 3 → ℕ) a + S1x2048x64.size a ≤ S1x2048x256.size a := by decide +kernel
/-- Head `h`'s columns of the first 2048 rows of a block of keys or values. -/
def ldk2048 (x : Vec F S1x2048x256 .bf16) (h : Fin 4) : Vec F S1x2048x64 .bf16 :=
  View.ld x (Rect.unit (s := S1x2048x256) ![0, 0, 64 * h.val] S1x2048x64.size (ldk2048_inb h))

/-! ### Probabilities, and the context of a head -/

/-- Four column blocks of 512, side by side. -/
def cols4 (P0 P1 P2 P3 : FVec F S1x512x512 .f32) : FVec F S512x2048 .f32 := fun y =>
  if h0 : (y 1).val < 512 then P0 (ix3 (0 : Fin 1) (y 0) (⟨(y 1).val, h0⟩ : Fin 512))
  else if h1 : (y 1).val - 512 < 512 then P1 (ix3 (0 : Fin 1) (y 0) (⟨(y 1).val - 512, h1⟩ : Fin 512))
  else if h2 : (y 1).val - 1024 < 512 then P2 (ix3 (0 : Fin 1) (y 0) (⟨(y 1).val - 1024, h2⟩ : Fin 512))
  else P3 (ix3 (0 : Fin 1) (y 0) (⟨((y 1).val - 1536) % 512, Nat.mod_lt _ (by decide)⟩ : Fin 512))

theorem cols4_ix (P0 P1 P2 P3 : FVec F S1x512x512 .f32) (a : Fin 512) (b : Fin 2048) :
    cols4 P0 P1 P2 P3 (ix2 a b) = if h0 : b.val < 512 then P0 (ix3 (0 : Fin 1) a (⟨b.val, h0⟩ : Fin 512))
      else if h1 : b.val - 512 < 512 then P1 (ix3 (0 : Fin 1) a (⟨b.val - 512, h1⟩ : Fin 512))
      else if h2 : b.val - 1024 < 512 then P2 (ix3 (0 : Fin 1) a (⟨b.val - 1024, h2⟩ : Fin 512))
      else P3 (ix3 (0 : Fin 1) a (⟨(b.val - 1536) % 512, Nat.mod_lt _ (by decide)⟩ : Fin 512)) := rfl

def pr512 (q : Vec F S1x512x64 .bf16) (k : Vec F S1x512x64 .bf16) : FVec F S512x512 .f32 := k1_pay3 q k
def pr1024 (q : Vec F S1x512x64 .bf16) (k : Vec F S1x1024x64 .bf16) : FVec F S512x1024 .f32 := k1_pay71 q k
def pr1536 (q : Vec F S1x512x64 .bf16) (k : Vec F S1x1536x64 .bf16) : FVec F S512x1536 .f32 := k1_pay122 k1_pay103 q k
def pr2048 (q : Vec F S1x512x64 .bf16) (k : Vec F S1x2048x64 .bf16) : FVec F S512x2048 .f32 := k1_pay54 k1_pay34 q k

def att512 (q : Vec F S1x512x64 .bf16) (k : Vec F S1x512x64 .bf16) : FVec F S512x2048 .f32 :=
  cols4 (k1_pay4 (pr512 q k)) k1_pay5 k1_pay5 k1_pay5
def att1024 (q : Vec F S1x512x64 .bf16) (k : Vec F S1x1024x64 .bf16) : FVec F S512x2048 .f32 :=
  cols4 (k1_pay73 (extractStridedSlice S512x512 ![0, 0] (pr1024 q k) slices_S512x1024_o0_0_S512x512)) (k1_pay74 (pr1024 q k)) k1_pay5 k1_pay5
def att1536 (q : Vec F S1x512x64 .bf16) (k : Vec F S1x1536x64 .bf16) : FVec F S512x2048 .f32 :=
  cols4 (k1_pay123 (pr1536 q k)) (k1_pay124 (pr1536 q k)) (k1_pay125 (pr1536 q k)) k1_pay5
def att2048 (q : Vec F S1x512x64 .bf16) (k : Vec F S1x2048x64 .bf16) : FVec F S512x2048 .f32 :=
  cols4 (k1_pay56 (extractStridedSlice S512x512 ![0, 0] (pr2048 q k) slices_S512x2048_o0_0_S512x512)) (k1_pay57 (pr2048 q k)) (k1_pay58 (pr2048 q k)) (k1_pay59 (pr2048 q k))

def hd512 (v : Vec F S1x512x64 .bf16) (p : FVec F S512x512 .f32) : FVec F S64x512 .f32 := k1_pay8 (k1_pay2 v) p
def hd1024 (v : Vec F S1x1024x64 .bf16) (p : FVec F S512x1024 .f32) : FVec F S64x512 .f32 := k1_pay77 (k1_pay70 v) p
def hd1536 (v : Vec F S1x1536x64 .bf16) (p : FVec F S512x1536 .f32) : FVec F S64x512 .f32 := k1_pay127 (k1_pay121 v) p
def hd2048 (v : Vec F S1x2048x64 .bf16) (p : FVec F S512x2048 .f32) : FVec F S64x512 .f32 := k1_pay60 (k1_pay53 v) p

/-- The context block of four heads. -/
def ctxBlk (t0 t1 t2 t3 : FVec F S64x512 .f32) : FVec F S512x256 .bf16 :=
  truncf .bf16 (transpose S512x256 [1, 0] (concatenate S256x512 0 [⟨S64x512, t0⟩, ⟨S64x512, t1⟩, ⟨S64x512, t2⟩, ⟨S64x512, t3⟩]
    concatenates_S64x512_S64x512_S64x512_S64x512_S256x512_d0) transposes_S256x512_p1_0_S512x256) bitsLt_bf16_f32
def ctx512 (xq : Vec F S1x512x256 .bf16) (xk xv : Vec F S1x2048x256 .bf16) : FVec F S512x256 .bf16 :=
  ctxBlk (hd512 (ldk512 xv 0) (pr512 (ldq xq 0) (ldk512 xk 0))) (hd512 (ldk512 xv 1) (pr512 (ldq xq 1) (ldk512 xk 1)))
    (hd512 (ldk512 xv 2) (pr512 (ldq xq 2) (ldk512 xk 2))) (hd512 (ldk512 xv 3) (pr512 (ldq xq 3) (ldk512 xk 3)))
def ctx1024 (xq : Vec F S1x512x256 .bf16) (xk xv : Vec F S1x2048x256 .bf16) : FVec F S512x256 .bf16 :=
  ctxBlk (hd1024 (ldk1024 xv 0) (pr1024 (ldq xq 0) (ldk1024 xk 0))) (hd1024 (ldk1024 xv 1) (pr1024 (ldq xq 1) (ldk1024 xk 1)))
    (hd1024 (ldk1024 xv 2) (pr1024 (ldq xq 2) (ldk1024 xk 2))) (hd1024 (ldk1024 xv 3) (pr1024 (ldq xq 3) (ldk1024 xk 3)))
def ctx1536 (xq : Vec F S1x512x256 .bf16) (xk xv : Vec F S1x2048x256 .bf16) : FVec F S512x256 .bf16 :=
  ctxBlk (hd1536 (ldk1536 xv 0) (pr1536 (ldq xq 0) (ldk1536 xk 0))) (hd1536 (ldk1536 xv 1) (pr1536 (ldq xq 1) (ldk1536 xk 1)))
    (hd1536 (ldk1536 xv 2) (pr1536 (ldq xq 2) (ldk1536 xk 2))) (hd1536 (ldk1536 xv 3) (pr1536 (ldq xq 3) (ldk1536 xk 3)))
def ctx2048 (xq : Vec F S1x512x256 .bf16) (xk xv : Vec F S1x2048x256 .bf16) : FVec F S512x256 .bf16 :=
  ctxBlk (hd2048 (ldk2048 xv 0) (pr2048 (ldq xq 0) (ldk2048 xk 0))) (hd2048 (ldk2048 xv 1) (pr2048 (ldq xq 1) (ldk2048 xk 1)))
    (hd2048 (ldk2048 xv 2) (pr2048 (ldq xq 2) (ldk2048 xk 2))) (hd2048 (ldk2048 xv 3) (pr2048 (ldq xq 3) (ldk2048 xk 3)))

/-! ### Reading a slot -/

theorem rslot_emb (s : Fin 3) (a : Fin 512) (b : Fin 2048) :
    ((rslot s).view.emb (ix2 a b : S512x2048.Idx) : S3x512x2048.Idx) = ix3 s a b := by
  have e : (Shape.reshapeEquiv squeezes_S1x512x2048_S512x2048.numel_eq (ix2 a b : S512x2048.Idx)) = ix3 (⟨0, Nat.one_pos⟩ : Fin 1) a b :=
    reshapeEquiv_ix2_1ab _ a b
  show (Rect.unit (s := S3x512x2048) (slotOff s) S1x512x2048.size (slotOff_inb s)).emb
      (Shape.reshapeEquiv squeezes_S1x512x2048_S512x2048.numel_eq (ix2 a b : S512x2048.Idx)) = _
  rw [e]
  funext x; apply Fin.ext; rw [Rect.emb_apply]
  fin_cases x
  · show s.val + 1 * 0 = s.val; omega
  · show 0 + 1 * a.val = a.val; omega
  · show 0 + 1 * b.val = b.val; omega

/-- The score buffer after a store of one column block. -/
def stgW (off : Fin 3 → ℕ) (hh : ∀ a, off a + S1x512x512.size a ≤ S3x512x2048.size a)
    (f : S3x512x2048.Idx → Elt F .f32) (P : FVec F S1x512x512 .f32) : S3x512x2048.Idx → Elt F .f32 :=
  View.write (Elt F) (stgM.access (Rect.unit (s := S3x512x2048) off S1x512x512.size hh)) f P Finset.univ

/-- An element of the score buffer after a store of one column block of slot `s`: the block's element if it is there. -/
theorem stg_write (s : Fin 3) (o : ℕ) (off : Fin 3 → ℕ) (e : off = ![s.val, 0, o]) (hh : ∀ a, off a + S1x512x512.size a ≤ S3x512x2048.size a)
    (f : S3x512x2048.Idx → Elt F .f32) (P : FVec F S1x512x512 .f32) (a : Fin 512) (b : Fin 2048) :
    stgW off hh f P (ix3 s a b)
      = if h : o ≤ b.val ∧ b.val - o < 512 then P (ix3 (0 : Fin 1) a (⟨b.val - o, h.2⟩ : Fin 512)) else f (ix3 s a b) := by
  subst e
  unfold stgW
  split_ifs with h
  · have e : (ix3 s a b : S3x512x2048.Idx) = (stgM.access (Rect.unit (s := S3x512x2048) ![s.val, 0, o] S1x512x512.size hh)).emb (ix3 (0 : Fin 1) a (⟨b.val - o, h.2⟩ : Fin 512) : S1x512x512.Idx) := by
      show _ = (Rect.unit (s := S3x512x2048) ![s.val, 0, o] S1x512x512.size hh).emb (ix3 (0 : Fin 1) a (⟨b.val - o, h.2⟩ : Fin 512) : S1x512x512.Idx)
      funext x; apply Fin.ext; rw [Rect.emb_apply]
      fin_cases x
      · show s.val = s.val + 1 * 0; omega
      · show a.val = 0 + 1 * a.val; omega
      · show b.val = o + 1 * (b.val - o); omega
    rw [e]
    exact View.write_emb_of_mem (v := stgM.access (Rect.unit (s := S3x512x2048) ![s.val, 0, o] S1x512x512.size hh)) f P (Finset.mem_univ _)
  · refine View.write_of_not_mem (v := stgM.access (Rect.unit (s := S3x512x2048) ![s.val, 0, o] S1x512x512.size hh)) f P _ ?_
    intro hm
    obtain ⟨y, -, hy⟩ := Finset.mem_map.1 hm
    have h2 : ((stgM.access (Rect.unit (s := S3x512x2048) ![s.val, 0, o] S1x512x512.size hh)).emb y : S3x512x2048.Idx) 2 = b := by rw [hy]; rfl
    have h3 : o + 1 * (y 2).val = b.val := congrArg Fin.val h2
    have h4 : (y 2).val < 512 := (y 2).isLt
    exact h ⟨by omega, by omega⟩

/-- A score slot after its four column stores. -/
theorem slot_read4 (s : Fin 3) (f : S3x512x2048.Idx → Elt F .f32) (o0 o1 o2 o3 : Fin 3 → ℕ)
    (e0 : o0 = ![s.val, 0, 0]) (e1 : o1 = ![s.val, 0, 512]) (e2 : o2 = ![s.val, 0, 1024]) (e3 : o3 = ![s.val, 0, 1536])
    (h0 : ∀ a, o0 a + S1x512x512.size a ≤ S3x512x2048.size a) (h1 : ∀ a, o1 a + S1x512x512.size a ≤ S3x512x2048.size a)
    (h2 : ∀ a, o2 a + S1x512x512.size a ≤ S3x512x2048.size a) (h3 : ∀ a, o3 a + S1x512x512.size a ≤ S3x512x2048.size a)
    (P0 P1 P2 P3 : FVec F S1x512x512 .f32) :
    View.read (Elt F) (rslot s).view
      (View.write (Elt F) (stgM.access (Rect.unit (s := S3x512x2048) o3 S1x512x512.size h3))
        (View.write (Elt F) (stgM.access (Rect.unit (s := S3x512x2048) o2 S1x512x512.size h2))
          (View.write (Elt F) (stgM.access (Rect.unit (s := S3x512x2048) o1 S1x512x512.size h1))
            (View.write (Elt F) (stgM.access (Rect.unit (s := S3x512x2048) o0 S1x512x512.size h0)) f P0 Finset.univ)
            P1 Finset.univ) P2 Finset.univ) P3 Finset.univ)
      = cols4 P0 P1 P2 P3 := by
  funext y
  obtain ⟨a, b, rfl⟩ : ∃ (a : Fin 512) (b : Fin 2048), y = (ix2 a b : S512x2048.Idx) := ⟨y 0, y 1, by funext x; fin_cases x <;> rfl⟩
  have hb : b.val < 2048 := b.isLt
  have hem := rslot_emb s a b
  refine (cast_eq _ _).trans ?_
  refine (congrArg (View.write (Elt F) (stgM.access (Rect.unit (s := S3x512x2048) o3 S1x512x512.size h3)) _ P3 Finset.univ) hem).trans ?_
  show stgW o3 h3 (stgW o2 h2 (stgW o1 h1 (stgW o0 h0 f P0) P1) P2) P3 (ix3 s a b) = _
  rw [stg_write s 1536 o3 e3, stg_write s 1024 o2 e2, stg_write s 512 o1 e1, stg_write s 0 o0 e0, cols4_ix]
  by_cases c0 : b.val < 512
  · rw [dif_neg (by omega), dif_neg (by omega), dif_neg (by omega), dif_pos (by omega), dif_pos c0]; rfl
  · rw [dif_neg c0]
    by_cases c1 : b.val - 512 < 512
    · rw [dif_neg (by omega), dif_neg (by omega), dif_pos (by omega), dif_pos c1]
    · rw [dif_neg c1]
      by_cases c2 : b.val - 1024 < 512
      · rw [dif_neg (by omega), dif_pos (by omega), dif_pos c2]
      · rw [dif_neg c2, dif_pos (by omega)]
        congr 2; apply Fin.ext; show b.val - 1536 = (b.val - 1536) % 512; omega

theorem cslot_emb (s : Fin 2) (a : Fin 512) (b : Fin 256) :
    ((cslot s).view.emb (ix2 a b : S512x256.Idx) : S2x512x256.Idx) = ix3 s a b := by
  have e : (Shape.reshapeEquiv squeezes_S1x512x256_S512x256.numel_eq (ix2 a b : S512x256.Idx)) = ix3 (⟨0, Nat.one_pos⟩ : Fin 1) a b :=
    reshapeEquiv_ix2_1ab _ a b
  show (Rect.unit (s := S2x512x256) (cslotOff s) S1x512x256.size (cslotOff_inb s)).emb
      (Shape.reshapeEquiv squeezes_S1x512x256_S512x256.numel_eq (ix2 a b : S512x256.Idx)) = _
  rw [e]
  funext x; apply Fin.ext; rw [Rect.emb_apply]
  fin_cases x
  · show s.val + 1 * 0 = s.val; omega
  · show 0 + 1 * a.val = a.val; omega
  · show 0 + 1 * b.val = b.val; omega

/-- A context slot after its one store. -/
theorem cslot_read (s : Fin 2) (f : S2x512x256.Idx → Elt F .bf16) (o : Fin 3 → ℕ) (e : o = cslotOff s)
    (hh : ∀ a, o a + S1x512x256.size a ≤ S2x512x256.size a) (P : FVec F S512x256 .bf16) :
    View.read (Elt F) (cslot s).view
      (View.write (Elt F) (cstM.access (Rect.unit (s := S2x512x256) o S1x512x256.size hh)) f
        (shapeCast S1x512x256 P shapeCasts_S512x256_S1x512x256) Finset.univ) = P := by
  subst e
  funext y
  have ey : y = (ix2 (y 0) (y 1) : S512x256.Idx) := by funext x; fin_cases x <;> rfl
  have hem : ((cslot s).view.emb y : S2x512x256.Idx)
      = (cstM.access (Rect.unit (s := S2x512x256) (cslotOff s) S1x512x256.size hh)).emb (ix3 (0 : Fin 1) (y 0) (y 1) : S1x512x256.Idx) := by
    conv_lhs => rw [ey]
    refine (cslot_emb s (y 0) (y 1)).trans ?_
    show _ = (Rect.unit (s := S2x512x256) (cslotOff s) S1x512x256.size hh).emb (ix3 (0 : Fin 1) (y 0) (y 1) : S1x512x256.Idx)
    funext x; apply Fin.ext; rw [Rect.emb_apply]
    fin_cases x
    · show s.val = s.val + 1 * 0; omega
    · show (y 0).val = 0 + 1 * (y 0).val; omega
    · show (y 1).val = 0 + 1 * (y 1).val; omega
  refine (cast_eq _ _).trans ?_
  refine (congrArg (View.write (Elt F) (cstM.access (Rect.unit (s := S2x512x256) (cslotOff s) S1x512x256.size hh)) f _ Finset.univ) hem).trans ?_
  refine (View.write_emb_of_mem (v := cstM.access (Rect.unit (s := S2x512x256) (cslotOff s) S1x512x256.size hh)) f _ (Finset.mem_univ _)).trans ?_
  refine (cast_eq _ _).trans ?_
  refine (shapeCast_ab_1ab_apply P _ _ _ _).trans ?_
  conv_rhs => rw [ey]

/-- The context slot after the first band's store at a pair's first point, the payload written as the body computes it. -/
theorem cslot_512 (s : Fin 2) (f : S2x512x256.Idx → Elt F .bf16) (o : Fin 3 → ℕ) (e : o = cslotOff s)
    (hh : ∀ a, o a + S1x512x256.size a ≤ S2x512x256.size a) (q0 q1 q2 q3 k0 k1 k2 k3 v0 v1 v2 v3 : Vec F S1x512x64 .bf16)
    (xq : Vec F S1x512x256 .bf16) (xk xv : Vec F S1x2048x256 .bf16)
    (hq0 : q0 = ldq xq 0) (hq1 : q1 = ldq xq 1) (hq2 : q2 = ldq xq 2) (hq3 : q3 = ldq xq 3)
    (hk0 : k0 = ldk512 xk 0) (hk1 : k1 = ldk512 xk 1) (hk2 : k2 = ldk512 xk 2) (hk3 : k3 = ldk512 xk 3)
    (hv0 : v0 = ldk512 xv 0) (hv1 : v1 = ldk512 xv 1) (hv2 : v2 = ldk512 xv 2) (hv3 : v3 = ldk512 xv 3) :
    View.read (Elt F) (cslot s).view
      (View.write (Elt F) (cstM.access (Rect.unit (s := S2x512x256) o S1x512x256.size hh)) f
        (k1_pay33 (k1_pay8 (k1_pay2 (v0)) (k1_pay3 q0 k0)) (k1_pay15 (k1_pay9 v1) (k1_pay10 k1_pay1 q1 k1))
          (k1_pay24 (k1_pay18 v2) (k1_pay19 k1_pay1 (k1_pay16 q2) (k1_pay17 k2))) (k1_pay25 v3)
          (k1_pay28 (k1_pay26 k1_pay1 q3 k3) (k1_pay27 k1_pay1 q3 k3))) Finset.univ) = ctx512 xq xk xv := by
  have hc : k1_pay33 (k1_pay8 (k1_pay2 (v0)) (k1_pay3 q0 k0)) (k1_pay15 (k1_pay9 v1) (k1_pay10 k1_pay1 q1 k1))
          (k1_pay24 (k1_pay18 v2) (k1_pay19 k1_pay1 (k1_pay16 q2) (k1_pay17 k2))) (k1_pay25 v3)
          (k1_pay28 (k1_pay26 k1_pay1 q3 k3) (k1_pay27 k1_pay1 q3 k3))
      = shapeCast S1x512x256 (ctxBlk (hd512 v0 (pr512 q0 k0)) (hd512 v1 (pr512 q1 k1)) (hd512 v2 (pr512 q2 k2)) (hd512 v3 (pr512 q3 k3))) shapeCasts_S512x256_S1x512x256 := rfl
  rw [hc, cslot_read s f o e hh]
  subst hq0 hq1 hq2 hq3 hk0 hk1 hk2 hk3 hv0 hv1 hv2 hv3
  rfl

/-- A block of the scores after a transfer of `X` into it. -/
theorem pc_landed (g : Fin 256) (f) (X : FVec F S512x2048 .f32) :
    View.read (Elt F) (pc g).view ((pc g).view.writes (Elt F) f [⟨Rect.whole S512x2048, X⟩]) = X := by
  rw [← View.write_univ_eq_writes_whole]; exact View.read_write_univ _ _
/-- A block of the context after a transfer of `X` into it. -/
theorem cpc_landed (g : Fin 64) (f) (X : FVec F S512x256 .bf16) :
    View.read (Elt F) (cpc g).view ((cpc g).view.writes (Elt F) f [⟨Rect.whole S512x256, X⟩]) = X := by
  rw [← View.write_univ_eq_writes_whole]; exact View.read_write_univ _ _

end Cert.KernelIdeal.Attn
-- ==== Proof.IAttnRes.lean ====
/-
  The resources of the attention kernel's body: blocks of the results as they were, as they will be, and in flight.
-/
module

public import proofs.«01_k».proof.Proof.IAttnVals

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- Score slot `s` holding `f`. -/
abbrev slotP (c : Dev nD) (s : Fin 3) (f : Buf (Elt F) ((rslot s).view.loc (c : Thread nD τ))) : sProp 𝕄 :=
  (rslot s).view.loc (c : Thread nD τ) ↦[(rslot s).view.set]{fullShare} f
/-- Score block `g` of the result holding `f`. -/
abbrev pcP (c : Dev nD) (g : Fin 256) (f : Buf (Elt F) ((pc g).view.loc (c : Thread nD τ))) : sProp 𝕄 :=
  (pc g).view.loc (c : Thread nD τ) ↦[(pc g).view.set]{fullShare} f
abbrev cslotP (c : Dev nD) (s : Fin 2) (f : Buf (Elt F) ((cslot s).view.loc (c : Thread nD τ))) : sProp 𝕄 :=
  (cslot s).view.loc (c : Thread nD τ) ↦[(cslot s).view.set]{fullShare} f
abbrev cpcP (c : Dev nD) (g : Fin 64) (f : Buf (Elt F) ((cpc g).view.loc (c : Thread nD τ))) : sProp 𝕄 :=
  (cpc g).view.loc (c : Thread nD τ) ↦[(cpc g).view.set]{fullShare} f
/-- A transfer out of score slot `s` into score block `g`, under way. -/
abbrev flP (c : Dev nD) (s : Fin 3) (g : Fin 256) (fd : Buf (Elt F) ((pc g).view.loc (c : Thread nD τ)))
    (fs : Buf (Elt F) ((rslot s).view.loc (c : Thread nD τ))) : sProp 𝕄 :=
  Transfers.Flight countersEmb (c : Thread nD τ) (SemLoc.dma (csm s).sem) () 131072 iprop(pcP c g fd ∗ slotP c s fs)
abbrev cflP (c : Dev nD) (s : Fin 2) (g : Fin 64) (fd : Buf (Elt F) ((cpc g).view.loc (c : Thread nD τ)))
    (fs : Buf (Elt F) ((cslot s).view.loc (c : Thread nD τ))) : sProp 𝕄 :=
  Transfers.Flight countersEmb (c : Thread nD τ) (SemLoc.dma (ccsm s).sem) () 8192 iprop(cpcP c g fd ∗ cslotP c s fs)

/-- Score block `g` before its transfer, holding anything. -/
def pcI (c : Dev nD) (g : Fin 256) : sProp 𝕄 := iprop(∃ f, pcP (F := F) c g f)
/-- Score block `g` holding the values `y`. -/
def pcD (c : Dev nD) (g : Fin 256) (y : FVec F S512x2048 .f32) : sProp 𝕄 :=
  iprop(∃ f, ⌜View.read (Elt F) (pc g).view f = y⌝ ∗ pcP (F := F) c g f)
/-- Score block `g` about to receive `y` from slot `s`. -/
def pcF (c : Dev nD) (s : Fin 3) (g : Fin 256) (y : FVec F S512x2048 .f32) : sProp 𝕄 :=
  iprop(∃ fd fs, ⌜View.read (Elt F) (pc g).view fd = y⌝ ∗ flP (F := F) c s g fd fs)
/-- Score slot `s` at rest, its semaphore zero. -/
def slotZ (c : Dev nD) (s : Fin 3) : sProp 𝕄 :=
  iprop((∃ f, slotP (F := F) c s f) ∗ semVal ((c : Thread nD τ), SemLoc.dma (csm s).sem) 0)
def cpcI (c : Dev nD) (g : Fin 64) : sProp 𝕄 := iprop(∃ f, cpcP (F := F) c g f)
def cpcD (c : Dev nD) (g : Fin 64) (y : FVec F S512x256 .bf16) : sProp 𝕄 :=
  iprop(∃ f, ⌜View.read (Elt F) (cpc g).view f = y⌝ ∗ cpcP (F := F) c g f)
def cpcF (c : Dev nD) (s : Fin 2) (g : Fin 64) (y : FVec F S512x256 .bf16) : sProp 𝕄 :=
  iprop(∃ fd fs, ⌜View.read (Elt F) (cpc g).view fd = y⌝ ∗ cflP (F := F) c s g fd fs)
def cslotZ (c : Dev nD) (s : Fin 2) : sProp 𝕄 :=
  iprop((∃ f, cslotP (F := F) c s f) ∗ semVal ((c : Thread nD τ), SemLoc.dma (ccsm s).sem) 0)
/-- The body owes nothing. -/
def OW (c : Dev nD) : sProp 𝕄 := iprop(∃ W, owes (c : Thread nD τ) 0 W)
/-- The four windows of a point, holding their blocks. -/
def winP (c : Dev nD) (arg3 arg4 : Memref sig .tc .vmem S1x512x256 .bf16) (arg5 arg6 : Memref sig .tc .vmem S1x2048x256 .bf16)
    (x3 x4 : Vec F S1x512x256 .bf16) (x5 x6 : Vec F S1x2048x256 .bf16) : sProp 𝕄 :=
  iprop(owns (c : Thread nD τ) arg3 fullShare x3 ∗ owns (c : Thread nD τ) arg4 fullShare x4
    ∗ owns (c : Thread nD τ) arg5 fullShare x5 ∗ owns (c : Thread nD τ) arg6 fullShare x6)

end Cert.KernelIdeal.Attn
-- ==== Proof.IAttnRun0b.lean ====
/-
  The attention kernel's body at the first point, where nothing is under way.
-/
module

public import proofs.«01_k».proof.Proof.IAttnRes

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at the first point, where nothing is under way. -/
theorem run0b (c : Dev nD) (i : grid1.Coords) (hi : (i 2).val = 0) (hs : stp i = 0)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16) :
    (iprop(winP c arg3 arg4 arg5 arg6 x3 x4 x5 x6
      ∗ slotZ c (sn (stp i) 0)
      ∗ slotZ c (sn (stp i) 1)
      ∗ slotZ c (sn (stp i) 2)
      ∗ cslotZ c 0
      ∗ cslotZ c 1
      ∗ pcI c (gi (hbs i) 0)
      ∗ pcI c (gi (hbs i) 1)
      ∗ pcI c (gi (hbs i) 2)
      ∗ pcI c (gi (hbs i) 3)
      ∗ pcI c (gi (hbs i) 4)
      ∗ pcI c (gi (hbs i) 5)
      ∗ pcI c (gi (hbs i) 6)
      ∗ pcI c (gi (hbs i) 7)
      ∗ cpcI c (ci (hbs i) 0)
      ∗ cpcI c (ci (hbs i) 1)
      ∗ OW c) : sProp 𝕄)
    ⊢ wp frame (wpE (defs₀ (F := F)) Variants.none (c : Thread nD τ) none) Set.univ
        (cc1_attn (F := F) i arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6
      ∗ pcD c (gi (hbs i) 0) (att512 (ldq x3 0) (ldk512 x5 0))
      ∗ pcD c (gi (hbs i) 1) (att512 (ldq x3 1) (ldk512 x5 1))
      ∗ pcD c (gi (hbs i) 2) (att512 (ldq x3 2) (ldk512 x5 2))
      ∗ pcD c (gi (hbs i) 3) (att512 (ldq x3 3) (ldk512 x5 3))
      ∗ pcD c (gi (hbs i) 4) (att2048 (ldq x4 0) (ldk2048 x5 0))
      ∗ pcF c (sn (stp i) 2) (gi (hbs i) 5) (att2048 (ldq x4 1) (ldk2048 x5 1))
      ∗ pcF c (sn (stp i) 0) (gi (hbs i) 6) (att2048 (ldq x4 2) (ldk2048 x5 2))
      ∗ pcF c (sn (stp i) 1) (gi (hbs i) 7) (att2048 (ldq x4 3) (ldk2048 x5 3))
      ∗ cpcF c 0 (ci (hbs i) 0) (ctx512 x3 x5 x6)
      ∗ cpcF c 1 (ci (hbs i) 1) (ctx2048 x4 x5 x6)
      ∗ OW c)) := by
  have h1 : k1_cond1 i = 1#1 := (cond1_iff i).2 hi
  have h12 : ¬ k1_cond12 i = 1#1 := by rw [cond12_iff]; omega
  have h2 : ¬ k1_cond2 i = 1#1 := by rw [cond2_iff]; exact fun h => h hs
  have h3 : ¬ k1_cond3 i = 1#1 := by rw [cond3_iff]; exact fun h => h hs
  have h4 : ¬ k1_cond4 i = 1#1 := by rw [cond4_iff]; exact fun h => h hs
  have h6 : ¬ k1_cond6 i = 1#1 := by rw [cond6_iff]; exact fun h => h hs
  have h11 : ¬ k1_cond11 i = 1#1 := by rw [cond11_iff]; exact fun h => h hs
  have h5 := cond5_true i
  have h7 := cond7_true i
  have h8 := cond8_true i
  have h9 := cond9_true i
  have h10 := cond10_true i
  have h23 : ¬ k1_cond23 i = 1#1 := by rw [cond23_iff]; unfold stp at *; omega
  unfold winP slotZ cslotZ pcF cpcF pcI cpcI pcD OW
  iintro ⟨⟨H3, H4, H5, H6⟩, ⟨⟨%fs0, S0⟩, E0⟩, ⟨⟨%fs1, S1⟩, E1⟩, ⟨⟨%fs2, S2⟩, E2⟩, ⟨⟨%cs0, T0⟩, B0⟩, ⟨⟨%cs1, T1⟩, B1⟩, ⟨%p0, P0⟩, ⟨%p1, P1⟩, ⟨%p2, P2⟩, ⟨%p3, P3⟩, ⟨%p4, P4⟩, ⟨%p5, P5⟩, ⟨%p6, P6⟩, ⟨%p7, P7⟩, ⟨%r0, R0⟩, ⟨%r1, R1⟩, ⟨%W, HW⟩⟩
  unfold owns
  icases H3 with ⟨%f3, %ex3, H3⟩
  icases H4 with ⟨%f4, %ex4, H4⟩
  icases H5 with ⟨%f5, %ex5, H5⟩
  icases H6 with ⟨%f6, %ex6, H6⟩
  subst ex3 ex4 ex5 ex6
  simp only [cc1_attn_eq_skeleton]; unfold cc1_attn_skel; sl_exec
  sl_step
  isplitl [H3 H4 H5 H6]
  · isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    · iexists _; isplitr
      swap; · iexact H6
      ipureintro; rfl
  isplitl [P0]
  · iexists _; isplitr
    swap; · iexact P0
    ipureintro; exact (pc_landed _ _ _).trans (slot_read4 (sn (stp i) 0) _ _ _ _ _ (off4_eq i 0 0) (off5_eq i 0 0) (off6_eq i 0 0) (off7_eq i 0 0) _ _ _ _ _ _ _ _)
  isplitl [P1]
  · iexists _; isplitr
    swap; · iexact P1
    ipureintro; exact (pc_landed _ _ _).trans (slot_read4 (sn (stp i) 1) _ _ _ _ _ (off4_eq i 0 1) (off5_eq i 0 1) (off6_eq i 0 1) (off7_eq i 0 1) _ _ _ _ _ _ _ _)
  isplitl [P2]
  · iexists _; isplitr
    swap; · iexact P2
    ipureintro; exact (pc_landed _ _ _).trans (slot_read4 (sn (stp i) 2) _ _ _ _ _ (off4_eq i 0 2) (off5_eq i 0 2) (off6_eq i 0 2) (off7_eq i 0 2) _ _ _ _ _ _ _ _)
  isplitl [P3]
  · iexists _; isplitr
    swap; · iexact P3
    ipureintro; exact (pc_landed _ _ _).trans (slot_read4 (sn (stp i) 0) _ _ _ _ _ (off4_eq i 0 3) (off5_eq i 0 3) (off6_eq i 0 3) (off7_eq i 0 3) _ _ _ _ _ _ _ _)
  isplitl [P4]
  · iexists _; isplitr
    swap; · iexact P4
    ipureintro; exact (pc_landed _ _ _).trans (slot_read4 (sn (stp i) 1) _ _ _ _ _ (off4_eq i 1 0) (off5_eq i 1 0) (off6_eq i 1 0) (off7_eq i 1 0) _ _ _ _ _ _ _ _)
  isplitl [E2]
  · iexists _, _; isplitr
    swap; · iexact E2
    ipureintro; exact (pc_landed _ _ _).trans (slot_read4 (sn (stp i) 2) _ _ _ _ _ (off4_eq i 1 1) (off5_eq i 1 1) (off6_eq i 1 1) (off7_eq i 1 1) _ _ _ _ _ _ _ _)
  isplitl [E0]
  · iexists _, _; isplitr
    swap; · iexact E0
    ipureintro; exact (pc_landed _ _ _).trans (slot_read4 (sn (stp i) 0) _ _ _ _ _ (off4_eq i 1 2) (off5_eq i 1 2) (off6_eq i 1 2) (off7_eq i 1 2) _ _ _ _ _ _ _ _)
  isplitl [E1]
  · iexists _, _; isplitr
    swap; · iexact E1
    ipureintro; exact (pc_landed _ _ _).trans (slot_read4 (sn (stp i) 1) _ _ _ _ _ (off4_eq i 1 3) (off5_eq i 1 3) (off6_eq i 1 3) (off7_eq i 1 3) _ _ _ _ _ _ _ _)
  isplitl [B0]
  · iexists _, _; isplitr
    swap; · iexact B0
    ipureintro; refine (cpc_landed _ _ _).trans (cslot_512 0 _ _ (off23_eq i 0) _ _ _ _ _ _ _ _ _ _ _ _ _ (View.read (Elt F) arg3.view f3) (View.read (Elt F) arg5.view f5) (View.read (Elt F) arg6.view f6) ?_ ?_ ?_ ?_ ?_ ?_ ?_ ?_ ?_ ?_ ?_ ?_) <;> rfl
  isplitl [B1]
  · iexists _, _; isplitr
    swap; · iexact B1
    ipureintro; exact (cpc_landed _ _ _).trans (cslot_read 1 _ _ (off23_eq i 1) _ (ctx2048 (View.read (Elt F) arg4.view f4) (View.read (Elt F) arg5.view f5) (View.read (Elt F) arg6.view f6)))
  iexists _; iexact HW

end Cert.KernelIdeal.Attn
-- ==== Proof.IAttnRun0.lean ====
/-
  The attention kernel's body at a later first point of a pair: three score blocks and two context blocks of the point before are under way, and are waited for.
-/
module

public import proofs.«01_k».proof.Proof.IAttnRes

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at a later first point of a pair: three score blocks and two context blocks of the point before are under way, and are waited for. -/
theorem run0 (c : Dev nD) (i : grid1.Coords) (hi : (i 2).val = 0) (hs : stp i ≠ 0)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16)
    (g0 g1 g2 : Fin 256) (q0 q1 : Fin 64) (y0 y1 y2 : FVec F S512x2048 .f32) (z0 z1 : FVec F S512x256 .bf16) :
    (iprop(winP c arg3 arg4 arg5 arg6 x3 x4 x5 x6
      ∗ pcF c (sn (stp i) 0) g0 y0
      ∗ pcF c (sn (stp i) 1) g1 y1
      ∗ pcF c (sn (stp i) 2) g2 y2
      ∗ cpcF c 0 q0 z0
      ∗ cpcF c 1 q1 z1
      ∗ pcI c (gi (hbs i) 0)
      ∗ pcI c (gi (hbs i) 1)
      ∗ pcI c (gi (hbs i) 2)
      ∗ pcI c (gi (hbs i) 3)
      ∗ pcI c (gi (hbs i) 4)
      ∗ pcI c (gi (hbs i) 5)
      ∗ pcI c (gi (hbs i) 6)
      ∗ pcI c (gi (hbs i) 7)
      ∗ cpcI c (ci (hbs i) 0)
      ∗ cpcI c (ci (hbs i) 1)
      ∗ OW c) : sProp 𝕄)
    ⊢ wp frame (wpE (defs₀ (F := F)) Variants.none (c : Thread nD τ) none) Set.univ
        (cc1_attn (F := F) i arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6
      ∗ pcD c g0 y0
      ∗ pcD c g1 y1
      ∗ pcD c g2 y2
      ∗ cpcD c q0 z0
      ∗ cpcD c q1 z1
      ∗ pcD c (gi (hbs i) 0) (att512 (ldq x3 0) (ldk512 x5 0))
      ∗ pcD c (gi (hbs i) 1) (att512 (ldq x3 1) (ldk512 x5 1))
      ∗ pcD c (gi (hbs i) 2) (att512 (ldq x3 2) (ldk512 x5 2))
      ∗ pcD c (gi (hbs i) 3) (att512 (ldq x3 3) (ldk512 x5 3))
      ∗ pcD c (gi (hbs i) 4) (att2048 (ldq x4 0) (ldk2048 x5 0))
      ∗ pcF c (sn (stp i) 2) (gi (hbs i) 5) (att2048 (ldq x4 1) (ldk2048 x5 1))
      ∗ pcF c (sn (stp i) 0) (gi (hbs i) 6) (att2048 (ldq x4 2) (ldk2048 x5 2))
      ∗ pcF c (sn (stp i) 1) (gi (hbs i) 7) (att2048 (ldq x4 3) (ldk2048 x5 3))
      ∗ cpcF c 0 (ci (hbs i) 0) (ctx512 x3 x5 x6)
      ∗ cpcF c 1 (ci (hbs i) 1) (ctx2048 x4 x5 x6)
      ∗ OW c)) := by
  have h1 : k1_cond1 i = 1#1 := (cond1_iff i).2 hi
  have h12 : ¬ k1_cond12 i = 1#1 := by rw [cond12_iff]; omega
  have h2 : k1_cond2 i = 1#1 := (cond2_iff i).2 hs
  have h3 : k1_cond3 i = 1#1 := (cond3_iff i).2 hs
  have h4 : k1_cond4 i = 1#1 := (cond4_iff i).2 hs
  have h6 : k1_cond6 i = 1#1 := (cond6_iff i).2 hs
  have h11 : k1_cond11 i = 1#1 := (cond11_iff i).2 hs
  have h5 := cond5_true i
  have h7 := cond7_true i
  have h8 := cond8_true i
  have h9 := cond9_true i
  have h10 := cond10_true i
  have h23 : ¬ k1_cond23 i = 1#1 := by rw [cond23_iff]; unfold stp at *; omega
  unfold winP pcF cpcF pcI cpcI pcD cpcD OW
  iintro ⟨⟨H3, H4, H5, H6⟩, ⟨%fd0, %fs0, %e0, HF0⟩, ⟨%fd1, %fs1, %e1, HF1⟩, ⟨%fd2, %fs2, %e2, HF2⟩, ⟨%cd0, %cs0, %ce0, HC0⟩, ⟨%cd1, %cs1, %ce1, HC1⟩, ⟨%p0, P0⟩, ⟨%p1, P1⟩, ⟨%p2, P2⟩, ⟨%p3, P3⟩, ⟨%p4, P4⟩, ⟨%p5, P5⟩, ⟨%p6, P6⟩, ⟨%p7, P7⟩, ⟨%r0, R0⟩, ⟨%r1, R1⟩, ⟨%W, HW⟩⟩
  unfold owns
  icases H3 with ⟨%f3, %ex3, H3⟩
  icases H4 with ⟨%f4, %ex4, H4⟩
  icases H5 with ⟨%f5, %ex5, H5⟩
  icases H6 with ⟨%f6, %ex6, H6⟩
  subst ex3 ex4 ex5 ex6
  simp only [cc1_attn_eq_skeleton]; unfold cc1_attn_skel; sl_exec
  sl_step
  isplitl [H3 H4 H5 H6]
  · isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    · iexists _; isplitr
      swap; · iexact H6
      ipureintro; rfl
  isplitl [HF0_dst]
  · iexists _; isplitr
    swap; · iexact HF0_dst
    ipureintro; exact e0
  isplitl [HF1_dst]
  · iexists _; isplitr
    swap; · iexact HF1_dst
    ipureintro; exact e1
  isplitl [HF2_dst]
  · iexists _; isplitr
    swap; · iexact HF2_dst
    ipureintro; exact e2
  isplitl [HC0_dst]
  · iexists _; isplitr
    swap; · iexact HC0_dst
    ipureintro; exact ce0
  isplitl [HC1_dst]
  · iexists _; isplitr
    swap; · iexact HC1_dst
    ipureintro; exact ce1
  isplitl [P0]
  · iexists _; isplitr
    swap; · iexact P0
    ipureintro; exact (pc_landed _ _ _).trans (slot_read4 (sn (stp i) 0) _ _ _ _ _ (off4_eq i 0 0) (off5_eq i 0 0) (off6_eq i 0 0) (off7_eq i 0 0) _ _ _ _ _ _ _ _)
  isplitl [P1]
  · iexists _; isplitr
    swap; · iexact P1
    ipureintro; exact (pc_landed _ _ _).trans (slot_read4 (sn (stp i) 1) _ _ _ _ _ (off4_eq i 0 1) (off5_eq i 0 1) (off6_eq i 0 1) (off7_eq i 0 1) _ _ _ _ _ _ _ _)
  isplitl [P2]
  · iexists _; isplitr
    swap; · iexact P2
    ipureintro; exact (pc_landed _ _ _).trans (slot_read4 (sn (stp i) 2) _ _ _ _ _ (off4_eq i 0 2) (off5_eq i 0 2) (off6_eq i 0 2) (off7_eq i 0 2) _ _ _ _ _ _ _ _)
  isplitl [P3]
  · iexists _; isplitr
    swap; · iexact P3
    ipureintro; exact (pc_landed _ _ _).trans (slot_read4 (sn (stp i) 0) _ _ _ _ _ (off4_eq i 0 3) (off5_eq i 0 3) (off6_eq i 0 3) (off7_eq i 0 3) _ _ _ _ _ _ _ _)
  isplitl [P4]
  · iexists _; isplitr
    swap; · iexact P4
    ipureintro; exact (pc_landed _ _ _).trans (slot_read4 (sn (stp i) 1) _ _ _ _ _ (off4_eq i 1 0) (off5_eq i 1 0) (off6_eq i 1 0) (off7_eq i 1 0) _ _ _ _ _ _ _ _)
  isplitl [HF2]
  · iexists _, _; isplitr
    swap; · iexact HF2
    ipureintro; exact (pc_landed _ _ _).trans (slot_read4 (sn (stp i) 2) _ _ _ _ _ (off4_eq i 1 1) (off5_eq i 1 1) (off6_eq i 1 1) (off7_eq i 1 1) _ _ _ _ _ _ _ _)
  isplitl [HF0]
  · iexists _, _; isplitr
    swap; · iexact HF0
    ipureintro; exact (pc_landed _ _ _).trans (slot_read4 (sn (stp i) 0) _ _ _ _ _ (off4_eq i 1 2) (off5_eq i 1 2) (off6_eq i 1 2) (off7_eq i 1 2) _ _ _ _ _ _ _ _)
  isplitl [HF1]
  · iexists _, _; isplitr
    swap; · iexact HF1
    ipureintro; exact (pc_landed _ _ _).trans (slot_read4 (sn (stp i) 1) _ _ _ _ _ (off4_eq i 1 3) (off5_eq i 1 3) (off6_eq i 1 3) (off7_eq i 1 3) _ _ _ _ _ _ _ _)
  isplitl [HC0]
  · iexists _, _; isplitr
    swap; · iexact HC0
    ipureintro; refine (cpc_landed _ _ _).trans (cslot_512 0 _ _ (off23_eq i 0) _ _ _ _ _ _ _ _ _ _ _ _ _ (View.read (Elt F) arg3.view f3) (View.read (Elt F) arg5.view f5) (View.read (Elt F) arg6.view f6) ?_ ?_ ?_ ?_ ?_ ?_ ?_ ?_ ?_ ?_ ?_ ?_) <;> rfl
  isplitl [HC1]
  · iexists _, _; isplitr
    swap; · iexact HC1
    ipureintro; exact (cpc_landed _ _ _).trans (cslot_read 1 _ _ (off23_eq i 1) _ (ctx2048 (View.read (Elt F) arg4.view f4) (View.read (Elt F) arg5.view f5) (View.read (Elt F) arg6.view f6)))
  iexists _; iexact HW

end Cert.KernelIdeal.Attn
-- ==== Proof.IAttnRun1.lean ====
/-
  The attention kernel's body at a second point of a pair that is not the last.
-/
module

public import proofs.«01_k».proof.Proof.IAttnRes

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at a second point of a pair that is not the last. -/
theorem run1 (c : Dev nD) (i : grid1.Coords) (hi : (i 2).val = 1) (hs : stp i ≠ 31)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16)
    (g0 g1 g2 : Fin 256) (q0 q1 : Fin 64) (y0 y1 y2 : FVec F S512x2048 .f32) (z0 z1 : FVec F S512x256 .bf16) :
    (iprop(winP c arg3 arg4 arg5 arg6 x3 x4 x5 x6
      ∗ pcF c (sn (stp i) 0) g0 y0
      ∗ pcF c (sn (stp i) 1) g1 y1
      ∗ pcF c (sn (stp i) 2) g2 y2
      ∗ cpcF c 0 q0 z0
      ∗ cpcF c 1 q1 z1
      ∗ pcI c (gi (hbs i + 1) 0)
      ∗ pcI c (gi (hbs i + 1) 1)
      ∗ pcI c (gi (hbs i + 1) 2)
      ∗ pcI c (gi (hbs i + 1) 3)
      ∗ pcI c (gi (hbs i + 1) 4)
      ∗ pcI c (gi (hbs i + 1) 5)
      ∗ pcI c (gi (hbs i + 1) 6)
      ∗ pcI c (gi (hbs i + 1) 7)
      ∗ cpcI c (ci (hbs i + 1) 0)
      ∗ cpcI c (ci (hbs i + 1) 1)
      ∗ OW c) : sProp 𝕄)
    ⊢ wp frame (wpE (defs₀ (F := F)) Variants.none (c : Thread nD τ) none) Set.univ
        (cc1_attn (F := F) i arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6
      ∗ pcD c g0 y0
      ∗ pcD c g1 y1
      ∗ pcD c g2 y2
      ∗ cpcD c q0 z0
      ∗ cpcD c q1 z1
      ∗ pcD c (gi (hbs i + 1) 0) (att1024 (ldq x3 0) (ldk1024 x5 0))
      ∗ pcD c (gi (hbs i + 1) 1) (att1024 (ldq x3 1) (ldk1024 x5 1))
      ∗ pcD c (gi (hbs i + 1) 2) (att1024 (ldq x3 2) (ldk1024 x5 2))
      ∗ pcD c (gi (hbs i + 1) 3) (att1024 (ldq x3 3) (ldk1024 x5 3))
      ∗ pcD c (gi (hbs i + 1) 4) (att1536 (ldq x4 0) (ldk1536 x5 0))
      ∗ pcF c (sn (stp i) 2) (gi (hbs i + 1) 5) (att1536 (ldq x4 1) (ldk1536 x5 1))
      ∗ pcF c (sn (stp i) 0) (gi (hbs i + 1) 6) (att1536 (ldq x4 2) (ldk1536 x5 2))
      ∗ pcF c (sn (stp i) 1) (gi (hbs i + 1) 7) (att1536 (ldq x4 3) (ldk1536 x5 3))
      ∗ cpcF c 0 (ci (hbs i + 1) 0) (ctx1024 x3 x5 x6)
      ∗ cpcF c 1 (ci (hbs i + 1) 1) (ctx1536 x4 x5 x6)
      ∗ OW c)) := by
  have h1 : ¬ k1_cond1 i = 1#1 := by rw [cond1_iff]; omega
  have h12 : k1_cond12 i = 1#1 := (cond12_iff i).2 hi
  have h13 := cond13_true i hi
  have h14 := cond14_true i hi
  have h15 := cond15_true i hi
  have h16 := cond16_true i hi
  have h17 := cond17_true i hi
  have h18 := cond18_true i hi
  have h19 := cond19_true i hi
  have h20 := cond20_true i hi
  have h21 := cond21_true i hi
  have h22 := cond22_true i hi
  have h23 : ¬ k1_cond23 i = 1#1 := by rw [cond23_iff]; exact hs
  unfold winP pcF cpcF pcI cpcI pcD cpcD OW
  iintro ⟨⟨H3, H4, H5, H6⟩, ⟨%fd0, %fs0, %e0, HF0⟩, ⟨%fd1, %fs1, %e1, HF1⟩, ⟨%fd2, %fs2, %e2, HF2⟩, ⟨%cd0, %cs0, %ce0, HC0⟩, ⟨%cd1, %cs1, %ce1, HC1⟩, ⟨%p0, P0⟩, ⟨%p1, P1⟩, ⟨%p2, P2⟩, ⟨%p3, P3⟩, ⟨%p4, P4⟩, ⟨%p5, P5⟩, ⟨%p6, P6⟩, ⟨%p7, P7⟩, ⟨%r0, R0⟩, ⟨%r1, R1⟩, ⟨%W, HW⟩⟩
  unfold owns
  icases H3 with ⟨%f3, %ex3, H3⟩
  icases H4 with ⟨%f4, %ex4, H4⟩
  icases H5 with ⟨%f5, %ex5, H5⟩
  icases H6 with ⟨%f6, %ex6, H6⟩
  subst ex3 ex4 ex5 ex6
  simp only [cc1_attn_eq_skeleton]; unfold cc1_attn_skel; sl_exec
  sl_step
  isplitl [H3 H4 H5 H6]
  · isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    · iexists _; isplitr
      swap; · iexact H6
      ipureintro; rfl
  isplitl [HF0_dst]
  · iexists _; isplitr
    swap; · iexact HF0_dst
    ipureintro; exact e0
  isplitl [HF1_dst]
  · iexists _; isplitr
    swap; · iexact HF1_dst
    ipureintro; exact e1
  isplitl [HF2_dst]
  · iexists _; isplitr
    swap; · iexact HF2_dst
    ipureintro; exact e2
  isplitl [HC0_dst]
  · iexists _; isplitr
    swap; · iexact HC0_dst
    ipureintro; exact ce0
  isplitl [HC1_dst]
  · iexists _; isplitr
    swap; · iexact HC1_dst
    ipureintro; exact ce1
  isplitl [P0]
  · iexists _; isplitr
    swap; · iexact P0
    ipureintro; exact (pc_landed _ _ _).trans (slot_read4 (sn (stp i) 0) _ _ _ _ _ (off47_eq i 0 0) (off48_eq i 0 0) (off49_eq i 0 0) (off50_eq i 0 0) _ _ _ _ _ _ _ _)
  isplitl [P1]
  · iexists _; isplitr
    swap; · iexact P1
    ipureintro; exact (pc_landed _ _ _).trans (slot_read4 (sn (stp i) 1) _ _ _ _ _ (off47_eq i 0 1) (off48_eq i 0 1) (off49_eq i 0 1) (off50_eq i 0 1) _ _ _ _ _ _ _ _)
  isplitl [P2]
  · iexists _; isplitr
    swap; · iexact P2
    ipureintro; exact (pc_landed _ _ _).trans (slot_read4 (sn (stp i) 2) _ _ _ _ _ (off47_eq i 0 2) (off48_eq i 0 2) (off49_eq i 0 2) (off50_eq i 0 2) _ _ _ _ _ _ _ _)
  isplitl [P3]
  · iexists _; isplitr
    swap; · iexact P3
    ipureintro; exact (pc_landed _ _ _).trans (slot_read4 (sn (stp i) 0) _ _ _ _ _ (off47_eq i 0 3) (off48_eq i 0 3) (off49_eq i 0 3) (off50_eq i 0 3) _ _ _ _ _ _ _ _)
  isplitl [P4]
  · iexists _; isplitr
    swap; · iexact P4
    ipureintro; exact (pc_landed _ _ _).trans (slot_read4 (sn (stp i) 1) _ _ _ _ _ (off47_eq i 1 0) (off48_eq i 1 0) (off49_eq i 1 0) (off50_eq i 1 0) _ _ _ _ _ _ _ _)
  isplitl [HF2]
  · iexists _, _; isplitr
    swap; · iexact HF2
    ipureintro; exact (pc_landed _ _ _).trans (slot_read4 (sn (stp i) 2) _ _ _ _ _ (off47_eq i 1 1) (off48_eq i 1 1) (off49_eq i 1 1) (off50_eq i 1 1) _ _ _ _ _ _ _ _)
  isplitl [HF0]
  · iexists _, _; isplitr
    swap; · iexact HF0
    ipureintro; exact (pc_landed _ _ _).trans (slot_read4 (sn (stp i) 0) _ _ _ _ _ (off47_eq i 1 2) (off48_eq i 1 2) (off49_eq i 1 2) (off50_eq i 1 2) _ _ _ _ _ _ _ _)
  isplitl [HF1]
  · iexists _, _; isplitr
    swap; · iexact HF1
    ipureintro; exact (pc_landed _ _ _).trans (slot_read4 (sn (stp i) 1) _ _ _ _ _ (off47_eq i 1 3) (off48_eq i 1 3) (off49_eq i 1 3) (off50_eq i 1 3) _ _ _ _ _ _ _ _)
  isplitl [HC0]
  · iexists _, _; isplitr
    swap; · iexact HC0
    ipureintro; exact (cpc_landed _ _ _).trans (cslot_read 0 _ _ (off66_eq i 0) _ (ctx1024 (View.read (Elt F) arg3.view f3) (View.read (Elt F) arg5.view f5) (View.read (Elt F) arg6.view f6)))
  isplitl [HC1]
  · iexists _, _; isplitr
    swap; · iexact HC1
    ipureintro; exact (cpc_landed _ _ _).trans (cslot_read 1 _ _ (off66_eq i 1) _ (ctx1536 (View.read (Elt F) arg4.view f4) (View.read (Elt F) arg5.view f5) (View.read (Elt F) arg6.view f6)))
  iexists _; iexact HW

end Cert.KernelIdeal.Attn
-- ==== Proof.IAttnRun1l.lean ====
/-
  The attention kernel's body at the last point, which waits for everything it sends.
-/
module

public import proofs.«01_k».proof.Proof.IAttnRes

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at the last point, which waits for everything it sends. -/
theorem run1l (c : Dev nD) (i : grid1.Coords) (hi : (i 2).val = 1) (hs : stp i = 31)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16)
    (g0 g1 g2 : Fin 256) (q0 q1 : Fin 64) (y0 y1 y2 : FVec F S512x2048 .f32) (z0 z1 : FVec F S512x256 .bf16) :
    (iprop(winP c arg3 arg4 arg5 arg6 x3 x4 x5 x6
      ∗ pcF c (sn (stp i) 0) g0 y0
      ∗ pcF c (sn (stp i) 1) g1 y1
      ∗ pcF c (sn (stp i) 2) g2 y2
      ∗ cpcF c 0 q0 z0
      ∗ cpcF c 1 q1 z1
      ∗ pcI c (gi (hbs i + 1) 0)
      ∗ pcI c (gi (hbs i + 1) 1)
      ∗ pcI c (gi (hbs i + 1) 2)
      ∗ pcI c (gi (hbs i + 1) 3)
      ∗ pcI c (gi (hbs i + 1) 4)
      ∗ pcI c (gi (hbs i + 1) 5)
      ∗ pcI c (gi (hbs i + 1) 6)
      ∗ pcI c (gi (hbs i + 1) 7)
      ∗ cpcI c (ci (hbs i + 1) 0)
      ∗ cpcI c (ci (hbs i + 1) 1)
      ∗ OW c) : sProp 𝕄)
    ⊢ wp frame (wpE (defs₀ (F := F)) Variants.none (c : Thread nD τ) none) Set.univ
        (cc1_attn (F := F) i arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6
      ∗ pcD c g0 y0
      ∗ pcD c g1 y1
      ∗ pcD c g2 y2
      ∗ cpcD c q0 z0
      ∗ cpcD c q1 z1
      ∗ pcD c (gi (hbs i + 1) 0) (att1024 (ldq x3 0) (ldk1024 x5 0))
      ∗ pcD c (gi (hbs i + 1) 1) (att1024 (ldq x3 1) (ldk1024 x5 1))
      ∗ pcD c (gi (hbs i + 1) 2) (att1024 (ldq x3 2) (ldk1024 x5 2))
      ∗ pcD c (gi (hbs i + 1) 3) (att1024 (ldq x3 3) (ldk1024 x5 3))
      ∗ pcD c (gi (hbs i + 1) 4) (att1536 (ldq x4 0) (ldk1536 x5 0))
      ∗ pcD c (gi (hbs i + 1) 5) (att1536 (ldq x4 1) (ldk1536 x5 1))
      ∗ pcD c (gi (hbs i + 1) 6) (att1536 (ldq x4 2) (ldk1536 x5 2))
      ∗ pcD c (gi (hbs i + 1) 7) (att1536 (ldq x4 3) (ldk1536 x5 3))
      ∗ cpcD c (ci (hbs i + 1) 0) (ctx1024 x3 x5 x6)
      ∗ cpcD c (ci (hbs i + 1) 1) (ctx1536 x4 x5 x6)
      ∗ slotZ c 0
      ∗ slotZ c 1
      ∗ slotZ c 2
      ∗ cslotZ c 0
      ∗ cslotZ c 1
      ∗ OW c)) := by
  have h1 : ¬ k1_cond1 i = 1#1 := by rw [cond1_iff]; omega
  have h12 : k1_cond12 i = 1#1 := (cond12_iff i).2 hi
  have h13 := cond13_true i hi
  have h14 := cond14_true i hi
  have h15 := cond15_true i hi
  have h16 := cond16_true i hi
  have h17 := cond17_true i hi
  have h18 := cond18_true i hi
  have h19 := cond19_true i hi
  have h20 := cond20_true i hi
  have h21 := cond21_true i hi
  have h22 := cond22_true i hi
  unfold winP slotZ cslotZ pcF cpcF pcI cpcI pcD cpcD OW
  iintro ⟨⟨H3, H4, H5, H6⟩, ⟨%fd0, %fs0, %e0, HF0⟩, ⟨%fd1, %fs1, %e1, HF1⟩, ⟨%fd2, %fs2, %e2, HF2⟩, ⟨%cd0, %cs0, %ce0, HC0⟩, ⟨%cd1, %cs1, %ce1, HC1⟩, ⟨%p0, P0⟩, ⟨%p1, P1⟩, ⟨%p2, P2⟩, ⟨%p3, P3⟩, ⟨%p4, P4⟩, ⟨%p5, P5⟩, ⟨%p6, P6⟩, ⟨%p7, P7⟩, ⟨%r0, R0⟩, ⟨%r1, R1⟩, ⟨%W, HW⟩⟩
  unfold owns
  icases H3 with ⟨%f3, %ex3, H3⟩
  icases H4 with ⟨%f4, %ex4, H4⟩
  icases H5 with ⟨%f5, %ex5, H5⟩
  icases H6 with ⟨%f6, %ex6, H6⟩
  subst ex3 ex4 ex5 ex6
  simp only [cc1_attn_eq_skeleton]; unfold cc1_attn_skel; sl_exec
  have en0 : sn (stp i) 0 = 2 := by rw [hs]; rfl
  have en1 : sn (stp i) 1 = 0 := by rw [hs]; rfl
  have en2 : sn (stp i) 2 = 1 := by rw [hs]; rfl
  ihave KF2 : pcF c (sn (stp i) 2) (gi (hbs i + 1) 5) (att1536 (ldq (View.read (Elt F) arg4.view f4) 1) (ldk1536 (View.read (Elt F) arg5.view f5) 1)) $$ [HF2]
  · unfold pcF; iexists _, _; isplitr
    swap; · iexact HF2
    ipureintro; exact (pc_landed _ _ _).trans (slot_read4 (sn (stp i) 2) _ _ _ _ _ (off47_eq i 1 1) (off48_eq i 1 1) (off49_eq i 1 1) (off50_eq i 1 1) _ _ _ _ _ _ _ _)
  ihave KF0 : pcF c (sn (stp i) 0) (gi (hbs i + 1) 6) (att1536 (ldq (View.read (Elt F) arg4.view f4) 2) (ldk1536 (View.read (Elt F) arg5.view f5) 2)) $$ [HF0]
  · unfold pcF; iexists _, _; isplitr
    swap; · iexact HF0
    ipureintro; exact (pc_landed _ _ _).trans (slot_read4 (sn (stp i) 0) _ _ _ _ _ (off47_eq i 1 2) (off48_eq i 1 2) (off49_eq i 1 2) (off50_eq i 1 2) _ _ _ _ _ _ _ _)
  ihave KF1 : pcF c (sn (stp i) 1) (gi (hbs i + 1) 7) (att1536 (ldq (View.read (Elt F) arg4.view f4) 3) (ldk1536 (View.read (Elt F) arg5.view f5) 3)) $$ [HF1]
  · unfold pcF; iexists _, _; isplitr
    swap; · iexact HF1
    ipureintro; exact (pc_landed _ _ _).trans (slot_read4 (sn (stp i) 1) _ _ _ _ _ (off47_eq i 1 3) (off48_eq i 1 3) (off49_eq i 1 3) (off50_eq i 1 3) _ _ _ _ _ _ _ _)
  rw [en0, en1, en2]
  unfold pcF
  icases KF0 with ⟨%gd0, %gs0, %ge0, KF0⟩
  icases KF1 with ⟨%gd1, %gs1, %ge1, KF1⟩
  icases KF2 with ⟨%gd2, %gs2, %ge2, KF2⟩
  have h23 : k1_cond23 i = 1#1 := (cond23_iff i).2 hs
  sl_exec
  sl_step
  isplitl [H3 H4 H5 H6]
  · isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    · iexists _; isplitr
      swap; · iexact H6
      ipureintro; rfl
  isplitl [HF0_dst]
  · iexists _; isplitr
    swap; · iexact HF0_dst
    ipureintro; exact e0
  isplitl [HF1_dst]
  · iexists _; isplitr
    swap; · iexact HF1_dst
    ipureintro; exact e1
  isplitl [HF2_dst]
  · iexists _; isplitr
    swap; · iexact HF2_dst
    ipureintro; exact e2
  isplitl [HC0_dst]
  · iexists _; isplitr
    swap; · iexact HC0_dst
    ipureintro; exact ce0
  isplitl [HC1_dst]
  · iexists _; isplitr
    swap; · iexact HC1_dst
    ipureintro; exact ce1
  isplitl [P0]
  · iexists _; isplitr
    swap; · iexact P0
    ipureintro; exact (pc_landed _ _ _).trans (slot_read4 (sn (stp i) 0) _ _ _ _ _ (off47_eq i 0 0) (off48_eq i 0 0) (off49_eq i 0 0) (off50_eq i 0 0) _ _ _ _ _ _ _ _)
  isplitl [P1]
  · iexists _; isplitr
    swap; · iexact P1
    ipureintro; exact (pc_landed _ _ _).trans (slot_read4 (sn (stp i) 1) _ _ _ _ _ (off47_eq i 0 1) (off48_eq i 0 1) (off49_eq i 0 1) (off50_eq i 0 1) _ _ _ _ _ _ _ _)
  isplitl [P2]
  · iexists _; isplitr
    swap; · iexact P2
    ipureintro; exact (pc_landed _ _ _).trans (slot_read4 (sn (stp i) 2) _ _ _ _ _ (off47_eq i 0 2) (off48_eq i 0 2) (off49_eq i 0 2) (off50_eq i 0 2) _ _ _ _ _ _ _ _)
  isplitl [P3]
  · iexists _; isplitr
    swap; · iexact P3
    ipureintro; exact (pc_landed _ _ _).trans (slot_read4 (sn (stp i) 0) _ _ _ _ _ (off47_eq i 0 3) (off48_eq i 0 3) (off49_eq i 0 3) (off50_eq i 0 3) _ _ _ _ _ _ _ _)
  isplitl [P4]
  · iexists _; isplitr
    swap; · iexact P4
    ipureintro; exact (pc_landed _ _ _).trans (slot_read4 (sn (stp i) 1) _ _ _ _ _ (off47_eq i 1 0) (off48_eq i 1 0) (off49_eq i 1 0) (off50_eq i 1 0) _ _ _ _ _ _ _ _)
  isplitl [KF2_dst]
  · iexists _; isplitr
    swap; · iexact KF2_dst
    ipureintro; exact ge2
  isplitl [KF0_dst]
  · iexists _; isplitr
    swap; · iexact KF0_dst
    ipureintro; exact ge0
  isplitl [KF1_dst]
  · iexists _; isplitr
    swap; · iexact KF1_dst
    ipureintro; exact ge1
  isplitl [R0]
  · iexists _; isplitr
    swap; · iexact R0
    ipureintro; exact (cpc_landed _ _ _).trans (cslot_read 0 _ _ (off66_eq i 0) _ (ctx1024 (View.read (Elt F) arg3.view f3) (View.read (Elt F) arg5.view f5) (View.read (Elt F) arg6.view f6)))
  isplitl [R1]
  · iexists _; isplitr
    swap; · iexact R1
    ipureintro; exact (cpc_landed _ _ _).trans (cslot_read 1 _ _ (off66_eq i 1) _ (ctx1536 (View.read (Elt F) arg4.view f4) (View.read (Elt F) arg5.view f5) (View.read (Elt F) arg6.view f6)))
  isplitl [KF1_src KF1]
  · isplitl [KF1_src]
    · iexists _; iexact KF1_src
    iexact KF1
  isplitl [KF2_src KF2]
  · isplitl [KF2_src]
    · iexists _; iexact KF2_src
    iexact KF2
  isplitl [KF0_src KF0]
  · isplitl [KF0_src]
    · iexists _; iexact KF0_src
    iexact KF0
  isplitl [HC0_src HC0]
  · isplitl [HC0_src]
    · iexists _; iexact HC0_src
    iexact HC0
  isplitl [HC1_src HC1]
  · isplitl [HC1_src]
    · iexists _; iexact HC1_src
    iexact HC1
  iexists _; iexact HW

end Cert.KernelIdeal.Attn
-- ==== Proof.IAttnSteps.lean ====
/-
  One step of the attention kernel, in the names of the step's number.

  The values of a step are given for both inner coordinates at once (`attS`, `ctxS`).  The resources of step `s` are
  gathered: the blocks before it (`IA`), the blocks whose transfers it waits for itself (`DA`), the blocks it leaves in
  flight (`FB`, and `DB` when they have arrived), and the slots at rest (`FR`).  The three theorems state the body at the
  first step, at a middle step, and at the last one.
-/
module

public import proofs.«01_k».proof.Proof.IAttnRun0b
public import proofs.«01_k».proof.Proof.IAttnRun0
public import proofs.«01_k».proof.Proof.IAttnRun1
public import proofs.«01_k».proof.Proof.IAttnRun1l
public import Idealize.ShloMosaic.Lib.Pipeline.FrameBody

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The head within its group of the `j`-th score block of a step. -/
def hh (j : ℕ) : Fin 4 := ⟨j % 4, Nat.mod_lt _ (by decide)⟩
/-- The `j`-th score block of a step at inner coordinate `p`. -/
def attS (p j : ℕ) (x3 x4 : Vec F S1x512x256 .bf16) (x5 : Vec F S1x2048x256 .bf16) : FVec F S512x2048 .f32 :=
  if p = 0 then if j < 4 then att512 (ldq x3 (hh j)) (ldk512 x5 (hh j)) else att2048 (ldq x4 (hh j)) (ldk2048 x5 (hh j))
  else if j < 4 then att1024 (ldq x3 (hh j)) (ldk1024 x5 (hh j)) else att1536 (ldq x4 (hh j)) (ldk1536 x5 (hh j))
/-- The `b`-th context block of a step at inner coordinate `p`. -/
def ctxS (p b : ℕ) (x3 x4 : Vec F S1x512x256 .bf16) (x5 x6 : Vec F S1x2048x256 .bf16) : FVec F S512x256 .bf16 :=
  if p = 0 then if b = 0 then ctx512 x3 x5 x6 else ctx2048 x4 x5 x6
  else if b = 0 then ctx1024 x3 x5 x6 else ctx1536 x4 x5 x6

theorem attS_00 (x3 x4 : Vec F S1x512x256 .bf16) (x5 : Vec F S1x2048x256 .bf16) : attS 0 0 x3 x4 x5 = att512 (ldq x3 0) (ldk512 x5 0) := rfl
theorem attS_01 (x3 x4 : Vec F S1x512x256 .bf16) (x5 : Vec F S1x2048x256 .bf16) : attS 0 1 x3 x4 x5 = att512 (ldq x3 1) (ldk512 x5 1) := rfl
theorem attS_02 (x3 x4 : Vec F S1x512x256 .bf16) (x5 : Vec F S1x2048x256 .bf16) : attS 0 2 x3 x4 x5 = att512 (ldq x3 2) (ldk512 x5 2) := rfl
theorem attS_03 (x3 x4 : Vec F S1x512x256 .bf16) (x5 : Vec F S1x2048x256 .bf16) : attS 0 3 x3 x4 x5 = att512 (ldq x3 3) (ldk512 x5 3) := rfl
theorem attS_04 (x3 x4 : Vec F S1x512x256 .bf16) (x5 : Vec F S1x2048x256 .bf16) : attS 0 4 x3 x4 x5 = att2048 (ldq x4 0) (ldk2048 x5 0) := rfl
theorem attS_05 (x3 x4 : Vec F S1x512x256 .bf16) (x5 : Vec F S1x2048x256 .bf16) : attS 0 5 x3 x4 x5 = att2048 (ldq x4 1) (ldk2048 x5 1) := rfl
theorem attS_06 (x3 x4 : Vec F S1x512x256 .bf16) (x5 : Vec F S1x2048x256 .bf16) : attS 0 6 x3 x4 x5 = att2048 (ldq x4 2) (ldk2048 x5 2) := rfl
theorem attS_07 (x3 x4 : Vec F S1x512x256 .bf16) (x5 : Vec F S1x2048x256 .bf16) : attS 0 7 x3 x4 x5 = att2048 (ldq x4 3) (ldk2048 x5 3) := rfl
theorem ctxS_00 (x3 x4 : Vec F S1x512x256 .bf16) (x5 x6 : Vec F S1x2048x256 .bf16) : ctxS 0 0 x3 x4 x5 x6 = ctx512 x3 x5 x6 := rfl
theorem ctxS_01 (x3 x4 : Vec F S1x512x256 .bf16) (x5 x6 : Vec F S1x2048x256 .bf16) : ctxS 0 1 x3 x4 x5 x6 = ctx2048 x4 x5 x6 := rfl
theorem attS_10 (x3 x4 : Vec F S1x512x256 .bf16) (x5 : Vec F S1x2048x256 .bf16) : attS 1 0 x3 x4 x5 = att1024 (ldq x3 0) (ldk1024 x5 0) := rfl
theorem attS_11 (x3 x4 : Vec F S1x512x256 .bf16) (x5 : Vec F S1x2048x256 .bf16) : attS 1 1 x3 x4 x5 = att1024 (ldq x3 1) (ldk1024 x5 1) := rfl
theorem attS_12 (x3 x4 : Vec F S1x512x256 .bf16) (x5 : Vec F S1x2048x256 .bf16) : attS 1 2 x3 x4 x5 = att1024 (ldq x3 2) (ldk1024 x5 2) := rfl
theorem attS_13 (x3 x4 : Vec F S1x512x256 .bf16) (x5 : Vec F S1x2048x256 .bf16) : attS 1 3 x3 x4 x5 = att1024 (ldq x3 3) (ldk1024 x5 3) := rfl
theorem attS_14 (x3 x4 : Vec F S1x512x256 .bf16) (x5 : Vec F S1x2048x256 .bf16) : attS 1 4 x3 x4 x5 = att1536 (ldq x4 0) (ldk1536 x5 0) := rfl
theorem attS_15 (x3 x4 : Vec F S1x512x256 .bf16) (x5 : Vec F S1x2048x256 .bf16) : attS 1 5 x3 x4 x5 = att1536 (ldq x4 1) (ldk1536 x5 1) := rfl
theorem attS_16 (x3 x4 : Vec F S1x512x256 .bf16) (x5 : Vec F S1x2048x256 .bf16) : attS 1 6 x3 x4 x5 = att1536 (ldq x4 2) (ldk1536 x5 2) := rfl
theorem attS_17 (x3 x4 : Vec F S1x512x256 .bf16) (x5 : Vec F S1x2048x256 .bf16) : attS 1 7 x3 x4 x5 = att1536 (ldq x4 3) (ldk1536 x5 3) := rfl
theorem ctxS_10 (x3 x4 : Vec F S1x512x256 .bf16) (x5 x6 : Vec F S1x2048x256 .bf16) : ctxS 1 0 x3 x4 x5 x6 = ctx1024 x3 x5 x6 := rfl
theorem ctxS_11 (x3 x4 : Vec F S1x512x256 .bf16) (x5 x6 : Vec F S1x2048x256 .bf16) : ctxS 1 1 x3 x4 x5 x6 = ctx1536 x4 x5 x6 := rfl

/-- The blocks of step `s` before it. -/
def IA (c : Dev nD) (s : ℕ) : sProp 𝕄 :=
  iprop(pcI c (gi s 0)
    ∗ pcI c (gi s 1)
    ∗ pcI c (gi s 2)
    ∗ pcI c (gi s 3)
    ∗ pcI c (gi s 4)
    ∗ pcI c (gi s 5)
    ∗ pcI c (gi s 6)
    ∗ pcI c (gi s 7)
    ∗ cpcI c (ci s 0) ∗ cpcI c (ci s 1))
/-- The five score blocks step `s` sends and waits for. -/
def DA (c : Dev nD) (s : ℕ) (x3 x4 : Vec F S1x512x256 .bf16) (x5 : Vec F S1x2048x256 .bf16) : sProp 𝕄 :=
  iprop(pcD c (gi s 0) (attS (s % 2) 0 x3 x4 x5)
    ∗ pcD c (gi s 1) (attS (s % 2) 1 x3 x4 x5)
    ∗ pcD c (gi s 2) (attS (s % 2) 2 x3 x4 x5)
    ∗ pcD c (gi s 3) (attS (s % 2) 3 x3 x4 x5)
    ∗ pcD c (gi s 4) (attS (s % 2) 4 x3 x4 x5))
/-- The blocks step `s` leaves in flight, arrived. -/
def DB (c : Dev nD) (s : ℕ) (x3 x4 : Vec F S1x512x256 .bf16) (x5 x6 : Vec F S1x2048x256 .bf16) : sProp 𝕄 :=
  iprop(pcD c (gi s 5) (attS (s % 2) 5 x3 x4 x5)
    ∗ pcD c (gi s 6) (attS (s % 2) 6 x3 x4 x5)
    ∗ pcD c (gi s 7) (attS (s % 2) 7 x3 x4 x5)
    ∗ cpcD c (ci s 0) (ctxS (s % 2) 0 x3 x4 x5 x6)
    ∗ cpcD c (ci s 1) (ctxS (s % 2) 1 x3 x4 x5 x6))
/-- The blocks step `s` leaves in flight. -/
def FB (c : Dev nD) (s : ℕ) (x3 x4 : Vec F S1x512x256 .bf16) (x5 x6 : Vec F S1x2048x256 .bf16) : sProp 𝕄 :=
  iprop(pcF c (sn s 2) (gi s 5) (attS (s % 2) 5 x3 x4 x5)
    ∗ pcF c (sn s 0) (gi s 6) (attS (s % 2) 6 x3 x4 x5)
    ∗ pcF c (sn s 1) (gi s 7) (attS (s % 2) 7 x3 x4 x5)
    ∗ cpcF c 0 (ci s 0) (ctxS (s % 2) 0 x3 x4 x5 x6)
    ∗ cpcF c 1 (ci s 1) (ctxS (s % 2) 1 x3 x4 x5 x6))
/-- The slots at rest. -/
def FR (c : Dev nD) : sProp 𝕄 := iprop(slotZ (F := F) c 0 ∗ slotZ (F := F) c 1 ∗ slotZ (F := F) c 2 ∗ cslotZ (F := F) c 0 ∗ cslotZ (F := F) c 1)

theorem coords_facts : ∀ t : Fin grid1.N, stp (grid1.coords t) = t.val ∧ ((grid1.coords t) 2).val = t.val % 2
    ∧ hbs (grid1.coords t) = t.val - t.val % 2 := by decide +kernel
theorem sn_pred (s j k : ℕ) (h : 0 < s) (e : (j + 2) % 3 = k % 3) : sn s j = sn (s - 1) k := by
  apply Fin.ext; show (8 * s + j) % 3 = (8 * (s - 1) + k) % 3; omega

/-- The same with the values left open. -/
def FY (c : Dev nD) (s : ℕ) (y0 y1 y2 : FVec F S512x2048 .f32) (z0 z1 : FVec F S512x256 .bf16) : sProp 𝕄 :=
  iprop(pcF c (sn s 2) (gi s 5) y0 ∗ pcF c (sn s 0) (gi s 6) y1 ∗ pcF c (sn s 1) (gi s 7) y2 ∗ cpcF c 0 (ci s 0) z0 ∗ cpcF c 1 (ci s 1) z1)
def DY (c : Dev nD) (s : ℕ) (y0 y1 y2 : FVec F S512x2048 .f32) (z0 z1 : FVec F S512x256 .bf16) : sProp 𝕄 :=
  iprop(pcD c (gi s 5) y0 ∗ pcD c (gi s 6) y1 ∗ pcD c (gi s 7) y2 ∗ cpcD c (ci s 0) z0 ∗ cpcD c (ci s 1) z1)

set_option maxHeartbeats 4000000 in
/-- The body at the first step. -/
theorem step_first (c : Dev nD) (t : Fin grid1.N) (ht : t.val = 0)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16) :
    (iprop(winP c arg3 arg4 arg5 arg6 x3 x4 x5 x6 ∗ FR (F := F) c ∗ IA c t.val ∗ OW c) : sProp 𝕄)
    ⊢ wp frame (wpE (defs₀ (F := F)) Variants.none (c : Thread nD τ) none) Set.univ
        (cc1_attn (F := F) (grid1.coords t) arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6 ∗ DA c t.val x3 x4 x5 ∗ FB c t.val x3 x4 x5 x6 ∗ OW c)) := by
  obtain ⟨e1, e2, e3⟩ := coords_facts t
  have hm : t.val % 2 = 0 := by rw [ht]
  have hb : hbs (grid1.coords t) = t.val := by omega
  have H := run0b (F := F) c (grid1.coords t) (by rw [e2]; exact hm) (by rw [e1]; exact ht) arg3 harg3 arg4 harg4 arg5 harg5 arg6 harg6 x3 x4 x5 x6
  rw [hb] at H
  refine triple_restated H rfl ?_ fun _ => ?_
  · rw [e1]
    rw [ht, show sn 0 0 = 0 from rfl, show sn 0 1 = 1 from rfl, show sn 0 2 = 2 from rfl]
    unfold FR IA
    iintro ⟨W, ⟨R0, R1, R2, S0, S1⟩, ⟨I0, I1, I2, I3, I4, I5, I6, I7, J0, J1⟩, O⟩
    isplitl [W]; · iexact W
    isplitl [R0]; · iexact R0
    isplitl [R1]; · iexact R1
    isplitl [R2]; · iexact R2
    isplitl [S0]; · iexact S0
    isplitl [S1]; · iexact S1
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [J0]; · iexact J0
    isplitl [J1]; · iexact J1
    iexact O
  · rw [e1]
    unfold DA FB
    rw [hm]
    simp only [attS_00, attS_01, attS_02, attS_03, attS_04, attS_05, attS_06, attS_07, ctxS_00, ctxS_01]
    iintro ⟨W, D0, D1, D2, D3, D4, F5, F6, F7, G0, G1, O⟩
    isplitl [W]; · iexact W
    isplitl [D0 D1 D2 D3 D4]
    · isplitl [D0]; · iexact D0
      isplitl [D1]; · iexact D1
      isplitl [D2]; · iexact D2
      isplitl [D3]; · iexact D3
      iexact D4
    isplitl [F5 F6 F7 G0 G1]
    · isplitl [F5]; · iexact F5
      isplitl [F6]; · iexact F6
      isplitl [F7]; · iexact F7
      isplitl [G0]; · iexact G0
      iexact G1
    iexact O

set_option maxHeartbeats 4000000 in
/-- The body at a middle step: it collects the blocks the step before left in flight. -/
theorem step_mid (c : Dev nD) (t : Fin grid1.N) (h0 : t.val ≠ 0) (h1 : t.val ≠ 31)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16)
    (y0 y1 y2 : FVec F S512x2048 .f32) (z0 z1 : FVec F S512x256 .bf16) :
    (iprop(winP c arg3 arg4 arg5 arg6 x3 x4 x5 x6 ∗ FY c (t.val - 1) y0 y1 y2 z0 z1 ∗ IA c t.val ∗ OW c) : sProp 𝕄)
    ⊢ wp frame (wpE (defs₀ (F := F)) Variants.none (c : Thread nD τ) none) Set.univ
        (cc1_attn (F := F) (grid1.coords t) arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6 ∗ DY c (t.val - 1) y0 y1 y2 z0 z1 ∗ DA c t.val x3 x4 x5 ∗ FB c t.val x3 x4 x5 x6 ∗ OW c)) := by
  obtain ⟨e1, e2, e3⟩ := coords_facts t
  rcases Nat.mod_two_eq_zero_or_one t.val with hm | hm
  · have hb : hbs (grid1.coords t) = t.val := by omega
    have H := run0 (F := F) c (grid1.coords t) (by rw [e2]; exact hm) (by rw [e1]; omega) arg3 harg3 arg4 harg4 arg5 harg5 arg6 harg6 x3 x4 x5 x6 (gi (t.val - 1) 5) (gi (t.val - 1) 6) (gi (t.val - 1) 7) (ci (t.val - 1) 0) (ci (t.val - 1) 1) y0 y1 y2 z0 z1
    rw [hb] at H
    refine triple_restated H rfl ?_ fun _ => ?_
    · rw [e1]
      rw [sn_pred t.val 0 2 (by omega) (by decide), sn_pred t.val 1 0 (by omega) (by decide), sn_pred t.val 2 1 (by omega) (by decide)]
      unfold FY IA
      iintro ⟨W, ⟨P0, P1, P2, Q0, Q1⟩, ⟨I0, I1, I2, I3, I4, I5, I6, I7, J0, J1⟩, O⟩
      isplitl [W]; · iexact W
      isplitl [P0]; · iexact P0
      isplitl [P1]; · iexact P1
      isplitl [P2]; · iexact P2
      isplitl [Q0]; · iexact Q0
      isplitl [Q1]; · iexact Q1
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [J0]; · iexact J0
      isplitl [J1]; · iexact J1
      iexact O
    · rw [e1]
      unfold DY DA FB
      rw [hm]
      simp only [attS_00, attS_01, attS_02, attS_03, attS_04, attS_05, attS_06, attS_07, ctxS_00, ctxS_01]
      iintro ⟨W, P0, P1, P2, Q0, Q1, D0, D1, D2, D3, D4, F5, F6, F7, G0, G1, O⟩
      isplitl [W]; · iexact W
      isplitl [P0 P1 P2 Q0 Q1]
      · isplitl [P0]; · iexact P0
        isplitl [P1]; · iexact P1
        isplitl [P2]; · iexact P2
        isplitl [Q0]; · iexact Q0
        iexact Q1
      isplitl [D0 D1 D2 D3 D4]
      · isplitl [D0]; · iexact D0
        isplitl [D1]; · iexact D1
        isplitl [D2]; · iexact D2
        isplitl [D3]; · iexact D3
        iexact D4
      isplitl [F5 F6 F7 G0 G1]
      · isplitl [F5]; · iexact F5
        isplitl [F6]; · iexact F6
        isplitl [F7]; · iexact F7
        isplitl [G0]; · iexact G0
        iexact G1
      iexact O
  · have hb : hbs (grid1.coords t) + 1 = t.val := by omega
    have H := run1 (F := F) c (grid1.coords t) (by rw [e2]; exact hm) (by rw [e1]; omega) arg3 harg3 arg4 harg4 arg5 harg5 arg6 harg6 x3 x4 x5 x6 (gi (t.val - 1) 5) (gi (t.val - 1) 6) (gi (t.val - 1) 7) (ci (t.val - 1) 0) (ci (t.val - 1) 1) y0 y1 y2 z0 z1
    rw [hb] at H
    refine triple_restated H rfl ?_ fun _ => ?_
    · rw [e1]
      rw [sn_pred t.val 0 2 (by omega) (by decide), sn_pred t.val 1 0 (by omega) (by decide), sn_pred t.val 2 1 (by omega) (by decide)]
      unfold FY IA
      iintro ⟨W, ⟨P0, P1, P2, Q0, Q1⟩, ⟨I0, I1, I2, I3, I4, I5, I6, I7, J0, J1⟩, O⟩
      isplitl [W]; · iexact W
      isplitl [P0]; · iexact P0
      isplitl [P1]; · iexact P1
      isplitl [P2]; · iexact P2
      isplitl [Q0]; · iexact Q0
      isplitl [Q1]; · iexact Q1
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [J0]; · iexact J0
      isplitl [J1]; · iexact J1
      iexact O
    · rw [e1]
      unfold DY DA FB
      rw [hm]
      simp only [attS_10, attS_11, attS_12, attS_13, attS_14, attS_15, attS_16, attS_17, ctxS_10, ctxS_11]
      iintro ⟨W, P0, P1, P2, Q0, Q1, D0, D1, D2, D3, D4, F5, F6, F7, G0, G1, O⟩
      isplitl [W]; · iexact W
      isplitl [P0 P1 P2 Q0 Q1]
      · isplitl [P0]; · iexact P0
        isplitl [P1]; · iexact P1
        isplitl [P2]; · iexact P2
        isplitl [Q0]; · iexact Q0
        iexact Q1
      isplitl [D0 D1 D2 D3 D4]
      · isplitl [D0]; · iexact D0
        isplitl [D1]; · iexact D1
        isplitl [D2]; · iexact D2
        isplitl [D3]; · iexact D3
        iexact D4
      isplitl [F5 F6 F7 G0 G1]
      · isplitl [F5]; · iexact F5
        isplitl [F6]; · iexact F6
        isplitl [F7]; · iexact F7
        isplitl [G0]; · iexact G0
        iexact G1
      iexact O

set_option maxHeartbeats 4000000 in
/-- The body at the last step: it also waits for its own blocks. -/
theorem step_last (c : Dev nD) (t : Fin grid1.N) (ht : t.val = 31)
    (arg3 : Memref sig .tc .vmem S1x512x256 .bf16) (harg3 : arg3.IsWhole)
    (arg4 : Memref sig .tc .vmem S1x512x256 .bf16) (harg4 : arg4.IsWhole) (arg5 : Memref sig .tc .vmem S1x2048x256 .bf16) (harg5 : arg5.IsWhole)
    (arg6 : Memref sig .tc .vmem S1x2048x256 .bf16) (harg6 : arg6.IsWhole)
    (x3 x4 : Vec F S1x512x256 .bf16) (x5 x6 : Vec F S1x2048x256 .bf16)
    (y0 y1 y2 : FVec F S512x2048 .f32) (z0 z1 : FVec F S512x256 .bf16) :
    (iprop(winP c arg3 arg4 arg5 arg6 x3 x4 x5 x6 ∗ FY c (t.val - 1) y0 y1 y2 z0 z1 ∗ IA c t.val ∗ OW c) : sProp 𝕄)
    ⊢ wp frame (wpE (defs₀ (F := F)) Variants.none (c : Thread nD τ) none) Set.univ
        (cc1_attn (F := F) (grid1.coords t) arg3 harg3 arg4 harg4 arg5 harg5 arg6 harg6 attM (Memref.isWhole_whole _) ctxM (Memref.isWhole_whole _)
          stgM (Memref.isWhole_whole _) cstM (Memref.isWhole_whole _) cc1_scratch2 cc1_scratch3)
        (fun _ => iprop(winP c arg3 arg4 arg5 arg6 x3 x4 x5 x6 ∗ DY c (t.val - 1) y0 y1 y2 z0 z1 ∗ DA c t.val x3 x4 x5 ∗ DB c t.val x3 x4 x5 x6 ∗ FR c ∗ OW c)) := by
  obtain ⟨e1, e2, e3⟩ := coords_facts t
  have hm : t.val % 2 = 1 := by rw [ht]
  have hb : hbs (grid1.coords t) + 1 = t.val := by omega
  have H := run1l (F := F) c (grid1.coords t) (by rw [e2]; exact hm) (by rw [e1]; exact ht) arg3 harg3 arg4 harg4 arg5 harg5 arg6 harg6 x3 x4 x5 x6 (gi (t.val - 1) 5) (gi (t.val - 1) 6) (gi (t.val - 1) 7) (ci (t.val - 1) 0) (ci (t.val - 1) 1) y0 y1 y2 z0 z1
  rw [hb] at H
  refine triple_restated H rfl ?_ fun _ => ?_
  · rw [e1]
    rw [sn_pred t.val 0 2 (by omega) (by decide), sn_pred t.val 1 0 (by omega) (by decide), sn_pred t.val 2 1 (by omega) (by decide)]
    unfold FY IA
    iintro ⟨W, ⟨P0, P1, P2, Q0, Q1⟩, ⟨I0, I1, I2, I3, I4, I5, I6, I7, J0, J1⟩, O⟩
    isplitl [W]; · iexact W
    isplitl [P0]; · iexact P0
    isplitl [P1]; · iexact P1
    isplitl [P2]; · iexact P2
    isplitl [Q0]; · iexact Q0
    isplitl [Q1]; · iexact Q1
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [J0]; · iexact J0
    isplitl [J1]; · iexact J1
    iexact O
  · unfold DY DA DB FR
    rw [hm]
    simp only [attS_10, attS_11, attS_12, attS_13, attS_14, attS_15, attS_16, attS_17, ctxS_10, ctxS_11]
    iintro ⟨W, P0, P1, P2, Q0, Q1, D0, D1, D2, D3, D4, F5, F6, F7, G0, G1, R0, R1, R2, S0, S1, O⟩
    isplitl [W]; · iexact W
    isplitl [P0 P1 P2 Q0 Q1]
    · isplitl [P0]; · iexact P0
      isplitl [P1]; · iexact P1
      isplitl [P2]; · iexact P2
      isplitl [Q0]; · iexact Q0
      iexact Q1
    isplitl [D0 D1 D2 D3 D4]
    · isplitl [D0]; · iexact D0
      isplitl [D1]; · iexact D1
      isplitl [D2]; · iexact D2
      isplitl [D3]; · iexact D3
      iexact D4
    isplitl [F5 F6 F7 G0 G1]
    · isplitl [F5]; · iexact F5
      isplitl [F6]; · iexact F6
      isplitl [F7]; · iexact F7
      isplitl [G0]; · iexact G0
      iexact G1
    isplitl [R0 R1 R2 S0 S1]
    · isplitl [R0]; · iexact R0
      isplitl [R1]; · iexact R1
      isplitl [R2]; · iexact R2
      isplitl [S0]; · iexact S0
      iexact S1
    iexact O

end Cert.KernelIdeal.Attn
-- ==== Proof.IAttnPlace.lean ====
/-
  Where the blocks of the attention kernel's two results and of its two staging buffers lie.

  Every element of a result lies in exactly one block (`gOf`, `qOf` name it), so a result held whole is its blocks held
  one by one, grouped by the step that sends them (`att_split`, `ctx_split`); likewise the staging buffers and their
  slots (`stg_split`, `cst_split`).
-/
module

public import proofs.«01_k».proof.Proof.IAttnRes
public import Idealize.ShloMosaic.Lib.ValueLayout

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ### The elements of a block -/

theorem pc_emb (g : Fin 256) (a : Fin 512) (b : Fin 2048) (x : S4x16x2048x2048.Idx)
    (h0 : (x 0).val = g.val / 64) (h1 : (x 1).val = 4 * (g.val / 16 % 4) + g.val % 4)
    (h2 : (x 2).val = 512 * (if g.val / 4 % 2 = 0 then g.val / 8 % 2 else 3 - g.val / 8 % 2) + a.val) (h3 : (x 3).val = b.val) :
    ((pc g).view.emb (ix2 a b : S512x2048.Idx) : S4x16x2048x2048.Idx) = x := by
  have e : (Shape.reshapeEquiv squeezes_S1x1x512x2048_S512x2048.numel_eq (ix2 a b : S512x2048.Idx)) = ix4 (⟨0, Nat.one_pos⟩ : Fin 1) (⟨0, Nat.one_pos⟩ : Fin 1) a b :=
    reshapeEquiv_ix2_11ab _ a b
  show (Rect.unit (s := S4x16x2048x2048) (pcOff g) S1x1x512x2048.size (pcOff_inb g)).emb
      (Shape.reshapeEquiv squeezes_S1x1x512x2048_S512x2048.numel_eq (ix2 a b : S512x2048.Idx)) = _
  rw [e]
  funext k; apply Fin.ext; rw [Rect.emb_apply]
  fin_cases k
  · show g.val / 64 + 1 * 0 = (x 0).val; omega
  · show 4 * (g.val / 16 % 4) + g.val % 4 + 1 * 0 = (x 1).val; omega
  · show 512 * (if g.val / 4 % 2 = 0 then g.val / 8 % 2 else 3 - g.val / 8 % 2) + 1 * a.val = (x 2).val; rw [h2, Nat.one_mul]
  · show 0 + 1 * b.val = (x 3).val; omega

theorem cpc_emb (g : Fin 64) (a : Fin 512) (b : Fin 256) (x : S4x2048x1024.Idx)
    (h0 : (x 0).val = g.val / 16)
    (h1 : (x 1).val = 512 * (if g.val % 2 = 0 then g.val / 2 % 2 else 3 - g.val / 2 % 2) + a.val)
    (h2 : (x 2).val = 256 * (g.val / 4 % 4) + b.val) :
    ((cpc g).view.emb (ix2 a b : S512x256.Idx) : S4x2048x1024.Idx) = x := by
  have e : (Shape.reshapeEquiv squeezes_S1x512x256_S512x256.numel_eq (ix2 a b : S512x256.Idx)) = ix3 (⟨0, Nat.one_pos⟩ : Fin 1) a b :=
    reshapeEquiv_ix2_1ab _ a b
  show (Rect.unit (s := S4x2048x1024) (cpcOff g) S1x512x256.size (cpcOff_inb g)).emb
      (Shape.reshapeEquiv squeezes_S1x512x256_S512x256.numel_eq (ix2 a b : S512x256.Idx)) = _
  rw [e]
  funext k; apply Fin.ext; rw [Rect.emb_apply]
  fin_cases k
  · show g.val / 16 + 1 * 0 = (x 0).val; omega
  · show 512 * (if g.val % 2 = 0 then g.val / 2 % 2 else 3 - g.val / 2 % 2) + 1 * a.val = (x 1).val; rw [h1, Nat.one_mul]
  · show 256 * (g.val / 4 % 4) + 1 * b.val = (x 2).val; omega

/-! ### The block of an element -/

/-- The block that holds an element of the scores. -/
def gOf (x : S4x16x2048x2048.Idx) : Fin 256 :=
  ⟨(64 * (x 0).val + 16 * ((x 1).val / 4) + 8 * (if (x 2).val / 512 = 1 ∨ (x 2).val / 512 = 2 then 1 else 0)
    + 4 * (if 1024 ≤ (x 2).val then 1 else 0) + (x 1).val % 4) % 256, Nat.mod_lt _ (by decide)⟩
/-- The element's row within its block. -/
def rowOf (n : ℕ) : Fin 512 := ⟨n % 512, Nat.mod_lt _ (by decide)⟩
def colOf (n : ℕ) : Fin 256 := ⟨n % 256, Nat.mod_lt _ (by decide)⟩

theorem ite_iff (P : Prop) [Decidable P] : P ↔ (if P then 1 else 0) = 1 := by
  split_ifs with h
  · exact ⟨fun _ => rfl, fun _ => h⟩
  · exact ⟨fun h' => absurd h' h, fun h' => absurd h' (by decide)⟩
/-- An index read as one of the scores' or of the context's shape. -/
abbrev atI (x : S4x16x2048x2048.Idx) : S4x16x2048x2048.Idx := x
abbrev ctI (x : S4x2048x1024.Idx) : S4x2048x1024.Idx := x

theorem gOf_emb (x : S4x16x2048x2048.Idx) : ((pc (gOf x)).view.emb (ix2 (rowOf (x 2).val) (x 3) : S512x2048.Idx) : S4x16x2048x2048.Idx) = x := by
  have b0 : (x 0).val < 4 := (x 0).isLt
  have b1 : (x 1).val < 16 := (x 1).isLt
  have b2 : (x 2).val < 2048 := (x 2).isLt
  obtain ⟨p, hp, hp1, hpe⟩ : ∃ p, (if (x 2).val / 512 = 1 ∨ (x 2).val / 512 = 2 then 1 else 0) = p ∧ p ≤ 1 ∧ ((x 2).val / 512 = 1 ∨ (x 2).val / 512 = 2 ↔ p = 1) := ⟨_, rfl, by split_ifs <;> omega, ite_iff _⟩
  obtain ⟨q, hq, hq1, hqe⟩ : ∃ q, (if 1024 ≤ (x 2).val then 1 else 0) = q ∧ q ≤ 1 ∧ (1024 ≤ (x 2).val ↔ q = 1) := ⟨_, rfl, by split_ifs <;> omega, ite_iff _⟩
  have hg : (gOf x).val = 64 * (x 0).val + 16 * ((x 1).val / 4) + 8 * p + 4 * q + (x 1).val % 4 := by
    show (64 * (x 0).val + 16 * ((x 1).val / 4) + 8 * (if (x 2).val / 512 = 1 ∨ (x 2).val / 512 = 2 then 1 else 0)
      + 4 * (if 1024 ≤ (x 2).val then 1 else 0) + (x 1).val % 4) % 256 = _
    rw [hp, hq]; exact Nat.mod_eq_of_lt (by omega)
  have hu : (x 1).val / 4 ≤ 3 := by omega
  have hv : (x 1).val % 4 ≤ 3 := by omega
  have hx : (x 1).val = 4 * ((x 1).val / 4) + (x 1).val % 4 := by omega
  generalize (x 1).val / 4 = u at *
  generalize (x 1).val % 4 = v at *
  have e1 : (gOf x).val / 64 = (x 0).val := by omega
  have e2 : (gOf x).val / 16 % 4 = u := by omega
  have e3 : (gOf x).val % 4 = v := by omega
  have e4 : (gOf x).val / 4 % 2 = q := by omega
  have e5 : (gOf x).val / 8 % 2 = p := by omega
  apply pc_emb
  · exact e1.symm
  · rw [e2, e3]; exact hx
  · rw [e4, e5]; unfold rowOf; dsimp only; split_ifs <;> omega
  · rfl
theorem gOf_eq (g : Fin 256) (a : Fin 512) (b : Fin 2048) : gOf ((pc g).view.emb (ix2 a b : S512x2048.Idx)) = g
    ∧ rowOf (atI ((pc g).view.emb (ix2 a b : S512x2048.Idx)) 2).val = a ∧ atI ((pc g).view.emb (ix2 a b : S512x2048.Idx)) 3 = b := by
  have bg : g.val < 256 := g.isLt
  have ba : a.val < 512 := a.isLt
  have hr : 512 * (if g.val / 4 % 2 = 0 then g.val / 8 % 2 else 3 - g.val / 8 % 2) + a.val < 2048 := by split_ifs <;> omega
  rw [pc_emb g a b (ix4 (⟨g.val / 64, by omega⟩ : Fin 4) (⟨4 * (g.val / 16 % 4) + g.val % 4, by omega⟩ : Fin 16)
    (⟨512 * (if g.val / 4 % 2 = 0 then g.val / 8 % 2 else 3 - g.val / 8 % 2) + a.val, hr⟩ : Fin 2048) b) rfl rfl rfl rfl]
  refine ⟨Fin.ext ?_, Fin.ext ?_, rfl⟩
  · show (64 * (g.val / 64) + 16 * ((4 * (g.val / 16 % 4) + g.val % 4) / 4)
      + 8 * (if (512 * (if g.val / 4 % 2 = 0 then g.val / 8 % 2 else 3 - g.val / 8 % 2) + a.val) / 512 = 1 ∨ (512 * (if g.val / 4 % 2 = 0 then g.val / 8 % 2 else 3 - g.val / 8 % 2) + a.val) / 512 = 2 then 1 else 0)
      + 4 * (if 1024 ≤ 512 * (if g.val / 4 % 2 = 0 then g.val / 8 % 2 else 3 - g.val / 8 % 2) + a.val then 1 else 0) + (4 * (g.val / 16 % 4) + g.val % 4) % 4) % 256 = g.val
    split_ifs <;> omega
  · show (512 * (if g.val / 4 % 2 = 0 then g.val / 8 % 2 else 3 - g.val / 8 % 2) + a.val) % 512 = a.val
    split_ifs <;> omega

/-- The block that holds an element of the context. -/
def qOf (x : S4x2048x1024.Idx) : Fin 64 :=
  ⟨(16 * (x 0).val + 4 * ((x 2).val / 256) + 2 * (if (x 1).val / 512 = 1 ∨ (x 1).val / 512 = 2 then 1 else 0)
    + (if 1024 ≤ (x 1).val then 1 else 0)) % 64, Nat.mod_lt _ (by decide)⟩
theorem qOf_emb (x : S4x2048x1024.Idx) : ((cpc (qOf x)).view.emb (ix2 (rowOf (x 1).val) (colOf (x 2).val) : S512x256.Idx) : S4x2048x1024.Idx) = x := by
  have b0 : (x 0).val < 4 := (x 0).isLt
  have b1 : (x 1).val < 2048 := (x 1).isLt
  have b2 : (x 2).val < 1024 := (x 2).isLt
  obtain ⟨p, hp, hp1, hpe⟩ : ∃ p, (if (x 1).val / 512 = 1 ∨ (x 1).val / 512 = 2 then 1 else 0) = p ∧ p ≤ 1 ∧ ((x 1).val / 512 = 1 ∨ (x 1).val / 512 = 2 ↔ p = 1) := ⟨_, rfl, by split_ifs <;> omega, ite_iff _⟩
  obtain ⟨q, hq, hq1, hqe⟩ : ∃ q, (if 1024 ≤ (x 1).val then 1 else 0) = q ∧ q ≤ 1 ∧ (1024 ≤ (x 1).val ↔ q = 1) := ⟨_, rfl, by split_ifs <;> omega, ite_iff _⟩
  have hg : (qOf x).val = 16 * (x 0).val + 4 * ((x 2).val / 256) + 2 * p + q := by
    show (16 * (x 0).val + 4 * ((x 2).val / 256) + 2 * (if (x 1).val / 512 = 1 ∨ (x 1).val / 512 = 2 then 1 else 0)
      + (if 1024 ≤ (x 1).val then 1 else 0)) % 64 = _
    rw [hp, hq]; exact Nat.mod_eq_of_lt (by omega)
  have hu : (x 2).val / 256 ≤ 3 := by omega
  have hx : (x 2).val = 256 * ((x 2).val / 256) + (x 2).val % 256 := by omega
  generalize hu' : (x 2).val / 256 = u at *
  have e1 : (qOf x).val / 16 = (x 0).val := by omega
  have e2 : (qOf x).val / 4 % 4 = u := by omega
  have e3 : (qOf x).val % 2 = q := by omega
  have e4 : (qOf x).val / 2 % 2 = p := by omega
  apply cpc_emb
  · exact e1.symm
  · rw [e3, e4]; unfold rowOf; dsimp only; split_ifs <;> omega
  · rw [e2]; exact hx
theorem qOf_eq (g : Fin 64) (a : Fin 512) (b : Fin 256) : qOf ((cpc g).view.emb (ix2 a b : S512x256.Idx)) = g
    ∧ rowOf (ctI ((cpc g).view.emb (ix2 a b : S512x256.Idx)) 1).val = a ∧ colOf (ctI ((cpc g).view.emb (ix2 a b : S512x256.Idx)) 2).val = b := by
  have bg : g.val < 64 := g.isLt
  have ba : a.val < 512 := a.isLt
  have bb : b.val < 256 := b.isLt
  have hr : 512 * (if g.val % 2 = 0 then g.val / 2 % 2 else 3 - g.val / 2 % 2) + a.val < 2048 := by split_ifs <;> omega
  rw [cpc_emb g a b (ix3 (⟨g.val / 16, by omega⟩ : Fin 4)
    (⟨512 * (if g.val % 2 = 0 then g.val / 2 % 2 else 3 - g.val / 2 % 2) + a.val, hr⟩ : Fin 2048) (⟨256 * (g.val / 4 % 4) + b.val, by omega⟩ : Fin 1024)) rfl rfl rfl]
  refine ⟨Fin.ext ?_, Fin.ext ?_, Fin.ext ?_⟩
  · show (16 * (g.val / 16) + 4 * ((256 * (g.val / 4 % 4) + b.val) / 256)
      + 2 * (if (512 * (if g.val % 2 = 0 then g.val / 2 % 2 else 3 - g.val / 2 % 2) + a.val) / 512 = 1 ∨ (512 * (if g.val % 2 = 0 then g.val / 2 % 2 else 3 - g.val / 2 % 2) + a.val) / 512 = 2 then 1 else 0)
      + (if 1024 ≤ 512 * (if g.val % 2 = 0 then g.val / 2 % 2 else 3 - g.val / 2 % 2) + a.val then 1 else 0)) % 64 = g.val
    split_ifs <;> omega
  · show (512 * (if g.val % 2 = 0 then g.val / 2 % 2 else 3 - g.val / 2 % 2) + a.val) % 512 = a.val
    split_ifs <;> omega
  · show (256 * (g.val / 4 % 4) + b.val) % 256 = b.val
    omega

/-! ### Blocks are disjoint and cover -/

theorem ix2_eta {n m : ℕ} (y : (⟨2, ![n, m]⟩ : Shape).Idx) : ∃ (a : Fin n) (b : Fin m), y = ix2 a b :=
  ⟨y 0, y 1, by funext k; fin_cases k <;> rfl⟩

/-- The elements of score block `g`. -/
def pcSet (c : Dev nD) (g : Fin 256) : Finset (Idx ((c : Thread nD τ).loc main_v13_0)) := (pc g).view.set
def cpcSet (c : Dev nD) (g : Fin 64) : Finset (Idx ((c : Thread nD τ).loc main_v13_1)) := (cpc g).view.set
def slotSet (c : Dev nD) (s : Fin 3) : Finset (Idx ((c : Thread nD τ).loc cc1_scratch0)) := (rslot s).view.set
def cslotSet (c : Dev nD) (s : Fin 2) : Finset (Idx ((c : Thread nD τ).loc cc1_scratch1)) := (cslot s).view.set

theorem pc_mem (c : Dev nD) (g : Fin 256) (x : S4x16x2048x2048.Idx) : x ∈ pcSet c g ↔ gOf x = g := by
  constructor
  · intro h
    obtain ⟨y, -, hy⟩ := Finset.mem_map.1 h
    obtain ⟨a, b, rfl⟩ := ix2_eta y
    rw [← hy]; exact (gOf_eq g a b).1
  · rintro rfl
    exact Finset.mem_map.2 ⟨_, Finset.mem_univ _, gOf_emb x⟩
theorem cpc_mem (c : Dev nD) (g : Fin 64) (x : S4x2048x1024.Idx) : x ∈ cpcSet c g ↔ qOf x = g := by
  constructor
  · intro h
    obtain ⟨y, -, hy⟩ := Finset.mem_map.1 h
    obtain ⟨a, b, rfl⟩ := ix2_eta y
    rw [← hy]; exact (qOf_eq g a b).1
  · rintro rfl
    exact Finset.mem_map.2 ⟨_, Finset.mem_univ _, qOf_emb x⟩
theorem slot_mem (c : Dev nD) (s : Fin 3) (x : S3x512x2048.Idx) : x ∈ slotSet c s ↔ x 0 = s := by
  constructor
  · intro h
    obtain ⟨y, -, hy⟩ := Finset.mem_map.1 h
    obtain ⟨a, b, rfl⟩ := ix2_eta y
    rw [← hy]; exact congrArg (fun z : S3x512x2048.Idx => z 0) (rslot_emb s a b)
  · rintro rfl
    exact Finset.mem_map.2 ⟨ix2 (x 1) (x 2), Finset.mem_univ _, (rslot_emb (x 0) (x 1) (x 2)).trans (by funext k; fin_cases k <;> rfl)⟩
theorem cslot_mem (c : Dev nD) (s : Fin 2) (x : S2x512x256.Idx) : x ∈ cslotSet c s ↔ x 0 = s := by
  constructor
  · intro h
    obtain ⟨y, -, hy⟩ := Finset.mem_map.1 h
    obtain ⟨a, b, rfl⟩ := ix2_eta y
    rw [← hy]; exact congrArg (fun z : S2x512x256.Idx => z 0) (cslot_emb s a b)
  · rintro rfl
    exact Finset.mem_map.2 ⟨ix2 (x 1) (x 2), Finset.mem_univ _, (cslot_emb (x 0) (x 1) (x 2)).trans (by funext k; fin_cases k <;> rfl)⟩

theorem disj_of {X B : Type} [DecidableEq X] (I : B → Finset X) (f : X → B) (h : ∀ b x, x ∈ I b ↔ f x = b) (b b' : B) (hb : b ≠ b') : Disjoint (I b) (I b') :=
  Finset.disjoint_left.mpr fun x hx hx' => hb (((h b x).1 hx).symm.trans ((h b' x).1 hx'))
theorem cover_of {X B : Type} [DecidableEq X] [Fintype X] [Fintype B] (I : B → Finset X) (f : X → B) (h : ∀ b x, x ∈ I b ↔ f x = b) : Finset.univ.biUnion I = Finset.univ :=
  Finset.eq_univ_iff_forall.2 fun x => Finset.mem_biUnion.2 ⟨f x, Finset.mem_univ _, (h _ x).2 rfl⟩

/-- The scores whole are their blocks. -/
theorem att_blocks (c : Dev nD) (f : Buf (Elt F) ((c : Thread nD τ).loc main_v13_0)) :
    (((c : Thread nD τ).loc main_v13_0) ↦{fullShare} f : sProp 𝕄) = bigSep Finset.univ fun g : Fin 256 => pcP c g f :=
  Ring.pointsTo_blocks (pcSet c) (disj_of _ gOf (pc_mem c)) (cover_of _ gOf (pc_mem c)) f
theorem ctx_blocks (c : Dev nD) (f : Buf (Elt F) ((c : Thread nD τ).loc main_v13_1)) :
    (((c : Thread nD τ).loc main_v13_1) ↦{fullShare} f : sProp 𝕄) = bigSep Finset.univ fun g : Fin 64 => cpcP c g f :=
  Ring.pointsTo_blocks (cpcSet c) (disj_of _ qOf (cpc_mem c)) (cover_of _ qOf (cpc_mem c)) f

/-! ### The blocks grouped by the step that sends them -/

theorem group8 (Φ : Fin 256 → sProp 𝕄) : bigSep Finset.univ Φ = bigSep (Finset.range 32) fun s =>
    iprop(Φ (gi s 0) ∗ Φ (gi s 1) ∗ Φ (gi s 2) ∗ Φ (gi s 3) ∗ Φ (gi s 4) ∗ Φ (gi s 5) ∗ Φ (gi s 6) ∗ Φ (gi s 7)) := by
  have e1 : bigSep Finset.univ Φ = bigSep Finset.univ fun p : Fin 32 × Fin 8 => Φ (finProdFinEquiv p) := (bigSep_univ_equiv (finProdFinEquiv (m := 32) (n := 8)) Φ).symm
  rw [e1, bigSep_univ_prod]
  refine Ring.bigSep_fin_eq_range 32 _ _ fun t h => ?_
  rw [bigSep_univ_eq_bigSepL [(0 : Fin 8), 1, 2, 3, 4, 5, 6, 7] (by decide) (by decide)]
  have e : ∀ j : Fin 8, finProdFinEquiv ((⟨t, h⟩ : Fin 32), j) = gi t j.val := fun j => by
    apply Fin.ext; show j.val + 8 * t = (8 * t + j.val) % 256; have := j.isLt; omega
  simp only [e]
  rfl
theorem group2 (Φ : Fin 64 → sProp 𝕄) : bigSep Finset.univ Φ = bigSep (Finset.range 32) fun s => iprop(Φ (ci s 0) ∗ Φ (ci s 1)) := by
  have e1 : bigSep Finset.univ Φ = bigSep Finset.univ fun p : Fin 32 × Fin 2 => Φ (finProdFinEquiv p) := (bigSep_univ_equiv (finProdFinEquiv (m := 32) (n := 2)) Φ).symm
  rw [e1, bigSep_univ_prod]
  refine Ring.bigSep_fin_eq_range 32 _ _ fun t h => ?_
  rw [bigSep_univ_eq_bigSepL [(0 : Fin 2), 1] (by decide) (by decide)]
  have e : ∀ j : Fin 2, finProdFinEquiv ((⟨t, h⟩ : Fin 32), j) = ci t j.val := fun j => by
    apply Fin.ext; show j.val + 2 * t = (2 * t + j.val) % 64; have := j.isLt; omega
  simp only [e]
  rfl

/-! ### The slots of the staging buffers -/

theorem stg_split (c : Dev nD) : (iprop(∃ f : Buf (Elt F) ((c : Thread nD τ).loc cc1_scratch0), ((c : Thread nD τ).loc cc1_scratch0) ↦{fullShare} f) : sProp 𝕄)
    ⊢ iprop((∃ f, slotP (F := F) c 0 f) ∗ (∃ f, slotP (F := F) c 1 f) ∗ (∃ f, slotP (F := F) c 2 f)) := by
  iintro ⟨%f, H⟩
  have e : (((c : Thread nD τ).loc cc1_scratch0) ↦{fullShare} f : sProp 𝕄) = iprop(slotP c 0 f ∗ slotP c 1 f ∗ slotP c 2 f) :=
    (Ring.pointsTo_blocks (slotSet c) (disj_of _ (fun x => x 0) (slot_mem c)) (cover_of _ (fun x => x 0) (slot_mem c)) f).trans
      (bigSep_univ_eq_bigSepL [(0 : Fin 3), 1, 2] (by decide) (by decide) _)
  ihave K := (Entails.of_eq e) $$ H
  icases K with ⟨H0, H1, H2⟩
  isplitl [H0]; · iexists f; iexact H0
  isplitl [H1]; · iexists f; iexact H1
  iexists f; iexact H2
theorem stg_join (c : Dev nD) (f₀ : Buf (Elt F) ((c : Thread nD τ).loc cc1_scratch0)) :
    (iprop((∃ f, slotP (F := F) c 0 f) ∗ (∃ f, slotP (F := F) c 1 f) ∗ (∃ f, slotP (F := F) c 2 f)) : sProp 𝕄)
    ⊢ iprop(∃ f : Buf (Elt F) ((c : Thread nD τ).loc cc1_scratch0), ((c : Thread nD τ).loc cc1_scratch0) ↦{fullShare} f) :=
  (Entails.of_eq (bigSep_univ_eq_bigSepL [(0 : Fin 3), 1, 2] (by decide) (by decide) (fun s => iprop(∃ f, slotP (F := F) c s f))).symm).trans
    (Ring.pointsTo_blocks_join_exists (slotSet c) (disj_of _ (fun x => x 0) (slot_mem c)) (cover_of _ (fun x => x 0) (slot_mem c)) f₀)
theorem cst_split (c : Dev nD) : (iprop(∃ f : Buf (Elt F) ((c : Thread nD τ).loc cc1_scratch1), ((c : Thread nD τ).loc cc1_scratch1) ↦{fullShare} f) : sProp 𝕄)
    ⊢ iprop((∃ f, cslotP (F := F) c 0 f) ∗ (∃ f, cslotP (F := F) c 1 f)) := by
  iintro ⟨%f, H⟩
  have e : (((c : Thread nD τ).loc cc1_scratch1) ↦{fullShare} f : sProp 𝕄) = iprop(cslotP c 0 f ∗ cslotP c 1 f) :=
    (Ring.pointsTo_blocks (cslotSet c) (disj_of _ (fun x => x 0) (cslot_mem c)) (cover_of _ (fun x => x 0) (cslot_mem c)) f).trans
      (bigSep_univ_eq_bigSepL [(0 : Fin 2), 1] (by decide) (by decide) _)
  ihave K := (Entails.of_eq e) $$ H
  icases K with ⟨H0, H1⟩
  isplitl [H0]; · iexists f; iexact H0
  iexists f; iexact H1
theorem cst_join (c : Dev nD) (f₀ : Buf (Elt F) ((c : Thread nD τ).loc cc1_scratch1)) :
    (iprop((∃ f, cslotP (F := F) c 0 f) ∗ (∃ f, cslotP (F := F) c 1 f)) : sProp 𝕄)
    ⊢ iprop(∃ f : Buf (Elt F) ((c : Thread nD τ).loc cc1_scratch1), ((c : Thread nD τ).loc cc1_scratch1) ↦{fullShare} f) :=
  (Entails.of_eq (bigSep_univ_eq_bigSepL [(0 : Fin 2), 1] (by decide) (by decide) (fun s => iprop(∃ f, cslotP (F := F) c s f))).symm).trans
    (Ring.pointsTo_blocks_join_exists (cslotSet c) (disj_of _ (fun x => x 0) (cslot_mem c)) (cover_of _ (fun x => x 0) (cslot_mem c)) f₀)

/-! ### A block at its values -/

theorem pcD_at (c : Dev nD) (g : Fin 256) (y : FVec F S512x2048 .f32) (f : Buf (Elt F) ((c : Thread nD τ).loc main_v13_0))
    (h : View.read (Elt F) (pc g).view f = y) : (pcD c g y : sProp 𝕄) ⊢ pcP c g f := by
  unfold pcD
  iintro ⟨%f', %hf, H⟩
  have e : (pcP c g f' : sProp 𝕄) = pcP c g f := pointsTo_congr fun i hi => by
    obtain ⟨z, -, rfl⟩ := Finset.mem_map.1 hi
    exact congrFun (hf.trans h.symm) z
  ihave K := (Entails.of_eq e) $$ H
  iexact K
theorem cpcD_at (c : Dev nD) (g : Fin 64) (y : FVec F S512x256 .bf16) (f : Buf (Elt F) ((c : Thread nD τ).loc main_v13_1))
    (h : View.read (Elt F) (cpc g).view f = y) : (cpcD c g y : sProp 𝕄) ⊢ cpcP c g f := by
  unfold cpcD
  iintro ⟨%f', %hf, H⟩
  have e : (cpcP c g f' : sProp 𝕄) = cpcP c g f := pointsTo_congr fun i hi => by
    obtain ⟨z, -, rfl⟩ := Finset.mem_map.1 hi
    exact congrFun (hf.trans h.symm) z
  ihave K := (Entails.of_eq e) $$ H
  iexact K

end Cert.KernelIdeal.Attn
-- ==== Proof.IAttnPhi.lean ====
/-
  The attention call: the invariant between its grid points, and its body at a point.

  Before step `s` the blocks of the steps below `s` have their values, except those step `s - 1` left in flight, and the
  blocks from `s` on hold anything (`St`); after the last step every block has its value and the slots are at rest
  (`En`).  All for any contents `V` of the arrays the call is entered with.
-/
module

public import proofs.«01_k».proof.Proof.IAttnSteps
public import proofs.«01_k».proof.Proof.IAttnPlace
public import Idealize.ShloMosaic.Lib.Pipeline.FrameBody
public import Idealize.ShloMosaic.Lib.Claim
public import Idealize.SL.BI.BigOpNat

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ### The windows' blocks -/

/-- The block of window `w` at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Grid point number `s`. -/
def pnt (s : ℕ) : Fin cfg1.N := ⟨s % 32, by rw [show cfg1.N = 32 from N_1]; exact Nat.mod_lt _ (by decide)⟩
theorem pnt_val (t : Fin cfg1.N) : pnt t.val = t := by
  apply Fin.ext; show t.val % 32 = t.val
  exact Nat.mod_eq_of_lt (by exact Nat.lt_of_lt_of_eq t.isLt N_1)
/-- The blocks of step `s`: two bands of queries, the keys, the values. -/
def X3 (c : Dev nD) (s : ℕ) : Vec F S1x512x256 .bf16 := iblk V c 0 (pnt s)
def X4 (c : Dev nD) (s : ℕ) : Vec F S1x512x256 .bf16 := iblk V c 1 (pnt s)
def X5 (c : Dev nD) (s : ℕ) : Vec F S1x2048x256 .bf16 := iblk V c 2 (pnt s)
def X6 (c : Dev nD) (s : ℕ) : Vec F S1x2048x256 .bf16 := iblk V c 3 (pnt s)
theorem iblk_congr_0 (c : Dev nD) {u t : Fin cfg1.N} (h : u = t) : (iblk V c 0 u : Vec F S1x512x256 .bf16) = iblk V c 0 t := by subst h; rfl
theorem iblk_congr_1 (c : Dev nD) {u t : Fin cfg1.N} (h : u = t) : (iblk V c 1 u : Vec F S1x512x256 .bf16) = iblk V c 1 t := by subst h; rfl
theorem iblk_congr_2 (c : Dev nD) {u t : Fin cfg1.N} (h : u = t) : (iblk V c 2 u : Vec F S1x2048x256 .bf16) = iblk V c 2 t := by subst h; rfl
theorem iblk_congr_3 (c : Dev nD) {u t : Fin cfg1.N} (h : u = t) : (iblk V c 3 u : Vec F S1x2048x256 .bf16) = iblk V c 3 t := by subst h; rfl
theorem X3_at (c : Dev nD) (t : Fin cfg1.N) : X3 V c t.val = iblk V c 0 t :=
  iblk_congr_0 V c (pnt_val t)
theorem X4_at (c : Dev nD) (t : Fin cfg1.N) : X4 V c t.val = iblk V c 1 t :=
  iblk_congr_1 V c (pnt_val t)
theorem X5_at (c : Dev nD) (t : Fin cfg1.N) : X5 V c t.val = iblk V c 2 t :=
  iblk_congr_2 V c (pnt_val t)
theorem X6_at (c : Dev nD) (t : Fin cfg1.N) : X6 V c t.val = iblk V c 3 t :=
  iblk_congr_3 V c (pnt_val t)
/-- The `j`-th score block and the `b`-th context block of step `s`. -/
def attV (c : Dev nD) (s j : ℕ) : FVec F S512x2048 .f32 := attS (s % 2) j (X3 V c s) (X4 V c s) (X5 V c s)
def ctxV (c : Dev nD) (s b : ℕ) : FVec F S512x256 .bf16 := ctxS (s % 2) b (X3 V c s) (X4 V c s) (X5 V c s) (X6 V c s)

/-! ### The invariant -/

def dA (c : Dev nD) (s : ℕ) : sProp 𝕄 := DA c s (X3 V c s) (X4 V c s) (X5 V c s)
def dB (c : Dev nD) (s : ℕ) : sProp 𝕄 := DB c s (X3 V c s) (X4 V c s) (X5 V c s) (X6 V c s)
def fB (c : Dev nD) (s : ℕ) : sProp 𝕄 := FB c s (X3 V c s) (X4 V c s) (X5 V c s) (X6 V c s)
/-- The blocks no step in progress touches. -/
def Mid (c : Dev nD) (s : ℕ) : sProp 𝕄 :=
  iprop(bigSep (Finset.range s) (dA V c) ∗ bigSep (Finset.range (s - 1)) (dB V c) ∗ bigSep (Finset.Ico (s + 1) 32) (IA (F := F) c))
/-- Before step `s`. -/
def St (c : Dev nD) (s : ℕ) : sProp 𝕄 :=
  iprop(bigSep (Finset.range s) (dA V c) ∗ bigSep (Finset.range (s - 1)) (dB V c) ∗ bigSep (Finset.Ico s 32) (IA (F := F) c)
    ∗ (if s = 0 then FR (F := F) c else fB V c (s - 1)))
/-- After the last step. -/
def En (c : Dev nD) : sProp 𝕄 :=
  iprop(bigSep (Finset.range 32) (dA V c) ∗ bigSep (Finset.range 32) (dB V c) ∗ FR (F := F) c)
/-- The scoped buffers that are neither staged nor the body's own. -/
def Rst (c : Dev nD) : sProp 𝕄 :=
  Pipeline.scopedRestBut (Ix := Unit) (Name := ℕ) (U := Pipeline.UD sig nD τ) (Lvl := ℕ) (Val := Elt F) spec1 c [cc1_scratch0, cc1_scratch1]
def Phi (c : Dev nD) (s : ℕ) : sProp 𝕄 := iprop((if s = 32 then En V c else St V c s) ∗ Rst (F := F) c)

theorem open_first (c : Dev nD) : St V c 0 ⊢ (iprop(FR c ∗ IA c 0 ∗ bigSep (Finset.Ico 1 32) (IA (F := F) c)) : sProp 𝕄) := by
  unfold St
  rw [if_pos rfl, bigSep_Ico_succ_bot (by decide : 0 < 32)]
  iintro ⟨-, -, ⟨I, R⟩, H⟩
  isplitl [H]; · iexact H
  isplitl [I]; · iexact I
  iexact R
theorem close_first (c : Dev nD) : (iprop(dA V c 0 ∗ fB V c 0 ∗ bigSep (Finset.Ico 1 32) (IA (F := F) c)) : sProp 𝕄) ⊢ St V c 1 := by
  unfold St
  rw [if_neg (by decide), BI.bigSep_range_succ 0, show Finset.range (1 - 1) = ∅ from rfl, bigSep_empty, bigSep_empty]
  iintro ⟨A, B, R⟩
  isplitl [A]
  · isplitl [A]; · iexact A
    iempintro
  isplitr; · iempintro
  isplitl [R]; · iexact R
  iexact B
theorem open_mid (c : Dev nD) (s : ℕ) (h0 : s ≠ 0) (h1 : s < 32) : St V c s ⊢ (iprop(fB V c (s - 1) ∗ IA c s ∗ Mid V c s) : sProp 𝕄) := by
  unfold St Mid
  rw [if_neg h0, bigSep_Ico_succ_bot h1]
  iintro ⟨A, B, ⟨I, R⟩, H⟩
  isplitl [H]; · iexact H
  isplitl [I]; · iexact I
  isplitl [A]; · iexact A
  isplitl [B]; · iexact B
  iexact R
theorem close_mid (c : Dev nD) (s : ℕ) (h0 : s ≠ 0) : (iprop(dB V c (s - 1) ∗ dA V c s ∗ fB V c s ∗ Mid V c s) : sProp 𝕄) ⊢ St V c (s + 1) := by
  unfold St Mid
  obtain ⟨k, rfl⟩ : ∃ k, s = k + 1 := ⟨s - 1, by omega⟩
  rw [if_neg (by omega)]
  simp only [Nat.add_sub_cancel]
  rw [BI.bigSep_range_succ (k + 1) (dA V c), BI.bigSep_range_succ k (dB V c)]
  iintro ⟨B1, A1, H, A, B, R⟩
  isplitl [A1 A]
  · isplitl [A1]; · iexact A1
    iexact A
  isplitl [B1 B]
  · isplitl [B1]; · iexact B1
    iexact B
  isplitl [R]; · iexact R
  iexact H
theorem close_last (c : Dev nD) : (iprop(dB V c 30 ∗ dA V c 31 ∗ dB V c 31 ∗ FR c ∗ Mid V c 31) : sProp 𝕄) ⊢ En V c := by
  unfold En Mid
  rw [show (32 : ℕ) = 31 + 1 from rfl, BI.bigSep_range_succ 31 (dA V c), BI.bigSep_range_succ 31 (dB V c), show (31 : ℕ) = 30 + 1 from rfl, BI.bigSep_range_succ 30 (dB V c)]
  iintro ⟨B1, A1, B2, H, A, B, R⟩
  isplitl [A1 A]
  · isplitl [A1]; · iexact A1
    iexact A
  isplitl [B1 B2 B]
  · isplitl [B2]; · iexact B2
    isplitl [B1]; · iexact B1
    iexact B
  iexact H

/-! ### The proof data -/

/-- The arrays as the region finds them; after the body each window's buffer at its block; the invariant above; nothing
    owed; two windows on one array each hold their share of it. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
  Φ t := Phi V c t.val
  q w := Pipeline.shareOf spec1 w
  owed _ := 0

theorem A_eq (c : Dev nD) (w : Fin cfg1.W) : (dat V c).A w = V c (Pipeline.arrRef spec1 w) := by
  dsimp only [dat]
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-! ### The body at a point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem owes_open (c : Dev nD) (t) : (dat V c).owesAt () t ⊢ (OW c : sProp 𝕄) := by
  unfold Pipeline.Dat.owesAt Pipeline.owesWithin OW
  iintro ⟨%W, -, H⟩; iexists W; iexact H
theorem owes_close (c : Dev nD) (t) : (OW c : sProp 𝕄) ⊢ (dat V c).owesAt () t := by
  unfold Pipeline.Dat.owesAt Pipeline.owesWithin OW
  iintro ⟨%W, H⟩
  iexists W; isplitr
  · ipureintro; exact fun _ _ => Or.inl trivial
  iexact H

/-- The four windows at point `t`. -/
def winT (c : Dev nD) (t : Fin cfg1.N) : sProp 𝕄 :=
  winP c (st1_0 t) (st1_1 t) (st1_2 t) (st1_3 t) (X3 V c t.val) (X4 V c t.val) (X5 V c t.val) (X6 V c t.val)

theorem pre_open (c : Dev nD) (t : Fin cfg1.N) : bodyPre V c t ⊢ (iprop(winT V c t ∗ Phi V c t.val ∗ OW c) : sProp 𝕄) := by
  unfold bodyPre winT winP
  rw [X3_at, X4_at, X5_at, X6_at, show (dat V c).Φ t.castSucc = Phi V c t.val from rfl]
  simp only [before1_0, before1_1, before1_2, before1_3]
  iintro ⟨HΦ, Ho, ⟨%d0, H0⟩, ⟨%d1, H1⟩, ⟨%d2, H2⟩, ⟨%d3, H3⟩⟩
  isplitl [H0 H1 H2 H3]
  · isplitl [H0]; · iexact H0
    isplitl [H1]; · iexact H1
    isplitl [H2]; · iexact H2
    iexact H3
  isplitl [HΦ]; · iexact HΦ
  iapply (owes_open V c t.castSucc); iexact Ho
theorem post_close (c : Dev nD) (t : Fin cfg1.N) : (iprop(winT V c t ∗ Phi V c (t.val + 1) ∗ OW c) : sProp 𝕄) ⊢ bodyPost V c t := by
  unfold bodyPost winT winP
  rw [X3_at, X4_at, X5_at, X6_at, show (dat V c).Φ t.succ = Phi V c (t.val + 1) from rfl]
  simp only [after1_0, after1_1, after1_2, after1_3]
  iintro ⟨⟨H0, H1, H2, H3⟩, HΦ, Ho⟩
  isplitl [HΦ]; · iexact HΦ
  isplitl [Ho]; · iapply (owes_close V c t.succ); iexact Ho
  isplitl [H0]; · iexact H0
  isplitl [H1]; · iexact H1
  isplitl [H2]; · iexact H2
  iexact H3

/-- A triple with a frame around it. -/
theorem framed {α : Type} {c : Dev nD} {p : Prog (TpuEff nD τ sig (Elt F) Λ₀ .tc) α} {P Q R P' : sProp 𝕄} {Q' : sProp 𝕄}
    (h : P ⊢ wp frame (wpE (defs₀ (F := F)) Variants.none (c : Thread nD τ) none) Set.univ p (fun _ => Q))
    (hP : P' ⊢ iprop(P ∗ R)) (hQ : iprop(Q ∗ R) ⊢ Q') :
    P' ⊢ wp frame (wpE (defs₀ (F := F)) Variants.none (c : Thread nD τ) none) Set.univ p (fun _ => Q') :=
  hP.trans ((sep_mono h .rfl).trans ((wp_frame_r _ _ _).trans (wp_mono _ _ _ fun _ => hQ)))

set_option maxHeartbeats 4000000 in
/-- The body takes the invariant from a point to the next. -/
theorem sound_body (c : Dev nD) (t : Fin cfg1.N) :
    bodyPre V c t ⊢ wp frame (wpE (defs₀ (F := F)) Variants.none c none) Set.univ (bodyAt1 t) (fun _ => bodyPost V c t) := by
  have ht : t.val < 32 := Nat.lt_of_lt_of_eq t.isLt N_1
  refine triple_restated (P := iprop(winT V c t ∗ Phi V c t.val ∗ OW c)) (Q := fun _ => iprop(winT V c t ∗ Phi V c (t.val + 1) ∗ OW c)) ?_ rfl (pre_open V c t) fun _ => post_close V c t
  by_cases h0 : t.val = 0
  · have H : (iprop(winT V c t ∗ FR c ∗ IA c t.val ∗ OW c) : sProp 𝕄) ⊢ wp frame (wpE (defs₀ (F := F)) Variants.none (c : Thread nD τ) none) Set.univ (bodyAt1 t) (fun _ => iprop(winT V c t ∗ dA V c t.val ∗ fB V c t.val ∗ OW c)) := step_first (F := F) c t h0 (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (X3 V c t.val) (X4 V c t.val) (X5 V c t.val) (X6 V c t.val)
    refine framed (R := iprop(bigSep (Finset.Ico 1 32) (IA (F := F) c) ∗ Rst c)) H ?_ ?_
    · unfold Phi winT
      rw [if_neg (by omega), h0]
      iintro ⟨W, ⟨S, R⟩, O⟩
      ihave K := (open_first V c) $$ S
      icases K with ⟨H, I, T⟩
      isplitl [W H I O]
      · isplitl [W]; · iexact W
        isplitl [H]; · iexact H
        isplitl [I]; · iexact I
        iexact O
      isplitl [T]; · iexact T
      iexact R
    · unfold Phi winT
      rw [if_neg (by omega)]
      iintro ⟨⟨W, A, B, O⟩, T, R⟩
      isplitl [W]; · iexact W
      isplitr [O]
      · isplitl [A B T]
        · rw [h0]
          iapply (close_first V c)
          isplitl [A]; · iexact A
          isplitl [B]; · iexact B
          iexact T
        iexact R
      iexact O
  by_cases h1 : t.val = 31
  · have H : (iprop(winT V c t ∗ fB V c (t.val - 1) ∗ IA c t.val ∗ OW c) : sProp 𝕄) ⊢ wp frame (wpE (defs₀ (F := F)) Variants.none (c : Thread nD τ) none) Set.univ (bodyAt1 t) (fun _ => iprop(winT V c t ∗ dB V c (t.val - 1) ∗ dA V c t.val ∗ dB V c t.val ∗ FR c ∗ OW c)) := step_last (F := F) c t h1 (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (X3 V c t.val) (X4 V c t.val) (X5 V c t.val) (X6 V c t.val)
      (attV V c (t.val - 1) 5) (attV V c (t.val - 1) 6) (attV V c (t.val - 1) 7) (ctxV V c (t.val - 1) 0) (ctxV V c (t.val - 1) 1)
    refine framed (R := iprop(Mid V c t.val ∗ Rst c)) H ?_ ?_
    · unfold Phi winT
      rw [if_neg (by omega)]
      iintro ⟨W, ⟨S, R⟩, O⟩
      ihave K := (open_mid V c t.val h0 ht) $$ S
      icases K with ⟨H, I, T⟩
      isplitl [W H I O]
      · isplitl [W]; · iexact W
        isplitl [H]; · iexact H
        isplitl [I]; · iexact I
        iexact O
      isplitl [T]; · iexact T
      iexact R
    · unfold Phi winT
      rw [if_pos (by omega)]
      iintro ⟨⟨W, D, A, B, Z, O⟩, T, R⟩
      isplitl [W]; · iexact W
      isplitr [O]
      · isplitr [R]
        · rw [h1]
          iapply (close_last V c)
          isplitl [D]; · iexact D
          isplitl [A]; · iexact A
          isplitl [B]; · iexact B
          isplitl [Z]; · iexact Z
          iexact T
        iexact R
      iexact O
  · have H : (iprop(winT V c t ∗ fB V c (t.val - 1) ∗ IA c t.val ∗ OW c) : sProp 𝕄) ⊢ wp frame (wpE (defs₀ (F := F)) Variants.none (c : Thread nD τ) none) Set.univ (bodyAt1 t) (fun _ => iprop(winT V c t ∗ dB V c (t.val - 1) ∗ dA V c t.val ∗ fB V c t.val ∗ OW c)) := step_mid (F := F) c t h0 h1 (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (X3 V c t.val) (X4 V c t.val) (X5 V c t.val) (X6 V c t.val)
      (attV V c (t.val - 1) 5) (attV V c (t.val - 1) 6) (attV V c (t.val - 1) 7) (ctxV V c (t.val - 1) 0) (ctxV V c (t.val - 1) 1)
    refine framed (R := iprop(Mid V c t.val ∗ Rst c)) H ?_ ?_
    · unfold Phi winT
      rw [if_neg (by omega)]
      iintro ⟨W, ⟨S, R⟩, O⟩
      ihave K := (open_mid V c t.val h0 ht) $$ S
      icases K with ⟨H, I, T⟩
      isplitl [W H I O]
      · isplitl [W]; · iexact W
        isplitl [H]; · iexact H
        isplitl [I]; · iexact I
        iexact O
      isplitl [T]; · iexact T
      iexact R
    · unfold Phi winT
      rw [if_neg (by omega)]
      iintro ⟨⟨W, D, A, B, O⟩, T, R⟩
      isplitl [W]; · iexact W
      isplitr [O]
      · isplitr [R]
        · iapply (close_mid V c t.val h0)
          isplitl [D]; · iexact D
          isplitl [A]; · iexact A
          isplitl [B]; · iexact B
          iexact T
        iexact R
      iexact O

theorem defs₀_row (t : Fin cfg1.N) :
    defs₀ (F := F) .tc cfg1.body (cfg1.bodyArgs t (cfg1.slots t)) = bodyAt1 t := by
  unfold defs₀; rw [Defs.onTc_tc]

/-- The body does its part at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Attn
-- ==== Proof.IAttnEnds.lean ====
/-
  The attention call: from the results whole to their blocks at the start, and back at the end.

  `attArr` and `ctxArr` are the results as the call leaves them, element by element.
-/
module

public import proofs.«01_k».proof.Proof.IAttnPhi

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The scores the call leaves: each element at its block's value. -/
def attArr (c : Dev nD) : Buf (Elt F) ((c : Thread nD τ).loc main_v13_0) := fun x =>
  attV V c ((gOf x).val / 8) ((gOf x).val % 8) (ix2 (rowOf (atI x 2).val) (atI x 3))
/-- The context the call leaves. -/
def ctxArr (c : Dev nD) : Buf (Elt F) ((c : Thread nD τ).loc main_v13_1) := fun x =>
  ctxV V c ((qOf x).val / 2) ((qOf x).val % 2) (ix2 (rowOf (ctI x 1).val) (colOf (ctI x 2).val))

theorem att_read (c : Dev nD) (s j : ℕ) (hs : s < 32) (hj : j < 8) : View.read (Elt F) (pc (gi s j)).view (attArr V c) = attV V c s j := by
  funext y
  obtain ⟨a, b, rfl⟩ := ix2_eta y
  refine (cast_eq _ _).trans ?_
  obtain ⟨h1, h2, h3⟩ := gOf_eq (gi s j) a b
  have e8 : (gi s j).val / 8 = s ∧ (gi s j).val % 8 = j := by
    have : (gi s j).val = 8 * s + j := Nat.mod_eq_of_lt (by omega)
    omega
  show attV V c ((gOf _).val / 8) ((gOf _).val % 8) (ix2 (rowOf (atI _ 2).val) (atI _ 3)) = _
  rw [h1, h2, h3, e8.1, e8.2]
theorem ctx_read (c : Dev nD) (s j : ℕ) (hs : s < 32) (hj : j < 2) : View.read (Elt F) (cpc (ci s j)).view (ctxArr V c) = ctxV V c s j := by
  funext y
  obtain ⟨a, b, rfl⟩ := ix2_eta y
  refine (cast_eq _ _).trans ?_
  obtain ⟨h1, h2, h3⟩ := qOf_eq (ci s j) a b
  have e8 : (ci s j).val / 2 = s ∧ (ci s j).val % 2 = j := by
    have : (ci s j).val = 2 * s + j := Nat.mod_eq_of_lt (by omega)
    omega
  show ctxV V c ((qOf _).val / 2) ((qOf _).val % 2) (ix2 (rowOf (ctI _ 1).val) (colOf (ctI _ 2).val)) = _
  rw [h1, h2, h3, e8.1, e8.2]

theorem bs2 (A B : ℕ → sProp 𝕄) : (iprop(bigSep (Finset.range 32) A ∗ bigSep (Finset.range 32) B) : sProp 𝕄) = bigSep (Finset.range 32) fun s => iprop(A s ∗ B s) := (bigSep_sep _ A B).symm
/-- Both results whole are the blocks of the 32 steps. -/
theorem att_ctx (c : Dev nD) (f : Buf (Elt F) ((c : Thread nD τ).loc main_v13_0)) (g : Buf (Elt F) ((c : Thread nD τ).loc main_v13_1)) :
    (iprop((((c : Thread nD τ).loc main_v13_0) ↦{fullShare} f) ∗ (((c : Thread nD τ).loc main_v13_1) ↦{fullShare} g)) : sProp 𝕄)
      = bigSep (Finset.range 32) fun s => iprop((pcP c (gi s 0) f ∗ pcP c (gi s 1) f ∗ pcP c (gi s 2) f ∗ pcP c (gi s 3) f ∗ pcP c (gi s 4) f ∗ pcP c (gi s 5) f ∗ pcP c (gi s 6) f ∗ pcP c (gi s 7) f)
          ∗ (cpcP c (ci s 0) g ∗ cpcP c (ci s 1) g)) := by
  rw [att_blocks, ctx_blocks, group8, group2]
  exact bs2 _ _

theorem entry_pieces (c : Dev nD) (f : Buf (Elt F) ((c : Thread nD τ).loc main_v13_0)) (g : Buf (Elt F) ((c : Thread nD τ).loc main_v13_1)) :
    (iprop((((c : Thread nD τ).loc main_v13_0) ↦{fullShare} f) ∗ (((c : Thread nD τ).loc main_v13_1) ↦{fullShare} g)) : sProp 𝕄)
      ⊢ bigSep (Finset.Ico 0 32) (IA (F := F) c) := by
  rw [← Finset.range_eq_Ico]
  refine (Entails.of_eq (att_ctx c f g)).trans (bigSep_mono fun s _ => ?_)
  show (_ : sProp 𝕄) ⊢ _
  unfold IA pcI cpcI
  iintro ⟨⟨H0, H1, H2, H3, H4, H5, H6, H7⟩, K0, K1⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [K0]; · iexists _; iexact K0
  iexists _; iexact K1

theorem exit_pieces (c : Dev nD) :
    (iprop(bigSep (Finset.range 32) (dA V c) ∗ bigSep (Finset.range 32) (dB V c)) : sProp 𝕄)
      ⊢ iprop((((c : Thread nD τ).loc main_v13_0) ↦{fullShare} attArr V c) ∗ (((c : Thread nD τ).loc main_v13_1) ↦{fullShare} ctxArr V c)) := by
  refine ((Entails.of_eq (bs2 _ _)).trans (bigSep_mono fun s hs => ?_)).trans (Entails.of_eq (att_ctx c (attArr V c) (ctxArr V c)).symm)
  show (_ : sProp 𝕄) ⊢ _
  have hs' : s < 32 := Finset.mem_range.1 hs
  unfold dA dB DA DB
  iintro ⟨⟨H0, H1, H2, H3, H4⟩, H5, H6, H7, K0, K1⟩
  ihave H0 := (pcD_at c (gi s 0) _ (attArr V c) (show _ = attS (s % 2) 0 (X3 V c s) (X4 V c s) (X5 V c s) from att_read V c s 0 hs' (by decide))) $$ H0
  ihave H1 := (pcD_at c (gi s 1) _ (attArr V c) (show _ = attS (s % 2) 1 (X3 V c s) (X4 V c s) (X5 V c s) from att_read V c s 1 hs' (by decide))) $$ H1
  ihave H2 := (pcD_at c (gi s 2) _ (attArr V c) (show _ = attS (s % 2) 2 (X3 V c s) (X4 V c s) (X5 V c s) from att_read V c s 2 hs' (by decide))) $$ H2
  ihave H3 := (pcD_at c (gi s 3) _ (attArr V c) (show _ = attS (s % 2) 3 (X3 V c s) (X4 V c s) (X5 V c s) from att_read V c s 3 hs' (by decide))) $$ H3
  ihave H4 := (pcD_at c (gi s 4) _ (attArr V c) (show _ = attS (s % 2) 4 (X3 V c s) (X4 V c s) (X5 V c s) from att_read V c s 4 hs' (by decide))) $$ H4
  ihave H5 := (pcD_at c (gi s 5) _ (attArr V c) (show _ = attS (s % 2) 5 (X3 V c s) (X4 V c s) (X5 V c s) from att_read V c s 5 hs' (by decide))) $$ H5
  ihave H6 := (pcD_at c (gi s 6) _ (attArr V c) (show _ = attS (s % 2) 6 (X3 V c s) (X4 V c s) (X5 V c s) from att_read V c s 6 hs' (by decide))) $$ H6
  ihave H7 := (pcD_at c (gi s 7) _ (attArr V c) (show _ = attS (s % 2) 7 (X3 V c s) (X4 V c s) (X5 V c s) from att_read V c s 7 hs' (by decide))) $$ H7
  ihave K0 := (cpcD_at c (ci s 0) _ (ctxArr V c) (show _ = ctxS (s % 2) 0 (X3 V c s) (X4 V c s) (X5 V c s) (X6 V c s) from ctx_read V c s 0 hs' (by decide))) $$ K0
  ihave K1 := (cpcD_at c (ci s 1) _ (ctxArr V c) (show _ = ctxS (s % 2) 1 (X3 V c s) (X4 V c s) (X5 V c s) (X6 V c s) from ctx_read V c s 1 hs' (by decide))) $$ K1
  isplitr [K0 K1]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [K0]; · iexact K0
  iexact K1

/-! ### The body's own semaphores -/

/-- Three semaphores for the score ring, two for the context ring. -/
def osem : Fin 5 → SemLoc sig := fun j => (![SemLoc.dma (csm 0).sem, SemLoc.dma (csm 1).sem, SemLoc.dma (csm 2).sem, SemLoc.dma (ccsm 0).sem, SemLoc.dma (ccsm 1).sem] : Fin 5 → SemLoc sig) j
theorem ownSemFacts : Pipeline.OwnSemFacts spec1 osem := by decide
/-- The five at zero. -/
def sem0 (c : Dev nD) : sProp 𝕄 :=
  iprop(semVal ((c : Thread nD τ), SemLoc.dma (csm 0).sem) 0 ∗ semVal ((c : Thread nD τ), SemLoc.dma (csm 1).sem) 0
    ∗ semVal ((c : Thread nD τ), SemLoc.dma (csm 2).sem) 0 ∗ semVal ((c : Thread nD τ), SemLoc.dma (ccsm 0).sem) 0
    ∗ semVal ((c : Thread nD τ), SemLoc.dma (ccsm 1).sem) 0)
theorem ownSems0_eq (c : Dev nD) :
    (Pipeline.ownSems0 (Ix := Unit) (Name := ℕ) (U := Pipeline.UD sig nD τ) (Lvl := ℕ) (Val := Elt F) (τ := τ) osem c : sProp 𝕄) = sem0 c :=
  Pipeline.ownSems0_eq_of_list c osem [0, 1, 2, 3, 4] (by decide) (by decide)

/-- The invariant before the first point. -/
theorem phi_in (c : Dev nD) (f : Buf (Elt F) ((c : Thread nD τ).loc main_v13_0)) (g : Buf (Elt F) ((c : Thread nD τ).loc main_v13_1)) :
    (iprop(((((c : Thread nD τ).loc main_v13_0) ↦{fullShare} f) ∗ (((c : Thread nD τ).loc main_v13_1) ↦{fullShare} g)) ∗ sem0 c
      ∗ Pipeline.scopedRest (Ix := Unit) (Name := ℕ) (U := Pipeline.UD sig nD τ) (Lvl := ℕ) (Val := Elt F) spec1 c) : sProp 𝕄) ⊢ Phi V c 0 := by
  rw [scopedRest1_split]
  unfold Phi St sem0 Rst FR slotZ cslotZ
  rw [if_neg (by decide), if_pos rfl, show Finset.range (0 - 1) = ∅ from rfl, bigSep_empty, bigSep_empty]
  iintro ⟨HR, ⟨S0, S1, S2, S3, S4⟩, ⟨Ha, Hb⟩, Hr⟩
  ihave HI := (entry_pieces c f g) $$ HR
  ihave Ha := (stg_split c) $$ Ha
  ihave Hb := (cst_split c) $$ Hb
  icases Ha with ⟨A0, A1, A2⟩
  icases Hb with ⟨B0, B1⟩
  isplitr [Hr]
  · isplitr; · iempintro
    isplitr; · iempintro
    isplitl [HI]; · iexact HI
    isplitl [A0 S0]
    · isplitl [A0]; · iexact A0
      iexact S0
    isplitl [A1 S1]
    · isplitl [A1]; · iexact A1
      iexact S1
    isplitl [A2 S2]
    · isplitl [A2]; · iexact A2
      iexact S2
    isplitl [B0 S3]
    · isplitl [B0]; · iexact B0
      iexact S3
    isplitl [B1]; · iexact B1
    iexact S4
  iexact Hr

/-- What the invariant after the last point gives back. -/
theorem phi_out (c : Dev nD) (f₀ : Buf (Elt F) ((c : Thread nD τ).loc cc1_scratch0)) (g₀ : Buf (Elt F) ((c : Thread nD τ).loc cc1_scratch1)) :
    Phi V c 32 ⊢ (iprop(((((c : Thread nD τ).loc main_v13_0) ↦{fullShare} attArr V c) ∗ (((c : Thread nD τ).loc main_v13_1) ↦{fullShare} ctxArr V c)) ∗ sem0 c
      ∗ Pipeline.scopedRest (Ix := Unit) (Name := ℕ) (U := Pipeline.UD sig nD τ) (Lvl := ℕ) (Val := Elt F) spec1 c) : sProp 𝕄) := by
  rw [scopedRest1_split]
  unfold Phi En sem0 Rst FR slotZ cslotZ
  rw [if_pos rfl]
  iintro ⟨⟨HA, HB, ⟨A0, S0⟩, ⟨A1, S1⟩, ⟨A2, S2⟩, ⟨B0, S3⟩, ⟨B1, S4⟩⟩, Hr⟩
  ihave HR := (exit_pieces V c) $$ [HA HB]
  · isplitl [HA]; · iexact HA
    iexact HB
  ihave Ha := (stg_join c f₀) $$ [A0 A1 A2]
  · isplitl [A0]; · iexact A0
    isplitl [A1]; · iexact A1
    iexact A2
  ihave Hb := (cst_join c g₀) $$ [B0 B1]
  · isplitl [B0]; · iexact B0
    iexact B1
  isplitl [HR]; · iexact HR
  isplitl [S0 S1 S2 S3 S4]
  · isplitl [S0]; · iexact S0
    isplitl [S1]; · iexact S1
    isplitl [S2]; · iexact S2
    isplitl [S3]; · iexact S3
    iexact S4
  isplitr [Hr]
  · isplitl [Ha]; · iexact Ha
    iexact Hb
  iexact Hr

end Cert.KernelIdeal.Attn
-- ==== Proof.IRegQkv.lean ====
/-
  The projection call: what its body leaves in each window, for any contents of the arrays it is entered with.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Qkv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- What the body leaves in the buffer of window 9. -/
def out0_9 (x0 : Vec F S512x1024 .f32) (x1 : Vec F S512x1024 .f32) (x2 : Vec F S512x1024 .f32) (x3 : Vec F S1024x1024 .f32) (x4 : Vec F S1x1024 .f32) (x5 : Vec F S1024x1024 .f32) (x6 : Vec F S1x1024 .f32) (x7 : Vec F S1024x1024 .f32) (x8 : Vec F S1x1024 .f32) : Vec F S512x1024 .bf16 :=
  View.canon [⟨r0_0, k0_pay1 (View.ld x0 r0_0) (View.ld x3 r0_1) (View.ld x4 r0_2)⟩]

theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- What the body leaves in the buffer of window 10. -/
def out0_10 (x0 : Vec F S512x1024 .f32) (x1 : Vec F S512x1024 .f32) (x2 : Vec F S512x1024 .f32) (x3 : Vec F S1024x1024 .f32) (x4 : Vec F S1x1024 .f32) (x5 : Vec F S1024x1024 .f32) (x6 : Vec F S1x1024 .f32) (x7 : Vec F S1024x1024 .f32) (x8 : Vec F S1x1024 .f32) : Vec F S512x1024 .bf16 :=
  View.canon [⟨r0_0, k0_pay2 (View.ld x1 r0_0) (View.ld x5 r0_1) (View.ld x6 r0_2)⟩]

theorem cover0_10 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- What the body leaves in the buffer of window 11. -/
def out0_11 (x0 : Vec F S512x1024 .f32) (x1 : Vec F S512x1024 .f32) (x2 : Vec F S512x1024 .f32) (x3 : Vec F S1024x1024 .f32) (x4 : Vec F S1x1024 .f32) (x5 : Vec F S1024x1024 .f32) (x6 : Vec F S1x1024 .f32) (x7 : Vec F S1024x1024 .f32) (x8 : Vec F S1x1024 .f32) : Vec F S512x1024 .bf16 :=
  View.canon [⟨r0_0, k0_pay3 (View.ld x2 r0_0) (View.ld x7 r0_1) (View.ld x8 r0_2)⟩]

theorem cover0_11 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The body on whole buffers: inputs kept, outputs at `outK_W` of the inputs. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole)
    (x0 : Vec F S512x1024 .f32) (x1 : Vec F S512x1024 .f32) (x2 : Vec F S512x1024 .f32) (x3 : Vec F S1024x1024 .f32) (x4 : Vec F S1x1024 .f32) (x5 : Vec F S1024x1024 .f32) (x6 : Vec F S1x1024 .f32) (x7 : Vec F S1024x1024 .f32) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11 arg12 harg12) K := by
  simp only [cc0_qkv_proj_eq_skeleton]; unfold cc0_qkv_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The arrays as the region finds them (`V`); after the body each input's buffer at its block and each output's at
    `outK_W` of the input blocks; nothing owed; full shares. -/
def dats (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out0_9 (iblk V c 0 t) (iblk V c 1 t) (iblk V c 2 t) (iblk V c 3 t) (iblk V c 4 t) (iblk V c 5 t) (iblk V c 6 t) (iblk V c 7 t) (iblk V c 8 t)
    | ⟨10, _⟩ => out0_10 (iblk V c 0 t) (iblk V c 1 t) (iblk V c 2 t) (iblk V c 3 t) (iblk V c 4 t) (iblk V c 5 t) (iblk V c 6 t) (iblk V c 7 t) (iblk V c 8 t)
    | ⟨11, _⟩ => out0_11 (iblk V c 0 t) (iblk V c 1 t) (iblk V c 2 t) (iblk V c 3 t) (iblk V c 4 t) (iblk V c 5 t) (iblk V c 6 t) (iblk V c 7 t) (iblk V c 8 t)
  Φ _ := Pipeline.scopedRest spec0 c
  q _ := fullShare
  owed _ := 0

theorem A_eq (c : Dev nD) (w : Fin cfg0.W) : (dats V c).A w = V c (Pipeline.arrRef spec0 w) := by
  dsimp only [dats]

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = iblk V c 6 t := by dsimp only [dats]
theorem after0_7 (c : Dev nD) (t : Fin cfg0.N) : (dats V c).after 7 t = iblk V c 7 t := by dsimp only [dats]
theorem after0_8 (c : Dev nD) (t : Fin cfg0.N) : (dats V c).after 8 t = iblk V c 8 t := by dsimp only [dats]
theorem after0_9 (c : Dev nD) (t : Fin cfg0.N) : (dats V c).after 9 t = out0_9 (iblk V c 0 t) (iblk V c 1 t) (iblk V c 2 t) (iblk V c 3 t) (iblk V c 4 t) (iblk V c 5 t) (iblk V c 6 t) (iblk V c 7 t) (iblk V c 8 t) := by dsimp only [dats]
theorem after0_10 (c : Dev nD) (t : Fin cfg0.N) : (dats V c).after 10 t = out0_10 (iblk V c 0 t) (iblk V c 1 t) (iblk V c 2 t) (iblk V c 3 t) (iblk V c 4 t) (iblk V c 5 t) (iblk V c 6 t) (iblk V c 7 t) (iblk V c 8 t) := by dsimp only [dats]
theorem after0_11 (c : Dev nD) (t : Fin cfg0.N) : (dats V c).after 11 t = out0_11 (iblk V c 0 t) (iblk V c 1 t) (iblk V c 2 t) (iblk V c 3 t) (iblk V c 4 t) (iblk V c 5 t) (iblk V c 6 t) (iblk V c 7 t) (iblk V c 8 t) := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d
theorem before0_6 (c : Dev nD) (t : Fin cfg0.N) (d) : (dats V c).before 6 t d = iblk V c 6 t :=
  before0_6_of V (dats V c) (A_eq V c 6) (after0_6 V c) t d
theorem before0_7 (c : Dev nD) (t : Fin cfg0.N) (d) : (dats V c).before 7 t d = iblk V c 7 t :=
  before0_7_of V (dats V c) (A_eq V c 7) (after0_7 V c) t d
theorem before0_8 (c : Dev nD) (t : Fin cfg0.N) (d) : (dats V c).before 8 t d = iblk V c 8 t :=
  before0_8_of V (dats V c) (A_eq V c 8) (after0_8 V c) t d

/-! ## The body obligation, at a generic point -/

def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d))
    ∗ (∃ d, owns (c : Thread nD τ) (st0_3 t) fullShare ((dats V c).before 3 t d))
    ∗ (∃ d, owns (c : Thread nD τ) (st0_4 t) fullShare ((dats V c).before 4 t d))
    ∗ (∃ d, owns (c : Thread nD τ) (st0_5 t) fullShare ((dats V c).before 5 t d))
    ∗ (∃ d, owns (c : Thread nD τ) (st0_6 t) fullShare ((dats V c).before 6 t d))
    ∗ (∃ d, owns (c : Thread nD τ) (st0_7 t) fullShare ((dats V c).before 7 t d))
    ∗ (∃ d, owns (c : Thread nD τ) (st0_8 t) fullShare ((dats V c).before 8 t d))
    ∗ (∃ d, owns (c : Thread nD τ) (st0_9 t) fullShare ((dats V c).before 9 t d))
    ∗ (∃ d, owns (c : Thread nD τ) (st0_10 t) fullShare ((dats V c).before 10 t d))
    ∗ (∃ d, owns (c : Thread nD τ) (st0_11 t) fullShare ((dats V c).before 11 t d)))

def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t)
    ∗ owns (c : Thread nD τ) (st0_3 t) fullShare ((dats V c).after 3 t)
    ∗ owns (c : Thread nD τ) (st0_4 t) fullShare ((dats V c).after 4 t)
    ∗ owns (c : Thread nD τ) (st0_5 t) fullShare ((dats V c).after 5 t)
    ∗ owns (c : Thread nD τ) (st0_6 t) fullShare ((dats V c).after 6 t)
    ∗ owns (c : Thread nD τ) (st0_7 t) fullShare ((dats V c).after 7 t)
    ∗ owns (c : Thread nD τ) (st0_8 t) fullShare ((dats V c).after 8 t)
    ∗ owns (c : Thread nD τ) (st0_9 t) fullShare ((dats V c).after 9 t)
    ∗ owns (c : Thread nD τ) (st0_10 t) fullShare ((dats V c).after 10 t)
    ∗ owns (c : Thread nD τ) (st0_11 t) fullShare ((dats V c).after 11 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8]
  rw [show (dats V c).Φ t.succ = (dats V c).Φ t.castSucc from rfl,
    show (dats V c).owesAt () t.succ = (dats V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The body does its part at every point. -/
theorem body_obligation (c : Dev nD) : BodyObligation (dats V c) (defs₀ (F := F)) Variants.none () Set.univ := fun t => by
  rw [bigSep_W0, bigSep_W0, defs₀_row]
  exact triple_restated (sound_body V c t) rfl .rfl fun _ => .rfl

end Cert.KernelIdeal.Qkv
-- ==== Proof.IRegOut.lean ====
/-
  The output call: what its body leaves in each window, for any contents of the arrays it is entered with.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Outk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- The block of window `w` at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in each output window's buffer -/

/-- What the body leaves in the buffer of window 6. -/
def out2_6 (x0 : Vec F S512x1024 .bf16) (x1 : Vec F S512x1024 .f32) (x2 : Vec F S1024x1024 .f32) (x3 : Vec F S1x1024 .f32) (x4 : Vec F S1x1024 .f32) (x5 : Vec F S1x1024 .f32) : Vec F S512x1024 .f32 :=
  View.canon [⟨r2_0, k2_pay1 (View.ld x0 r2_0) (View.ld x2 r2_1) (View.ld x3 r2_2) (View.ld x1 r2_0) (View.ld x4 r2_2) (View.ld x5 r2_2)⟩]

theorem cover2_6 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The body on whole buffers: inputs kept, outputs at `outK_W` of the inputs. -/
theorem sound_kernel (c : Dev nD) (E : Set ℕ) (i : grid2.Coords) (arg1 : Memref sig .tc .vmem S512x1024 .bf16) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole)
    (x0 : Vec F S512x1024 .bf16) (x1 : Vec F S512x1024 .f32) (x2 : Vec F S1024x1024 .f32) (x3 : Vec F S1x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2_out_ln i arg1 harg1 arg2 harg2 arg3 harg3 arg4 harg4 arg5 harg5 arg6 harg6 arg7 harg7) K := by
  simp only [cc2_out_ln_eq_skeleton]; unfold cc2_out_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them (`V`); after the body each input's buffer at its block and each output's at
    `outK_W` of the input blocks; nothing owed; full shares. -/
def dats (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out2_6 (iblk V c 0 t) (iblk V c 1 t) (iblk V c 2 t) (iblk V c 3 t) (iblk V c 4 t) (iblk V c 5 t)
  Φ _ := Pipeline.scopedRest spec2 c
  q _ := fullShare
  owed _ := 0

theorem A_eq (c : Dev nD) (w : Fin cfg2.W) : (dats V c).A w = V c (Pipeline.arrRef spec2 w) := by
  dsimp only [dats]

theorem after2_0 (c : Dev nD) (t : Fin cfg2.N) : (dats V c).after 0 t = iblk V c 0 t := by dsimp only [dats]
theorem after2_1 (c : Dev nD) (t : Fin cfg2.N) : (dats V c).after 1 t = iblk V c 1 t := by dsimp only [dats]
theorem after2_2 (c : Dev nD) (t : Fin cfg2.N) : (dats V c).after 2 t = iblk V c 2 t := by dsimp only [dats]
theorem after2_3 (c : Dev nD) (t : Fin cfg2.N) : (dats V c).after 3 t = iblk V c 3 t := by dsimp only [dats]
theorem after2_4 (c : Dev nD) (t : Fin cfg2.N) : (dats V c).after 4 t = iblk V c 4 t := by dsimp only [dats]
theorem after2_5 (c : Dev nD) (t : Fin cfg2.N) : (dats V c).after 5 t = iblk V c 5 t := by dsimp only [dats]
theorem after2_6 (c : Dev nD) (t : Fin cfg2.N) : (dats V c).after 6 t = out2_6 (iblk V c 0 t) (iblk V c 1 t) (iblk V c 2 t) (iblk V c 3 t) (iblk V c 4 t) (iblk V c 5 t) := by dsimp only [dats]

theorem before2_0 (c : Dev nD) (t : Fin cfg2.N) (d) : (dats V c).before 0 t d = iblk V c 0 t :=
  before2_0_of V (dats V c) (A_eq V c 0) (after2_0 V c) t d
theorem before2_1 (c : Dev nD) (t : Fin cfg2.N) (d) : (dats V c).before 1 t d = iblk V c 1 t :=
  before2_1_of V (dats V c) (A_eq V c 1) (after2_1 V c) t d
theorem before2_2 (c : Dev nD) (t : Fin cfg2.N) (d) : (dats V c).before 2 t d = iblk V c 2 t :=
  before2_2_of V (dats V c) (A_eq V c 2) (after2_2 V c) t d
theorem before2_3 (c : Dev nD) (t : Fin cfg2.N) (d) : (dats V c).before 3 t d = iblk V c 3 t :=
  before2_3_of V (dats V c) (A_eq V c 3) (after2_3 V c) t d
theorem before2_4 (c : Dev nD) (t : Fin cfg2.N) (d) : (dats V c).before 4 t d = iblk V c 4 t :=
  before2_4_of V (dats V c) (A_eq V c 4) (after2_4 V c) t d
theorem before2_5 (c : Dev nD) (t : Fin cfg2.N) (d) : (dats V c).before 5 t d = iblk V c 5 t :=
  before2_5_of V (dats V c) (A_eq V c 5) (after2_5 V c) t d

/-! ## The body obligation, at a generic point -/

def bodyPre (c : Dev nD) (t : Fin cfg2.N) : sProp 𝕄 :=
  iprop((dats V c).Φ t.castSucc ∗ (dats V c).owesAt () t.castSucc
    ∗ (∃ d, owns (c : Thread nD τ) (st2_0 t) fullShare ((dats V c).before 0 t d))
    ∗ (∃ d, owns (c : Thread nD τ) (st2_1 t) fullShare ((dats V c).before 1 t d))
    ∗ (∃ d, owns (c : Thread nD τ) (st2_2 t) fullShare ((dats V c).before 2 t d))
    ∗ (∃ d, owns (c : Thread nD τ) (st2_3 t) fullShare ((dats V c).before 3 t d))
    ∗ (∃ d, owns (c : Thread nD τ) (st2_4 t) fullShare ((dats V c).before 4 t d))
    ∗ (∃ d, owns (c : Thread nD τ) (st2_5 t) fullShare ((dats V c).before 5 t d))
    ∗ (∃ d, owns (c : Thread nD τ) (st2_6 t) fullShare ((dats V c).before 6 t d)))

def bodyPost (c : Dev nD) (t : Fin cfg2.N) : sProp 𝕄 :=
  iprop((dats V c).Φ t.succ ∗ (dats V c).owesAt () t.succ
    ∗ owns (c : Thread nD τ) (st2_0 t) fullShare ((dats V c).after 0 t)
    ∗ owns (c : Thread nD τ) (st2_1 t) fullShare ((dats V c).after 1 t)
    ∗ owns (c : Thread nD τ) (st2_2 t) fullShare ((dats V c).after 2 t)
    ∗ owns (c : Thread nD τ) (st2_3 t) fullShare ((dats V c).after 3 t)
    ∗ owns (c : Thread nD τ) (st2_4 t) fullShare ((dats V c).after 4 t)
    ∗ owns (c : Thread nD τ) (st2_5 t) fullShare ((dats V c).after 5 t)
    ∗ owns (c : Thread nD τ) (st2_6 t) fullShare ((dats V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5]
  rw [show (dats V c).Φ t.succ = (dats V c).Φ t.castSucc from rfl,
    show (dats V c).owesAt () t.succ = (dats V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg2.N) :
    defs₀ (F := F) .tc cfg2.body (cfg2.bodyArgs t (cfg2.slots t)) = bodyAt2 t := by
  unfold defs₀; rw [Defs.onTc_tc]

/-- The body does its part at every point. -/
theorem body_obligation (c : Dev nD) : BodyObligation (dats V c) (defs₀ (F := F)) Variants.none () Set.univ := fun t => by
  rw [bigSep_W2, bigSep_W2, defs₀_row]
  exact triple_restated (sound_body V c t) rfl .rfl fun _ => .rfl

end Cert.KernelIdeal.Outk
-- ==== Proof.IRegs.lean ====
/-
  The three calls as segments of the program.

  Each is entered holding every array of the program at some contents and left holding them at the same contents with the
  call's results replaced by what the call leaves.
-/
module

public import proofs.«01_k».proof.Proof.IAttnEnds
public import proofs.«01_k».proof.Proof.IRegQkv
public import proofs.«01_k».proof.Proof.IRegOut

@[expose] public section

set_option maxRecDepth 16384

noncomputable section

namespace Cert.KernelIdeal.Regs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- Contents of every array of the program, on every core. -/
abbrev Vals := Dev nD → Valuation τ sig (Elt F)
/-- Read at the arrays' references. -/
abbrev at' (W : Vals (F := F)) : (c : Dev nD) → (b : Ref sig .tc) → Buf (Elt F) ((c : Thread nD τ).loc b) := fun c b => W c b

variable (A B C : Vals (F := F))

/-- The three calls' proof data, each entered at its own contents. -/
def pdats : (p : Fin 3) → (c : Dev nD) → Dat τ (Elt F) Unit ℕ (Pipeline.UD sig nD τ) ℕ (cfgs p) c
  | ⟨0, _⟩ => Qkv.dats (at' A)
  | ⟨1, _⟩ => Attn.dat (at' B)
  | ⟨2, _⟩ => Outk.dats (at' C)

abbrev L : GSem nD τ sig → Finset Unit := fun _ => ∅
abbrev lv : GSem nD τ sig → Unit → ℕ := fun _ _ => 0
/-- What rides along: the core owes nothing. -/
abbrev R (c : Dev nD) : sProp 𝕄 := iprop(∃ W, owes (c : Thread nD τ) (0 : CellTallies nD τ sig Unit) W)

/-- What the first call leaves: queries, keys and values. -/
def o9_0 (c : Dev nD) : Buf (Elt F) ((c : Thread nD τ).loc main_v9_0) := (Qkv.dats (at' A) c).arrAt 9 cfg0.N
def o9_1 (c : Dev nD) : Buf (Elt F) ((c : Thread nD τ).loc main_v9_1) := (Qkv.dats (at' A) c).arrAt 10 cfg0.N
def o9_2 (c : Dev nD) : Buf (Elt F) ((c : Thread nD τ).loc main_v9_2) := (Qkv.dats (at' A) c).arrAt 11 cfg0.N
/-- What the last call leaves: the layer's output. -/
def o15 (c : Dev nD) : Buf (Elt F) ((c : Thread nD τ).loc main_v15) := (Outk.dats (at' C) c).arrAt 6 cfg2.N

/-- The contents after the first call, after the second, after the third. -/
def nA (c : Dev nD) : Valuation τ sig (Elt F) :=
  Function.update (Function.update (Function.update (A c) main_v9_0 (o9_0 A c)) main_v9_1 (o9_1 A c)) main_v9_2 (o9_2 A c)
def nB (c : Dev nD) : Valuation τ sig (Elt F) :=
  Function.update (Function.update (B c) main_v13_0 (Attn.attArr (at' B) c)) main_v13_1 (Attn.ctxArr (at' B) c)
def nC (c : Dev nD) : Valuation τ sig (Elt F) := Function.update (C c) main_v15 (o15 C c)

omit [FloatOps F] in
theorem upd_ne {X : Valuation τ sig (Elt F)} {r s : Ref sig .tc} (v) (h : r ≠ s) : Function.update X (Proc.devRef .tc s) v (Proc.devRef .tc r) = X (Proc.devRef .tc r) :=
  Function.update_of_ne (StableHlo.devRef_ne_of_ne h) _ _

theorem nA_of (c : Dev nD) (r : Ref sig .tc) (h0 : r ≠ main_v9_0) (h1 : r ≠ main_v9_1) (h2 : r ≠ main_v9_2) : nA A c r = A c r := by
  unfold nA
  exact (upd_ne _ h2).trans ((upd_ne _ h1).trans (upd_ne _ h0))
theorem nA_0 (c : Dev nD) : nA A c main_v9_0 = o9_0 A c := by
  unfold nA
  exact (upd_ne _ (by decide)).trans ((upd_ne _ (by decide)).trans (Function.update_self _ _ _))
theorem nA_1 (c : Dev nD) : nA A c main_v9_1 = o9_1 A c := by
  unfold nA
  exact (upd_ne _ (by decide)).trans (Function.update_self _ _ _)
theorem nA_2 (c : Dev nD) : nA A c main_v9_2 = o9_2 A c := by
  unfold nA
  exact Function.update_self _ _ _
theorem nB_of (c : Dev nD) (r : Ref sig .tc) (h0 : r ≠ main_v13_0) (h1 : r ≠ main_v13_1) : nB B c r = B c r := by
  unfold nB
  exact (upd_ne _ h1).trans (upd_ne _ h0)
theorem nB_0 (c : Dev nD) : nB B c main_v13_0 = Attn.attArr (at' B) c := by
  unfold nB
  exact (upd_ne _ (by decide)).trans (Function.update_self _ _ _)
theorem nB_1 (c : Dev nD) : nB B c main_v13_1 = Attn.ctxArr (at' B) c := by
  unfold nB
  exact Function.update_self _ _ _
theorem nC_of (c : Dev nD) (r : Ref sig .tc) (h0 : r ≠ main_v15) : nC C c r = C c r := by
  unfold nC
  exact upd_ne _ h0
theorem nC_0 (c : Dev nD) : nC C c main_v15 = o15 C c := by
  unfold nC
  exact Function.update_self _ _ _

/-! ### Each window's array after its call -/

theorem in0 : ∀ w : Fin 12, (spec0 w).isOut = false →
    Pipeline.arrRef spec0 w ≠ main_v9_0 ∧ Pipeline.arrRef spec0 w ≠ main_v9_1 ∧ Pipeline.arrRef spec0 w ≠ main_v9_2 := by decide
theorem out0 : ∀ w : Fin 12, ¬ (spec0 w).isOut = false → w = 9 ∨ w = 10 ∨ w = 11 := by decide
theorem fin0 (c : Dev nD) (w : Fin cfg0.W) : (Qkv.dats (at' A) c).arrAt w cfg0.N = at' (nA A) c (Pipeline.arrRef spec0 w) := by
  by_cases h : (spec0 w).isOut = false
  · obtain ⟨h0, h1, h2⟩ := in0 w h
    exact ((Qkv.dats (at' A) c).arrAt_in w h _).trans ((Qkv.A_eq (at' A) c w).trans (nA_of A c _ h0 h1 h2).symm)
  · rcases out0 w h with rfl | rfl | rfl
    · exact (nA_0 A c).symm
    · exact (nA_1 A c).symm
    · exact (nA_2 A c).symm
theorem rest0 (c : Dev nD) (b : Ref sig .tc) (hb : b ∉ Finset.univ.image (Pipeline.arrRef spec0)) : at' (nA A) c b = at' A c b :=
  nA_of A c b (fun h => hb (Finset.mem_image.2 ⟨9, Finset.mem_univ _, h.symm⟩)) (fun h => hb (Finset.mem_image.2 ⟨10, Finset.mem_univ _, h.symm⟩))
    (fun h => hb (Finset.mem_image.2 ⟨11, Finset.mem_univ _, h.symm⟩))
theorem in2 : ∀ w : Fin 7, (spec2 w).isOut = false → Pipeline.arrRef spec2 w ≠ main_v15 := by decide
theorem out2 : ∀ w : Fin 7, ¬ (spec2 w).isOut = false → w = 6 := by decide
theorem fin2 (c : Dev nD) (w : Fin cfg2.W) : (Outk.dats (at' C) c).arrAt w cfg2.N = at' (nC C) c (Pipeline.arrRef spec2 w) := by
  by_cases h : (spec2 w).isOut = false
  · exact ((Outk.dats (at' C) c).arrAt_in w h _).trans ((Outk.A_eq (at' C) c w).trans (nC_of C c _ (in2 w h)).symm)
  · obtain rfl := out2 w h
    exact (nC_0 C c).symm
theorem rest2 (c : Dev nD) (b : Ref sig .tc) (hb : b ∉ Finset.univ.image (Pipeline.arrRef spec2)) : at' (nC C) c b = at' C c b :=
  nC_of C c b (fun h => hb (Finset.mem_image.2 ⟨6, Finset.mem_univ _, h.symm⟩))
theorem in1 : ∀ w : Fin 4, (spec1 w).isOut = false ∧ Pipeline.arrRef spec1 w ≠ main_v13_0 ∧ Pipeline.arrRef spec1 w ≠ main_v13_1 := by decide
theorem fin1 (c : Dev nD) (w : Fin cfg1.W) : (Attn.dat (at' B) c).arrAt w cfg1.N = at' (nB B) c (Pipeline.arrRef spec1 w) :=
  ((Attn.dat (at' B) c).arrAt_in w (in1 w).1 _).trans ((Attn.A_eq (at' B) c w).trans (nB_of B c _ (in1 w).2.1 (in1 w).2.2).symm)

/-! ### Nothing prefetched, nothing owed, no semaphores of its own -/

def nosem : Fin 0 → SemLoc sig := fun j => j.elim0
theorem nosem0 : Pipeline.OwnSemFacts spec0 nosem := by decide
theorem nosem2 : Pipeline.OwnSemFacts spec2 nosem := by decide
theorem nosems_eq (c : Dev nD) :
    (Pipeline.ownSems0 (Ix := Unit) (Name := ℕ) (U := Pipeline.UD sig nD τ) (Lvl := ℕ) (Val := Elt F) (τ := τ) nosem c : sProp 𝕄) = iprop(emp) := by
  unfold Pipeline.ownSems0
  rw [show (Finset.univ : Finset (Fin 0)) = ∅ from rfl, BI.bigSep_empty]
  rfl
theorem owes_in {p : Fin 3} {c : Dev nD} (d : Dat τ (Elt F) Unit ℕ (Pipeline.UD sig nD τ) ℕ (cfgs p) c) (t) (h : d.owed t = 0) (hr : d.recorded t = Set.univ) : (R (F := F) c) ⊢ (d.owesAt () t : sProp 𝕄) := by
  unfold Pipeline.Dat.owesAt Pipeline.owesWithin
  rw [h]
  iintro ⟨%W, HO⟩; iexists W; isplitr; · ipureintro; exact fun _ _ => Or.inl (by rw [hr]; trivial)
  iexact HO
theorem owes_out {p : Fin 3} {c : Dev nD} (d : Dat τ (Elt F) Unit ℕ (Pipeline.UD sig nD τ) ℕ (cfgs p) c) (t) (h : d.owed t = 0) : (d.owesAt () t : sProp 𝕄) ⊢ R (F := F) c := by
  unfold Pipeline.Dat.owesAt Pipeline.owesWithin
  rw [h]
  iintro ⟨%W, -, HO⟩; iexists W
  iexact HO

theorem emp2 (P : sProp 𝕄) : P ⊢ iprop(emp ∗ emp ∗ P) := by
  iintro Hr
  isplitr; · iempintro
  isplitr; · iempintro
  iexact Hr

/-! ### The segments -/

set_option maxHeartbeats 2000000 in
set_option backward.isDefEq.respectTransparency.types false in
/-- The call computing queries, keys and values. -/
def reg0 : Pipeline.RegionSeg (pcfgs (F := F)) adm (pdats A B C) () defs₀ Variants.none L lv 0 where
  win := launch0.win.to₀
  block_pos := launch0.block_pos
  stage_whole := launch0.stage_whole
  K := Fin 0
  osem := nosem
  ho := nosem0
  hbody c := (Qkv.body_obligation (at' A) c).loose
  hwaits := Pipeline.hwaits_of_owed_zero _ _ _ _ L lv 0 fun _ _ => rfl
  pre c := iprop(StableHlo.held (c : Thread nD τ) (Pipeline.ucRefs τ sig) (A c) ∗ R c)
  post c := iprop(StableHlo.held (c : Thread nD τ) (Pipeline.ucRefs τ sig) (nA A c) ∗ R c)
  X c := iprop(emp)
  Y c := iprop(emp)
  Z c := Pipeline.unscopedRest (Ix := Unit) (Name := ℕ) (U := Pipeline.UD sig nD τ) (Lvl := ℕ) (Val := Elt F) spec0 c (at' A c)
  hentry c := by
    rw [← Pipeline.unscopedBufs_held (Ix := Unit) (Name := ℕ) (U := Pipeline.UD sig nD τ) (Lvl := ℕ) c (A c), nosems_eq]
    have hsplit := Pipeline.arrays_of_unscopedBufs (pcfgs (F := F)) adm (pdats A B C) (p := 0) launch0.win launch0.arr_whole c
      ((pdats A B C 0 c).share_full fun _ => rfl) (at' A c) (Qkv.A_eq (at' A) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]; · iapply (owes_in (pdats A B C 0 c) 0 rfl rfl); iexact HO
    isplitr; · iempintro
    iexact Hz
  hin c := by
    rw [show (pdats A B C 0 c).Φ 0 = Pipeline.scopedRest (Ix := Unit) (Name := ℕ) (U := Pipeline.UD sig nD τ) (Lvl := ℕ) (Val := Elt F) spec0 c from rfl]
    iintro ⟨-, -, Hr⟩
    iexact Hr
  hout c := by
    rw [nosems_eq]
    exact emp2 (Pipeline.scopedRest (Ix := Unit) (Name := ℕ) (U := Pipeline.UD sig nD τ) (Lvl := ℕ) (Val := Elt F) spec0 c)
  hexit c := by
    have hjoin := Pipeline.unscopedBufs_of_arrays (pcfgs (F := F)) adm (p := 0) launch0.win launch0.arr_whole c (pdats A B C)
      ((pdats A B C 0 c).share_full fun _ => rfl) (at' A c) (at' (nA A) c) ((pdats A B C 0 c).arrAt · cfg0.N) (fin0 A c) (rest0 A c)
    rw [← Pipeline.unscopedBufs_held (Ix := Unit) (Name := ℕ) (U := Pipeline.UD sig nD τ) (Lvl := ℕ) c (nA A c)]
    iintro ⟨Ha, HO, -, Hz⟩
    ihave H := hjoin $$ [Ha Hz]
    · isplitl [Ha]; · iexact Ha
      iexact Hz
    imodintro
    isplitl [H]; · iexact H
    iapply (owes_out (pdats A B C 0 c) (Fin.last cfg0.N) rfl); iexact HO

set_option maxHeartbeats 2000000 in
set_option backward.isDefEq.respectTransparency.types false in
/-- The output call. -/
def reg2 : Pipeline.RegionSeg (pcfgs (F := F)) adm (pdats A B C) () defs₀ Variants.none L lv 2 where
  win := launch2.win.to₀
  block_pos := launch2.block_pos
  stage_whole := launch2.stage_whole
  K := Fin 0
  osem := nosem
  ho := nosem2
  hbody c := (Outk.body_obligation (at' C) c).loose
  hwaits := Pipeline.hwaits_of_owed_zero _ _ _ _ L lv 2 fun _ _ => rfl
  pre c := iprop(StableHlo.held (c : Thread nD τ) (Pipeline.ucRefs τ sig) (C c) ∗ R c)
  post c := iprop(StableHlo.held (c : Thread nD τ) (Pipeline.ucRefs τ sig) (nC C c) ∗ R c)
  X c := iprop(emp)
  Y c := iprop(emp)
  Z c := Pipeline.unscopedRest (Ix := Unit) (Name := ℕ) (U := Pipeline.UD sig nD τ) (Lvl := ℕ) (Val := Elt F) spec2 c (at' C c)
  hentry c := by
    rw [← Pipeline.unscopedBufs_held (Ix := Unit) (Name := ℕ) (U := Pipeline.UD sig nD τ) (Lvl := ℕ) c (C c), nosems_eq]
    have hsplit := Pipeline.arrays_of_unscopedBufs (pcfgs (F := F)) adm (pdats A B C) (p := 2) launch2.win launch2.arr_whole c
      ((pdats A B C 2 c).share_full fun _ => rfl) (at' C c) (Outk.A_eq (at' C) c)
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]; · iapply (owes_in (pdats A B C 2 c) 0 rfl rfl); iexact HO
    isplitr; · iempintro
    iexact Hz
  hin c := by
    rw [show (pdats A B C 2 c).Φ 0 = Pipeline.scopedRest (Ix := Unit) (Name := ℕ) (U := Pipeline.UD sig nD τ) (Lvl := ℕ) (Val := Elt F) spec2 c from rfl]
    iintro ⟨-, -, Hr⟩
    iexact Hr
  hout c := by
    rw [nosems_eq]
    exact emp2 (Pipeline.scopedRest (Ix := Unit) (Name := ℕ) (U := Pipeline.UD sig nD τ) (Lvl := ℕ) (Val := Elt F) spec2 c)
  hexit c := by
    have hjoin := Pipeline.unscopedBufs_of_arrays (pcfgs (F := F)) adm (p := 2) launch2.win launch2.arr_whole c (pdats A B C)
      ((pdats A B C 2 c).share_full fun _ => rfl) (at' C c) (at' (nC C) c) ((pdats A B C 2 c).arrAt · cfg2.N) (fin2 C c) (rest2 C c)
    rw [← Pipeline.unscopedBufs_held (Ix := Unit) (Name := ℕ) (U := Pipeline.UD sig nD τ) (Lvl := ℕ) c (nC C c)]
    iintro ⟨Ha, HO, -, Hz⟩
    ihave H := hjoin $$ [Ha Hz]
    · isplitl [Ha]; · iexact Ha
      iexact Hz
    imodintro
    isplitl [H]; · iexact H
    iapply (owes_out (pdats A B C 2 c) (Fin.last cfg2.N) rfl); iexact HO

/-! ### The attention call -/

/-- The arrays the attention call neither reads nor writes. -/
def oth : Finset (Ref sig .tc) :=
  (((Finset.univ.filter fun b : Ref sig .tc => ¬ b.isScoped) \ Finset.univ.image (Pipeline.arrRef spec1)).erase main_v13_0).erase main_v13_1
def othP (c : Dev nD) (W : (b : Ref sig .tc) → Buf (Elt F) ((c : Thread nD τ).loc b)) : sProp 𝕄 :=
  bigSep oth fun b => ((c : Thread nD τ).loc b) ↦{fullShare} W b
theorem rest1_split (c : Dev nD) (W : (b : Ref sig .tc) → Buf (Elt F) ((c : Thread nD τ).loc b)) :
    (Pipeline.unscopedRest (Ix := Unit) (Name := ℕ) (U := Pipeline.UD sig nD τ) (Lvl := ℕ) (Val := Elt F) spec1 c W : sProp 𝕄)
      = iprop((((c : Thread nD τ).loc main_v13_0) ↦{fullShare} W main_v13_0) ∗ (((c : Thread nD τ).loc main_v13_1) ↦{fullShare} W main_v13_1) ∗ othP c W) := by
  unfold Pipeline.unscopedRest othP oth
  rw [bigSep_erase (i := main_v13_0) (by decide), bigSep_erase (i := main_v13_1) (by decide)]
  rfl
theorem oth_ne (b : Ref sig .tc) (hb : b ∈ oth) : b ≠ main_v13_0 ∧ b ≠ main_v13_1 :=
  ⟨(Finset.mem_erase.1 (Finset.mem_erase.1 hb).2).1, (Finset.mem_erase.1 hb).1⟩
theorem oth_eq (c : Dev nD) : (othP c (at' (nB B) c) : sProp 𝕄) = othP c (at' B c) := by
  unfold othP
  exact bigSep_congr fun b hb => by rw [show at' (nB B) c b = at' B c b from nB_of B c b (oth_ne b hb).1 (oth_ne b hb).2]

set_option maxHeartbeats 2000000 in
set_option backward.isDefEq.respectTransparency.types false in
/-- The attention call. -/
def reg1 : Pipeline.RegionSeg (pcfgs (F := F)) adm (pdats A B C) () defs₀ Variants.none L lv 1 where
  win := winFacts₀1
  block_pos := block_pos1
  stage_whole := stage_whole1
  K := Fin 5
  osem := Attn.osem
  ho := Attn.ownSemFacts
  hbody c := (Attn.body_obligation (at' B) c).loose
  hwaits := Pipeline.hwaits_of_owed_zero _ _ _ _ L lv 1 fun _ _ => rfl
  pre c := iprop(StableHlo.held (c : Thread nD τ) (Pipeline.ucRefs τ sig) (B c) ∗ R c)
  post c := iprop(StableHlo.held (c : Thread nD τ) (Pipeline.ucRefs τ sig) (nB B c) ∗ R c)
  X c := iprop(((((c : Thread nD τ).loc main_v13_0) ↦{fullShare} at' B c main_v13_0) ∗ (((c : Thread nD τ).loc main_v13_1) ↦{fullShare} at' B c main_v13_1)) ∗ Attn.sem0 c)
  Y c := iprop((((c : Thread nD τ).loc main_v13_0) ↦{fullShare} Attn.attArr (at' B) c) ∗ (((c : Thread nD τ).loc main_v13_1) ↦{fullShare} Attn.ctxArr (at' B) c))
  Z c := othP c (at' B c)
  hentry c := by
    rw [← Pipeline.unscopedBufs_held (Ix := Unit) (Name := ℕ) (U := Pipeline.UD sig nD τ) (Lvl := ℕ) c (B c), Attn.ownSems0_eq]
    have hsplit := (Pipeline.arrays_of_unscopedBufs_shared (pcfgs (F := F)) adm (pdats A B C) (p := 1) winFacts₀1 sharedIn1 arr_whole1 c
      (fun _ _ => rfl) (at' B c) (Attn.A_eq (at' B) c)).trans (sep_mono .rfl (Entails.of_eq (rest1_split c (at' B c))))
    iintro ⟨⟨Hub, HO⟩, Hs, -⟩
    ihave H := hsplit $$ Hub
    icases H with ⟨Ha, H0, H1, Hz⟩
    imodintro
    isplitl [Ha]; · iexact Ha
    isplitr; · unfold Pipeline.prefHeld; rw [show (Finset.univ : Finset (Fin 0)) = ∅ from rfl, BI.bigSep_empty]; iempintro
    isplitl [HO]; · iapply (owes_in (pdats A B C 1 c) 0 rfl rfl); iexact HO
    isplitl [H0 H1 Hs]
    · isplitl [H0 H1]
      · isplitl [H0]; · iexact H0
        iexact H1
      iexact Hs
    iexact Hz
  hin c := by
    rw [show (pdats A B C 1 c).Φ 0 = Attn.Phi (at' B) c 0 from rfl]
    iintro ⟨⟨H, Hs⟩, -, Hr⟩
    iapply (Attn.phi_in (at' B) c (at' B c main_v13_0) (at' B c main_v13_1))
    isplitl [H]; · iexact H
    isplitl [Hs]; · iexact Hs
    iexact Hr
  hout c := by
    rw [Attn.ownSems0_eq]
    have e : (pdats A B C 1 c).Φ (Fin.last cfg1.N) = Attn.Phi (at' B) c 32 := congrArg (Attn.Phi (at' B) c) N_1
    refine (Entails.of_eq e).trans ?_
    exact Attn.phi_out (at' B) c (at' B c cc1_scratch0) (at' B c cc1_scratch1)
  hexit c := by
    have hjoin := Pipeline.unscopedBufs_of_arrays_shared (pcfgs (F := F)) adm (p := 1) winFacts₀1 sharedIn1 arr_whole1 c (pdats A B C)
      (fun _ _ => rfl) (at' (nB B) c) (at' (nB B) c) ((pdats A B C 1 c).arrAt · cfg1.N) (fin1 B c) (fun _ _ => rfl)
    have hz : iprop((((c : Thread nD τ).loc main_v13_0) ↦{fullShare} Attn.attArr (at' B) c) ∗ (((c : Thread nD τ).loc main_v13_1) ↦{fullShare} Attn.ctxArr (at' B) c) ∗ othP c (at' B c))
        ⊢ (Pipeline.unscopedRest (Ix := Unit) (Name := ℕ) (U := Pipeline.UD sig nD τ) (Lvl := ℕ) (Val := Elt F) spec1 c (at' (nB B) c) : sProp 𝕄) := by
      rw [rest1_split, oth_eq, show at' (nB B) c main_v13_0 = Attn.attArr (at' B) c from nB_0 B c, show at' (nB B) c main_v13_1 = Attn.ctxArr (at' B) c from nB_1 B c]
    replace hjoin := (sep_mono .rfl hz).trans hjoin
    rw [← Pipeline.unscopedBufs_held (Ix := Unit) (Name := ℕ) (U := Pipeline.UD sig nD τ) (Lvl := ℕ) c (nB B c)]
    iintro ⟨Ha, HO, ⟨H0, H1⟩, Hz⟩
    ihave H := hjoin $$ [Ha H0 H1 Hz]
    · isplitl [Ha]; · iexact Ha
      isplitl [H0]; · iexact H0
      isplitl [H1]; · iexact H1
      iexact Hz
    imodintro
    isplitl [H]; · iexact H
    iapply (owes_out (pdats A B C 1 c) (Fin.last cfg1.N) rfl); iexact HO

end Cert.KernelIdeal.Regs
-- ==== Proof.IRun.lean ====
/-
  The whole program: it ends, its arguments as they were, its two results as `res0` and `res1` give them.

  The contents of the arrays are followed from the launch through the four stretches of host operations and the three
  calls.
-/
module

public import proofs.«01_k».proof.Proof.IRegs

@[expose] public section

set_option maxRecDepth 16384

noncomputable section

namespace Cert.KernelIdeal.Regs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ)

/-! ### The contents between the parts of the program -/

/-- Where the first call is entered, the second, the third. -/
def eA : Vals (F := F) := fun c => StableHlo.after hostOps0 (V0 m c)
def eB : Vals (F := F) := fun c => StableHlo.after hostOps1 (nA (eA m) c)
def eC : Vals (F := F) := fun c => StableHlo.after hostOps2 (nB (eB m) c)
/-- At the end. -/
def eZ : Vals (F := F) := fun c => StableHlo.after hostOps3 (nC (eC m) c)

/-- One of three by the number of a part. -/
def sel {α : Type} (J : ℕ) (x y z : α) : α := if J = 2 then x else if J = 4 then y else z
theorem sel_2 {α : Type} (x y z : α) : sel 2 x y z = x := if_pos rfl
theorem sel_4 {α : Type} (x y z : α) : sel 4 x y z = y := (if_neg (by decide)).trans (if_pos rfl)
theorem sel_6 {α : Type} (x y z : α) : sel 6 x y z = z := (if_neg (by decide)).trans (if_neg (by decide))
/-- What the three calls leave in the arrays they write. -/
def outs : Outs (F := F) := fun J r c => sel J (nA (eA m) c (Proc.devRef .tc r)) (nB (eB m) c (Proc.devRef .tc r)) (nC (eC m) c (Proc.devRef .tc r))

theorem outs_0 (c : Dev nD) : outs m 2 main_v9_0 c = o9_0 (eA m) c := (sel_2 _ _ _).trans (nA_0 (eA m) c)
theorem outs_1 (c : Dev nD) : outs m 2 main_v9_1 c = o9_1 (eA m) c := (sel_2 _ _ _).trans (nA_1 (eA m) c)
theorem outs_2 (c : Dev nD) : outs m 2 main_v9_2 c = o9_2 (eA m) c := (sel_2 _ _ _).trans (nA_2 (eA m) c)
theorem outs_3 (c : Dev nD) : outs m 4 main_v13_0 c = Attn.attArr (at' (eB m)) c := (sel_4 _ _ _).trans (nB_0 (eB m) c)
theorem outs_4 (c : Dev nD) : outs m 4 main_v13_1 c = Attn.ctxArr (at' (eB m)) c := (sel_4 _ _ _).trans (nB_1 (eB m) c)
theorem outs_5 (c : Dev nD) : outs m 6 main_v15 c = o15 (eC m) c := (sel_6 _ _ _).trans (nC_0 (eC m) c)
theorem V1_eq (c : Dev nD) : V1 m c = eA m c := rfl
theorem V2_eq (c : Dev nD) : V2 m (outs m) c = nA (eA m) c := by
  unfold V2 nA
  rw [outs_0, outs_1, outs_2, V1_eq]
theorem V3_eq (c : Dev nD) : V3 m (outs m) c = eB m c := congrArg (StableHlo.after hostOps1) (V2_eq m c)
theorem V4_eq (c : Dev nD) : V4 m (outs m) c = nB (eB m) c := by
  unfold V4 nB
  rw [outs_3, outs_4, V3_eq]
theorem V5_eq (c : Dev nD) : V5 m (outs m) c = eC m c := congrArg (StableHlo.after hostOps2) (V4_eq m c)
theorem V6_eq (c : Dev nD) : V6 m (outs m) c = nC (eC m) c := by
  unfold V6 nC
  rw [outs_5, V5_eq]
theorem V7_eq (c : Dev nD) : V7 m (outs m) c = eZ m c := congrArg (StableHlo.after hostOps3) (V6_eq m c)

/-- The layer's output at the end. -/
def res0 (c : Dev nD) : Buf (Elt F) ((c : Thread nD τ).loc main_v16) := eZ m c main_v16
/-- The attention scores at the end. -/
def res1 (c : Dev nD) : Buf (Elt F) ((c : Thread nD τ).loc main_v13_0) := Attn.attArr (at' (eB m)) c
theorem res1_eq (c : Dev nD) : eZ m c main_v13_0 = res1 m c := by
  rw [← V7_eq, V7_of m (outs m) c main_v13_0 (by decide), V6_of m (outs m) c main_v13_0 (by decide), V5_of m (outs m) c main_v13_0 (by decide), V4_eq, nB_0]
  rfl

/-! ### The launch -/

/-- The launch's own resource. -/
def u₀ : Pipeline.UD sig nD τ := (initOf (Pipeline.cells cfgs cellOf_inj) (Pipeline.launchToks cfgs cellOf_inj), 1)
abbrev EP : Emb (URounds (GSem nD τ sig) Unit) 𝕄 := embL

/-- What a final state has: arguments as launched, results as computed. -/
def Fin1 (c : Dev nD) (s : MemSt nD τ sig (Elt F)) : Prop :=
  (s.mem ((c : Thread nD τ).loc main_v16) = res0 m c ∧ s.mem ((c : Thread nD τ).loc main_v13_0) = res1 m c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12)
    ∧ s.mem ((c : Thread nD τ).loc main_arg13) = m ((c : Thread nD τ).loc main_arg13)

theorem arg_read (c : Dev nD) (s : MemSt nD τ sig (Elt F)) (h : ∀ b ∈ Pipeline.ucRefs τ sig, s.mem (c, b) = V7 m (outs m) c b) : Fin1 m c s := by
  have g : ∀ (r : Ref sig .tc), ¬ (Proc.devRef (τ := τ) .tc r).isScoped → s.mem ((c : Thread nD τ).loc r) = V7 m (outs m) c r := fun r hr =>
    h (Proc.devRef .tc r) (Finset.mem_filter.mpr ⟨StableHlo.devRef_mem_tcRefs r, hr⟩)
  exact ⟨⟨(g main_v16 (by decide)).trans (congrFun (V7_eq m c) _), (g main_v13_0 (by decide)).trans ((congrFun (V7_eq m c) _).trans (res1_eq m c))⟩,
    (g main_arg0 (by decide)).trans (V7_main_arg0 m (outs m) c),
    (g main_arg1 (by decide)).trans (V7_main_arg1 m (outs m) c),
    (g main_arg2 (by decide)).trans (V7_main_arg2 m (outs m) c),
    (g main_arg3 (by decide)).trans (V7_main_arg3 m (outs m) c),
    (g main_arg4 (by decide)).trans (V7_main_arg4 m (outs m) c),
    (g main_arg5 (by decide)).trans (V7_main_arg5 m (outs m) c),
    (g main_arg6 (by decide)).trans (V7_main_arg6 m (outs m) c),
    (g main_arg7 (by decide)).trans (V7_main_arg7 m (outs m) c),
    (g main_arg8 (by decide)).trans (V7_main_arg8 m (outs m) c),
    (g main_arg9 (by decide)).trans (V7_main_arg9 m (outs m) c),
    (g main_arg10 (by decide)).trans (V7_main_arg10 m (outs m) c),
    (g main_arg11 (by decide)).trans (V7_main_arg11 m (outs m) c),
    (g main_arg12 (by decide)).trans (V7_main_arg12 m (outs m) c),
    (g main_arg13 (by decide)).trans (V7_main_arg13 m (outs m) c)⟩

set_option maxHeartbeats 4000000 in
set_option backward.isDefEq.respectTransparency.types false in
/-- From any memory with every counter zero, every fair execution ends; the arguments are as launched, the results as
    computed, every counter zero. -/
theorem run_main (ρ : Dev nD → PrngReg) :
    θ_run defs (onTc (τ := τ) (main (F := F))) ⟨m, fun _ => 0, ρ⟩ (fun r => (∀ c : Dev nD, Fin1 m c r.2) ∧ r.2.sem = fun _ => 0) := by
  refine Pipeline.θ_run_regions_kit_dev_sems (pcfgs (F := F)) adm (pdats (eA m) (eB m) (eC m)) () cellOf_inj EP defs₀ Variants.none L lv m ρ main
    (segs m (outs m) Variants.none L lv (fun _ => R) () (pdats (eA m) (eB m) (eC m)) (reg0 (eA m) (eB m) (eC m)) (reg1 (eA m) (eB m) (eC m)) (reg2 (eA m) (eB m) (eC m)))
    (fun c Q => by
      rewrite [main_chain c, Pipeline.Seg.run_eq_chain,
        show (segs m (outs m) Variants.none L lv (fun _ => R) () (pdats (eA m) (eB m) (eC m)) (reg0 (eA m) (eB m) (eC m)) (reg1 (eA m) (eB m) (eC m)) (reg2 (eA m) (eB m) (eC m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, ?_, ?_, ?_, ?_, ?_, .rfl⟩)
    (hinit := ?_) (QY := Fin1 m) (hfin := fun c s' => ?_)
    (hQ := fun _ h hz => ⟨h, funext fun g => hz g (.inr (regions_no_unscoped g.2))⟩)
  · show iprop(StableHlo.held (c : Thread nD τ) (Pipeline.ucRefs τ sig) (nA (eA m) c) ∗ R c) ⊢ iprop(StableHlo.held (c : Thread nD τ) (Pipeline.ucRefs τ sig) (V2 m (outs m) c) ∗ R c)
    rw [V2_eq]
  · show iprop(StableHlo.held (c : Thread nD τ) (Pipeline.ucRefs τ sig) (V3 m (outs m) c) ∗ R c) ⊢ iprop(StableHlo.held (c : Thread nD τ) (Pipeline.ucRefs τ sig) (eB m c) ∗ R c)
    rw [V3_eq]
  · show iprop(StableHlo.held (c : Thread nD τ) (Pipeline.ucRefs τ sig) (nB (eB m) c) ∗ R c) ⊢ iprop(StableHlo.held (c : Thread nD τ) (Pipeline.ucRefs τ sig) (V4 m (outs m) c) ∗ R c)
    rw [V4_eq]
  · show iprop(StableHlo.held (c : Thread nD τ) (Pipeline.ucRefs τ sig) (V5 m (outs m) c) ∗ R c) ⊢ iprop(StableHlo.held (c : Thread nD τ) (Pipeline.ucRefs τ sig) (eC m c) ∗ R c)
    rw [V5_eq]
  · show iprop(StableHlo.held (c : Thread nD τ) (Pipeline.ucRefs τ sig) (nC (eC m) c) ∗ R c) ⊢ iprop(StableHlo.held (c : Thread nD τ) (Pipeline.ucRefs τ sig) (V6 m (outs m) c) ∗ R c)
    rw [V6_eq]
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact arg_read m c s'.mem h
    · iexact HSI

end Cert.KernelIdeal.Regs
-- ==== Proof.Soft.lean ====
/-
  The mathematics of one row of causal attention over the extended reals, without any program.

  `rowMax n S` and `rowSum n S` are the maximum of the first `n` scores and the sum of their exponentials less that
  maximum.  Scores that are minus infinity from `w` on add nothing to either (`rowMax_ext`, `rowSum_ext`), so the row
  over `w` columns is the row over all of them.  On a row with one finite score and no score plus infinity the sum is
  not zero (`rowSum_ne_zero`), and multiplying by its reciprocal is dividing by it (`row_eq`).
-/
module

public import Idealize.ShloMosaic.Lib.IdealHost

@[expose] public section

noncomputable section

namespace Cert.Soft

open Idealize.ShloMosaic

/-- An extended real that is a real number. -/
def Fine (x : EReal) : Prop := ∃ r : ℝ, x = (r : EReal)

theorem Fine.mul {x y : EReal} : Fine x → Fine y → Fine (x * y) := by
  rintro ⟨a, rfl⟩ ⟨b, rfl⟩; exact ⟨a * b, by rw [EReal.coe_mul]⟩
theorem Fine.add {x y : EReal} : Fine x → Fine y → Fine (x + y) := by
  rintro ⟨a, rfl⟩ ⟨b, rfl⟩; exact ⟨a + b, by rw [EReal.coe_add]⟩
theorem Fine.zero : Fine 0 := ⟨0, by simp⟩
theorem Fine.sum {ι : Type} (s : Finset ι) (f : ι → EReal) (h : ∀ i, Fine (f i)) : Fine (∑ i ∈ s, f i) := by
  classical
  induction s using Finset.induction_on with
  | empty => rw [Finset.sum_empty]; exact Fine.zero
  | insert a s ha ih => rw [Finset.sum_insert ha]; exact (h a).add ih
/-- What is below plus infinity in absolute value is a real number. -/
theorem Fine.of_abs {x : EReal} (h : max x (-x) < ⊤) : Fine x := by
  induction x using EReal.rec with
  | bot => simp at h
  | top => simp at h
  | coe r => exact ⟨r, rfl⟩

/-- Over real numbers a factor common to the terms of a sum of products comes out of the sum. -/
theorem sum_scale {n : ℕ} (q k : Fin n → EReal) (c : EReal) (hq : ∀ i, Fine (q i)) (hk : ∀ i, Fine (k i)) (hc : Fine c) :
    ∑ i, q i * c * k i = (∑ i, q i * k i) * c := by
  choose a ha using hq
  choose b hb using hk
  obtain ⟨r, rfl⟩ := hc
  have e : ∀ s : Finset (Fin n), ∑ i ∈ s, q i * (r : EReal) * k i = (∑ i ∈ s, q i * k i) * (r : EReal) ∧ Fine (∑ i ∈ s, q i * k i) := by
    intro s
    induction s using Finset.induction_on with
    | empty => refine ⟨by simp, by simpa using Fine.zero⟩
    | insert j s hj ih =>
      rw [Finset.sum_insert hj, Finset.sum_insert hj, ih.1]
      obtain ⟨t, ht⟩ := ih.2
      rw [ht, ha j, hb j]
      refine ⟨?_, a j * b j + t, by rw [EReal.coe_add, EReal.coe_mul]⟩
      rw [← EReal.coe_mul, ← EReal.coe_mul, ← EReal.coe_mul, ← EReal.coe_mul, ← EReal.coe_add, ← EReal.coe_add, ← EReal.coe_mul]
      congr 1; ring
  exact (e Finset.univ).1

/-! ### A row -/

/-- The maximum of the first `n` scores. -/
def rowMax (n : ℕ) (S : ℕ → EReal) : EReal := Finset.univ.fold max ⊥ fun k : Fin n => S k.val
/-- The sum of the exponentials of the first `n` scores less their maximum. -/
def rowSum (n : ℕ) (S : ℕ → EReal) : EReal := ∑ k : Fin n, Ideal.exp (S k.val - rowMax n S)
/-- The softmax of the first `n` scores, at one of them. -/
def row (n : ℕ) (S : ℕ → EReal) (t : ℕ) : EReal := Ideal.div (Ideal.exp (S t - rowMax n S)) (rowSum n S)

theorem rowMax_eq_sup (n : ℕ) (S : ℕ → EReal) : rowMax n S = Finset.univ.sup fun k : Fin n => S k.val := rfl
theorem le_rowMax {n : ℕ} {S : ℕ → EReal} {t : ℕ} (h : t < n) : S t ≤ rowMax n S := by
  rw [rowMax_eq_sup]; exact Finset.le_sup (f := fun k : Fin n => S k.val) (Finset.mem_univ (⟨t, h⟩ : Fin n))
theorem rowMax_le {n : ℕ} {S : ℕ → EReal} {b : EReal} (h : ∀ t < n, S t ≤ b) : rowMax n S ≤ b := by
  rw [rowMax_eq_sup]; exact Finset.sup_le fun k _ => h k.val k.isLt

theorem rowMax_ext {w n : ℕ} (hw : w ≤ n) {S : ℕ → EReal} (hS : ∀ t, w ≤ t → S t = ⊥) : rowMax n S = rowMax w S := by
  apply le_antisymm
  · refine rowMax_le fun t ht => ?_
    by_cases h : t < w
    · exact le_rowMax h
    · rw [hS t (by omega)]; exact bot_le
  · exact rowMax_le fun t ht => le_rowMax (by omega)

theorem bot_sub' (x : EReal) : (⊥ : EReal) - x = ⊥ := by rw [sub_eq_add_neg, EReal.bot_add]

/-- A sum over `n` indices whose terms are zero from `w` on. -/
theorem sum_ext {w n : ℕ} (hw : w ≤ n) {f : ℕ → EReal} (hf : ∀ t, w ≤ t → f t = 0) : ∑ k : Fin n, f k.val = ∑ k : Fin w, f k.val := by
  rw [Fin.sum_univ_eq_sum_range f n, Fin.sum_univ_eq_sum_range f w]
  symm
  refine Finset.sum_subset (fun x hx => ?_) fun x _ hx => hf x ?_
  · rw [Finset.mem_range] at hx ⊢; omega
  · rw [Finset.mem_range] at hx; omega

theorem rowSum_ext {w n : ℕ} (hw : w ≤ n) {S : ℕ → EReal} (hS : ∀ t, w ≤ t → S t = ⊥) : rowSum n S = rowSum w S := by
  unfold rowSum
  rw [rowMax_ext hw hS]
  exact sum_ext hw (f := fun t => Ideal.exp (S t - rowMax w S)) fun t ht => by rw [hS t ht, bot_sub', Ideal.exp_bot]

theorem exp_nonneg (x : EReal) : 0 ≤ Ideal.exp x := by
  induction x using EReal.rec with
  | bot => exact le_refl _
  | top => exact le_top
  | coe r => rw [Ideal.exp_coe]; exact_mod_cast (Real.exp_pos r).le

theorem rowMax_fine {n : ℕ} {S : ℕ → EReal} (hS : ∀ t < n, S t ≠ ⊤) {t0 : ℕ} (h0 : t0 < n) (hf : Fine (S t0)) : Fine (rowMax n S) := by
  have h1 : rowMax n S ≠ ⊤ := by
    intro e
    have : rowMax n S < ⊤ := by
      rw [rowMax_eq_sup, Finset.sup_lt_iff (by exact bot_lt_top)]
      intro k _; exact lt_top_iff_ne_top.2 (hS k.val k.isLt)
    rw [e] at this; exact lt_irrefl _ this
  have h2 : rowMax n S ≠ ⊥ := by
    intro e
    have h := le_rowMax (S := S) h0
    obtain ⟨r, hr⟩ := hf
    rw [e, hr, le_bot_iff] at h
    exact EReal.coe_ne_bot r h
  exact ⟨(rowMax n S).toReal, (EReal.coe_toReal h1 h2).symm⟩

theorem rowSum_ne_zero {n : ℕ} {S : ℕ → EReal} (hS : ∀ t < n, S t ≠ ⊤) {t0 : ℕ} (h0 : t0 < n) (hf : Fine (S t0)) : rowSum n S ≠ 0 := by
  obtain ⟨m, hm⟩ := rowMax_fine hS h0 hf
  obtain ⟨r, hr⟩ := hf
  have h1 : Ideal.exp (S t0 - rowMax n S) ≤ rowSum n S :=
    Finset.single_le_sum (f := fun k : Fin n => Ideal.exp (S k.val - rowMax n S)) (fun k _ => exp_nonneg _) (Finset.mem_univ (⟨t0, h0⟩ : Fin n))
  have h2 : 0 < Ideal.exp (S t0 - rowMax n S) := by
    rw [hm, hr, ← EReal.coe_sub, Ideal.exp_coe]; exact_mod_cast Real.exp_pos _
  intro e; rw [e] at h1; exact absurd (lt_of_lt_of_le h2 h1) (lt_irrefl _)

/-- The row over `w` columns, by the reciprocal, is the row over all `n`, by the quotient. -/
theorem row_eq {w n : ℕ} (hw : w ≤ n) {S : ℕ → EReal} (hS : ∀ t, S t ≠ ⊤) (hb : ∀ t, w ≤ t → S t = ⊥) {t0 : ℕ} (h0 : t0 < w) (hf : Fine (S t0)) (t : ℕ) :
    Ideal.exp (S t - rowMax w S) * Ideal.div 1 (rowSum w S) = row n S t := by
  unfold row
  rw [rowMax_ext hw hb, rowSum_ext hw hb]
  exact Ideal.mul_one_div (rowSum_ne_zero (fun t _ => hS t) h0 hf)

/-- The softmax is zero at a score that is minus infinity. -/
theorem row_bot {n : ℕ} {S : ℕ → EReal} (hS : ∀ t, S t ≠ ⊤) {t0 : ℕ} (h0 : t0 < n) (hf : Fine (S t0)) {t : ℕ} (ht : S t = ⊥) : row n S t = 0 := by
  unfold row
  rw [ht, bot_sub', Ideal.exp_bot]
  exact Ideal.zero_div (rowSum_ne_zero (fun t _ => hS t) h0 hf)

end Cert.Soft

end
-- ==== Proof.Model.lean ====
/-
  The value both programs compute, element by element, over plain functions.

  `proj X W b` is a projection's element; `score Q K c n g r` the masked scores of row `r` of head `g`, as a function of
  the column; `att` their softmax; `ctx` the context; `res` the output projection with the residual; `norm` the layer norm.
-/
module

public import proofs.«01_k».proof.Proof.Soft
public import Idealize.ShloMosaic.Lib.Pointwise

@[expose] public section

noncomputable section

namespace Cert.Model

open Idealize.ShloMosaic Cert.Soft

abbrev T3 : Shape := ⟨3, ![4, 2048, 1024]⟩
abbrev T2 : Shape := ⟨2, ![1024, 1024]⟩
abbrev T1 : Shape := ⟨1, ![1024]⟩

/-- Row `n, s` of `X` against row `h` of `W`, plus the bias. -/
def proj (X : FVec Ideal T3 .f32) (W : FVec Ideal T2 .f32) (b : FVec Ideal T1 .f32) (n : Fin 4) (s : Fin 2048) (h : Fin 1024) : EReal :=
  (∑ k : Fin 1024, X (ix3 n s k) * W (ix2 h k)) + b (ix1 h)

/-- Column `d` of head `g` of a row of 1024. -/
def hcol (g : Fin 16) (d : Fin 64) : Fin 1024 := ⟨g.val * 64 + d.val, by omega⟩

/-- The scale 1/32, as the programs' constant. -/
def scale : EReal := Ideal.ofBits .f32 0x3D000000#32
theorem scale_fine : Fine scale := by
  unfold scale Ideal.ofBits Ideal.ieee
  simp only [show ¬ ((0x3D000000#32 : BitVec 32).toNat >>> 23 % 2 ^ 8 = 255) by decide]
  exact ⟨_, rfl⟩

variable (Q K V : Fin 4 → Fin 2048 → Fin 1024 → EReal)

/-- The masked score of row `r` at column `t` (minus infinity above the diagonal). -/
def score (n : Fin 4) (g : Fin 16) (r : Fin 2048) (t : ℕ) : EReal :=
  if h : t ≤ r.val then (∑ d : Fin 64, Q n r (hcol g d) * K n ⟨t, by omega⟩ (hcol g d)) * scale else ⊥
/-- The attention weight of row `r` at column `t`. -/
def att (n : Fin 4) (g : Fin 16) (r t : Fin 2048) : EReal := row 2048 (score Q K n g r) t.val
/-- The head of column `h`. -/
def hd (h : Fin 1024) : Fin 16 := ⟨h.val / 64, by omega⟩
/-- The context of row `r` at column `h`. -/
def ctx (n : Fin 4) (r : Fin 2048) (h : Fin 1024) : EReal := ∑ t : Fin 2048, att Q K n (hd h) r t * V n t h

/-- The output projection of a context row, its bias and the residual. -/
def res (C : Fin 4 → Fin 2048 → Fin 1024 → EReal) (W : FVec Ideal T2 .f32) (b : FVec Ideal T1 .f32) (X : FVec Ideal T3 .f32)
    (n : Fin 4) (r : Fin 2048) (h : Fin 1024) : EReal :=
  (∑ k : Fin 1024, C n r k * W (ix2 h k)) + b (ix1 h) + X (ix3 n r h)
/-- The mean of a row of 1024. -/
def mean (x : Fin 1024 → EReal) : EReal := Ideal.div (∑ k, x k) (Ideal.ofBits .f32 0x44800000#32)
/-- The layer norm of a row, at column `h`. -/
def norm (x : Fin 1024 → EReal) (g b : FVec Ideal T1 .f32) (h : Fin 1024) : EReal :=
  (x h - mean x) * Ideal.rsqrt (mean (fun k => (x k - mean x) * (x k - mean x)) + Ideal.ofBits .f32 0x3727C5AC#32) * g (ix1 h) + b (ix1 h)

/-- Finite projections have scores that are finite on and below the diagonal and nowhere plus infinity. -/
theorem proj_fine {X : FVec Ideal T3 .f32} {W : FVec Ideal T2 .f32} {b : FVec Ideal T1 .f32} (hX : ∀ i, Fine (X i)) (hW : ∀ i, Fine (W i)) (hb : ∀ i, Fine (b i))
    (n : Fin 4) (s : Fin 2048) (h : Fin 1024) : Fine (proj X W b n s h) :=
  (Fine.sum _ _ fun k => (hX _).mul (hW _)).add (hb _)
variable {Q K}
theorem score_le (hQ : ∀ n s h, Fine (Q n s h)) (hK : ∀ n s h, Fine (K n s h)) (n : Fin 4) (g : Fin 16) (r : Fin 2048) {t : ℕ} (h : t ≤ r.val) :
    Fine (score Q K n g r t) := by
  unfold score; rw [dif_pos h]
  exact (Fine.sum _ _ fun d => (hQ _ _ _).mul (hK _ _ _)).mul scale_fine
theorem score_gt (n : Fin 4) (g : Fin 16) (r : Fin 2048) {t : ℕ} (h : r.val < t) : score Q K n g r t = ⊥ := by
  unfold score; rw [dif_neg (by omega)]
theorem score_ne_top (hQ : ∀ n s h, Fine (Q n s h)) (hK : ∀ n s h, Fine (K n s h)) (n : Fin 4) (g : Fin 16) (r : Fin 2048) (t : ℕ) : score Q K n g r t ≠ ⊤ := by
  by_cases h : t ≤ r.val
  · obtain ⟨x, hx⟩ := score_le hQ hK n g r h
    rw [hx]; exact EReal.coe_ne_top x
  · rw [score_gt n g r (by omega)]; exact bot_ne_top
/-- The score as the kernel forms it: the query scaled before the product. -/
theorem score_scaled (hQ : ∀ n s h, Fine (Q n s h)) (hK : ∀ n s h, Fine (K n s h)) (n : Fin 4) (g : Fin 16) (r t : Fin 2048) (h : t.val ≤ r.val) :
    ∑ d : Fin 64, Q n r (hcol g d) * scale * K n t (hcol g d) = score Q K n g r t.val := by
  unfold score; rw [dif_pos h]
  exact sum_scale _ _ _ (fun _ => hQ _ _ _) (fun _ => hK _ _ _) scale_fine
/-- A band that meets the first `w` columns has the whole row's weights there … -/
theorem att_band (hQ : ∀ n s h, Fine (Q n s h)) (hK : ∀ n s h, Fine (K n s h)) (n : Fin 4) (g : Fin 16) (r : Fin 2048) {w : ℕ} (hw : w ≤ 2048) (hr : r.val < w) (t : Fin 2048) :
    Ideal.exp (score Q K n g r t.val - rowMax w (score Q K n g r)) * Ideal.div 1 (rowSum w (score Q K n g r)) = att Q K n g r t :=
  row_eq hw (score_ne_top hQ hK n g r) (fun u hu => score_gt n g r (by omega)) hr (score_le hQ hK n g r (le_refl _)) t.val
/-- … and zero weights above the diagonal. -/
theorem att_above (hQ : ∀ n s h, Fine (Q n s h)) (hK : ∀ n s h, Fine (K n s h)) (n : Fin 4) (g : Fin 16) (r t : Fin 2048) (h : r.val < t.val) : att Q K n g r t = 0 :=
  row_bot (score_ne_top hQ hK n g r) r.isLt (score_le hQ hK n g r (le_refl _)) (score_gt n g r h)
/-- The context over the first `w` columns is the whole context. -/
theorem ctx_band (hQ : ∀ n s h, Fine (Q n s h)) (hK : ∀ n s h, Fine (K n s h)) (n : Fin 4) (r : Fin 2048) (h : Fin 1024) {w : ℕ} (hw : w ≤ 2048) (hr : r.val < w) :
    ∑ t : Fin w, V n ⟨t.val, by omega⟩ h * att Q K n (hd h) r ⟨t.val, by omega⟩ = ctx Q K V n r h := by
  unfold ctx
  let f : ℕ → EReal := fun t => if ht : t < 2048 then V n ⟨t, ht⟩ h * att Q K n (hd h) r ⟨t, ht⟩ else 0
  have e1 : ∑ t : Fin w, V n ⟨t.val, by omega⟩ h * att Q K n (hd h) r ⟨t.val, by omega⟩ = ∑ t : Fin w, f t.val :=
    Finset.sum_congr rfl fun t _ => by
      show _ = (if ht : t.val < 2048 then V n ⟨t.val, ht⟩ h * att Q K n (hd h) r ⟨t.val, ht⟩ else 0)
      rw [dif_pos (show t.val < 2048 by omega)]
  have e2 : ∑ t : Fin 2048, att Q K n (hd h) r t * V n t h = ∑ t : Fin 2048, f t.val :=
    Finset.sum_congr rfl fun t _ => by
      show _ = (if ht : t.val < 2048 then V n ⟨t.val, ht⟩ h * att Q K n (hd h) r ⟨t.val, ht⟩ else 0)
      rw [dif_pos t.isLt, mul_comm]
  rw [e1, e2]
  refine (sum_ext hw fun t ht => ?_).symm
  by_cases h2 : t < 2048
  · show (if ht : t < 2048 then _ else _) = _
    rw [dif_pos h2, att_above hQ hK n (hd h) r ⟨t, h2⟩ (by show r.val < t; omega), mul_zero]
  · exact dif_neg h2

end Cert.Model

end
-- ==== Proof.RefStages.lean ====
/-
  The reference's two results as stages: projections, masked scores, softmax, contexts, output projection, layer norm.
  The generated terms are the stages composed (`res36_eq`, `res69_eq`).
-/
module

public import proofs.«01_k».proof.Proof.Model
public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo Cert.Soft Cert.Model

/-- A projection, its columns split into heads. -/
def rProj (a0 : FVec Ideal S4x2048x1024 .f32) (a4 : FVec Ideal S1024x1024 .f32) (a5 : FVec Ideal S1024 .f32) : FVec Ideal S4x16x2048x64 .f32 :=
  (transpose S4x16x2048x64 [0, 2, 1, 3] (shapeCast _ (addf (Host.dotGeneral dot_S4x2048x1024_S1024x1024_S4x2048x1024_2_0_01_1_n_n none a0 (transpose S1024x1024 [1, 0] a4 transposes_S1024x1024_S1024x1024_1_0)) (broadcastInDim S4x2048x1024 ![0, 1, 2] bcast_S1x1x1024_S4x2048x1024_0_1_2 (broadcastInDim S1x1x1024 ![2] bcast_S1024_S1x1x1024_2 a5))) shapeCasts_S4x2048x1024_S4x2048x16x64) transposes_S4x2048x16x64_S4x16x2048x64_0_2_1_3)
/-- The masked scores. -/
def rScore (a3 : IVec S4x2048x2048 1) (Q K : FVec Ideal S4x16x2048x64 .f32) : FVec Ideal S4x16x2048x2048 .f32 :=
  (select (broadcastInDim S4x16x2048x2048 ![0, 1, 2, 3] bcast_S4x1x2048x2048_S4x16x2048x2048_0_1_2_3 (broadcastInDim S4x1x2048x2048 ![0, 2, 3] bcast_S4x2048x2048_S4x1x2048x2048_0_2_3 a3)) (broadcastInDim S4x16x2048x2048 ![] bcast_S_S4x16x2048x2048 (id (constant S_ .f32 0xFF800000#32))) (mulf (Host.dotGeneral dot_S4x16x2048x64_S4x16x2048x64_S4x16x2048x2048_3_3_2_2_01_01 none Q K) (broadcastInDim S4x16x2048x2048 ![] bcast_S_S4x16x2048x2048 (constant S_ .f32 0x3D000000#32))))
/-- The largest score of each row. -/
def rMax (S : FVec Ideal S4x16x2048x2048 .f32) : FVec Ideal S4x16x2048 .f32 :=
  (maximumf (broadcastInDim S4x16x2048 ![] bcast_S_S4x16x2048 (constant S_ .f32 0xFF800000#32)) (Host.reduce FloatOps.maximumf S (constant S_ .f32 0xFF800000#32) reducesTo_S4x16x2048x2048_S4x16x2048_d3 h_S_))
/-- The exponentials of the scores less the largest of their row. -/
def rExp (S : FVec Ideal S4x16x2048x2048 .f32) : FVec Ideal S4x16x2048x2048 .f32 :=
  (Host.exp (subf S (broadcastInDim S4x16x2048x2048 ![0, 1, 2, 3] bcast_S4x16x2048x1_S4x16x2048x2048_0_1_2_3 (broadcastInDim S4x16x2048x1 ![0, 1, 2] bcast_S4x16x2048_S4x16x2048x1_0_1_2 (rMax S)))))
/-- The softmax. -/
def rAtt (S : FVec Ideal S4x16x2048x2048 .f32) : FVec Ideal S4x16x2048x2048 .f32 :=
  Host.divf (rExp S) (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd (rExp S) (constant S_ .f32 0x00000000#32) reducesTo_S4x16x2048x2048_S4x16x2048_d3 h_S_)))
/-- The contexts, heads side by side. -/
def rCtx (A : FVec Ideal S4x16x2048x2048 .f32) (V : FVec Ideal S4x16x2048x64 .f32) : FVec Ideal S4x2048x1024 .f32 :=
  (shapeCast _ (transpose S4x2048x16x64 [0, 2, 1, 3] (Host.dotGeneral dot_S4x16x2048x2048_S4x16x2048x64_S4x16x2048x64_3_2_2_3_01_01 none A V) transposes_S4x16x2048x64_S4x2048x16x64_0_2_1_3) shapeCasts_S4x2048x16x64_S4x2048x1024)
/-- The output projection and the residual. -/
def rRes (C : FVec Ideal S4x2048x1024 .f32) (a10 : FVec Ideal S1024x1024 .f32) (a11 : FVec Ideal S1024 .f32) (a0 : FVec Ideal S4x2048x1024 .f32) : FVec Ideal S4x2048x1024 .f32 :=
  (addf (addf (Host.dotGeneral dot_S4x2048x1024_S1024x1024_S4x2048x1024_2_0_01_1_n_n none C (transpose S1024x1024 [1, 0] a10 transposes_S1024x1024_S1024x1024_1_0)) (broadcastInDim S4x2048x1024 ![0, 1, 2] bcast_S1x1x1024_S4x2048x1024_0_1_2 (broadcastInDim S1x1x1024 ![2] bcast_S1024_S1x1x1024_2 a11))) a0)
/-- The mean of each row. -/
def rMean (X : FVec Ideal S4x2048x1024 .f32) : FVec Ideal S4x2048x1 .f32 :=
  (Host.divf (broadcastInDim S4x2048x1 ![0, 1] bcast_S4x2048_S4x2048x1_0_1 (Host.reduceAdd X (constant S_ .f32 0x00000000#32) reducesTo_S4x2048x1024_S4x2048_d2 h_S_)) (broadcastInDim S4x2048x1 ![] bcast_S_S4x2048x1 (constant S_ .f32 0x44800000#32)))
/-- A row less its mean. -/
def rCen (X : FVec Ideal S4x2048x1024 .f32) : FVec Ideal S4x2048x1024 .f32 :=
  (subf X (broadcastInDim S4x2048x1024 ![0, 1, 2] bcast_S4x2048x1_S4x2048x1024_0_1_2 (rMean X)))
/-- The layer norm. -/
def rNorm (X : FVec Ideal S4x2048x1024 .f32) (a12 a13 : FVec Ideal S1024 .f32) : FVec Ideal S4x2048x1024 .f32 :=
  addf (mulf (mulf (rCen X) (broadcastInDim S4x2048x1024 ![0, 1, 2] bcast_S4x2048x1_S4x2048x1024_0_1_2 (Host.rsqrt (addf (rMean (mulf (rCen X) (rCen X))) (broadcastInDim S4x2048x1 ![] bcast_S_S4x2048x1 (constant S_ .f32 0x3727C5AC#32)))))) (broadcastInDim S4x2048x1024 ![0, 1, 2] bcast_S1x1x1024_S4x2048x1024_0_1_2 (broadcastInDim S1x1x1024 ![2] bcast_S1024_S1x1x1024_2 a12))) (broadcastInDim S4x2048x1024 ![0, 1, 2] bcast_S1x1x1024_S4x2048x1024_0_1_2 (broadcastInDim S1x1x1024 ![2] bcast_S1024_S1x1x1024_2 a13))

variable (m : (ℓ : Loc nD τ sig) → Buf (Elt Ideal) ℓ) (c : Dev nD)

/-- The first result's stages. -/
def sAtt : FVec Ideal S4x16x2048x2048 .f32 :=
  rAtt (rScore (m ((c.tc : Thread nD τ).loc main_arg3)) (rProj (m ((c.tc : Thread nD τ).loc main_arg0)) (m ((c.tc : Thread nD τ).loc main_arg4)) (m ((c.tc : Thread nD τ).loc main_arg5)))
    (rProj (m ((c.tc : Thread nD τ).loc main_arg1)) (m ((c.tc : Thread nD τ).loc main_arg6)) (m ((c.tc : Thread nD τ).loc main_arg7))))
theorem res36_eq : Value.res_main_v36 m c = sAtt m c := rfl
theorem res69_eq : Value.res_main_v69 m c =
    rNorm (rRes (rCtx (sAtt m c) (rProj (m ((c.tc : Thread nD τ).loc main_arg2)) (m ((c.tc : Thread nD τ).loc main_arg8)) (m ((c.tc : Thread nD τ).loc main_arg9))))
      (m ((c.tc : Thread nD τ).loc main_arg10)) (m ((c.tc : Thread nD τ).loc main_arg11)) (m ((c.tc : Thread nD τ).loc main_arg0)))
      (m ((c.tc : Thread nD τ).loc main_arg12)) (m ((c.tc : Thread nD τ).loc main_arg13)) := rfl

end Cert.ReferenceIdeal.Stages

end
-- ==== Proof.RefVal.lean ====
/-
  The reference's stages read at an index, and from them its two results as the model's values (`ref_att`, `ref_out`).
-/
module

public import proofs.«01_k».proof.Proof.RefStages

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo Cert.Soft Cert.Model

theorem rProj_at (X : FVec Ideal S4x2048x1024 .f32) (W : FVec Ideal S1024x1024 .f32) (b : FVec Ideal S1024 .f32) (n : Fin 4) (g : Fin 16) (s : Fin 2048) (d : Fin 64) :
    rProj X W b (ix4 n g s d) = proj X W b n s (hcol g d) := by
  pointwise [rProj, proj, hcol]

theorem bot_bits : Ideal.ofBits .f32 0xFF800000#32 = ⊥ := by simp [Ideal.ofBits, Ideal.ieee]
theorem rScore_at (M : IVec S4x2048x2048 1) (Q K : FVec Ideal S4x16x2048x64 .f32) (n : Fin 4) (g : Fin 16) (r t : Fin 2048) :
    rScore M Q K (ix4 n g r t) = if M (ix3 n r t) = 1#1 then ⊥ else (∑ d : Fin 64, Q (ix4 n g r d) * K (ix4 n g t d)) * scale := by
  pointwise [rScore, scale]
  show (if M (ix3 n r t) = 1#1 then Ideal.ofBits .f32 0xFF800000#32 else _) = _
  rw [bot_bits]
theorem red_at (S : FVec Ideal S4x16x2048x2048 .f32) (v : FVec Ideal S_ .f32) (h : S4x16x2048x2048.ReducesTo [3] S4x16x2048) (n : Fin 4) (g : Fin 16) (r : Fin 2048) :
    Host.reduce FloatOps.maximumf S v h h_S_ (ix3 n g r) = Finset.univ.fold max (v (Shape.Idx.first h_S_)) (fun k : Fin 2048 => S (ix4 n g r k)) := by
  rw [Host.reduce_eq_fold]
  simp only [pointwise]
theorem maxf_at {s : Shape} (a b : FVec Ideal s .f32) (i : s.Idx) : maximumf a b i = max (a i) (b i) := rfl
theorem const_at {s : Shape} (w : BitVec 32) (i : s.Idx) : (constant (F := Ideal) s .f32 w) i = Ideal.ofBits .f32 w := rfl
theorem bc_at (w : BitVec 32) (i : S4x16x2048.Idx) :
    (broadcastInDim S4x16x2048 ![] bcast_S_S4x16x2048 (constant (F := Ideal) S_ .f32 w)) i = Ideal.ofBits .f32 w := rfl
theorem rMax_at (S : FVec Ideal S4x16x2048x2048 .f32) (n : Fin 4) (g : Fin 16) (r : Fin 2048) :
    rMax S (ix3 n g r) = Finset.univ.fold max ⊥ fun k : Fin 2048 => S (ix4 n g r k) := by
  unfold rMax
  rw [maxf_at, red_at, bc_at, const_at, bot_bits]
  exact max_eq_right bot_le
theorem rExp_at (S : FVec Ideal S4x16x2048x2048 .f32) (n : Fin 4) (g : Fin 16) (r t : Fin 2048) :
    rExp S (ix4 n g r t) = Ideal.exp (S (ix4 n g r t) - rMax S (ix3 n g r)) := by
  pointwise [rExp]
theorem rAtt_at (S : FVec Ideal S4x16x2048x2048 .f32) (n : Fin 4) (g : Fin 16) (r t : Fin 2048) :
    rAtt S (ix4 n g r t) = Ideal.div (rExp S (ix4 n g r t)) (∑ k : Fin 2048, rExp S (ix4 n g r k)) := by
  pointwise [rAtt]
theorem rCtx_at (A : FVec Ideal S4x16x2048x2048 .f32) (V : FVec Ideal S4x16x2048x64 .f32) (n : Fin 4) (r : Fin 2048) (g : Fin 16) (d : Fin 64) :
    rCtx A V (ix3 n r (hcol g d)) = ∑ t : Fin 2048, A (ix4 n g r t) * V (ix4 n g t d) := by
  pointwise [rCtx, hcol]
theorem rRes_at (C : FVec Ideal S4x2048x1024 .f32) (W : FVec Ideal S1024x1024 .f32) (b : FVec Ideal S1024 .f32) (X : FVec Ideal S4x2048x1024 .f32) (n : Fin 4) (r : Fin 2048) (h : Fin 1024) :
    rRes C W b X (ix3 n r h) = (∑ k : Fin 1024, C (ix3 n r k) * W (ix2 h k)) + b (ix1 h) + X (ix3 n r h) := by
  pointwise [rRes]
theorem rMean_at (X : FVec Ideal S4x2048x1024 .f32) (n : Fin 4) (r : Fin 2048) (u : Fin 1) :
    rMean X (ix3 n r u) = mean fun k => X (ix3 n r k) := by
  pointwise [rMean, mean]

theorem rCen_at (X : FVec Ideal S4x2048x1024 .f32) (n : Fin 4) (r : Fin 2048) (h : Fin 1024) :
    rCen X (ix3 n r h) = X (ix3 n r h) - rMean X (ix3 n r 0) := by
  pointwise [rCen]
theorem rNorm_at' (X : FVec Ideal S4x2048x1024 .f32) (g b : FVec Ideal S1024 .f32) (n : Fin 4) (r : Fin 2048) (h : Fin 1024) :
    rNorm X g b (ix3 n r h) = rCen X (ix3 n r h) * Ideal.rsqrt (rMean (mulf (rCen X) (rCen X)) (ix3 n r 0) + Ideal.ofBits .f32 0x3727C5AC#32) * g (ix1 h) + b (ix1 h) := by
  pointwise [rNorm]
theorem rNorm_at (X : FVec Ideal S4x2048x1024 .f32) (g b : FVec Ideal S1024 .f32) (n : Fin 4) (r : Fin 2048) (h : Fin 1024) :
    rNorm X g b (ix3 n r h) = norm (fun k => X (ix3 n r k)) g b h := by
  have e : (fun k : Fin 1024 => mulf (rCen X) (rCen X) (ix3 n r k)) = fun k => rCen X (ix3 n r k) * rCen X (ix3 n r k) := rfl
  rw [rNorm_at', rMean_at, e]
  simp only [rCen_at, rMean_at]
  rfl

/-- The softmax of masked scores, when the mask is the causal one, is the model's. -/
theorem rAtt_model (M : IVec S4x2048x2048 1) (hM : ∀ n r t, M (ix3 n r t) = 1#1 ↔ r.val < t.val)
    (X Y : FVec Ideal S4x2048x1024 .f32) (W U : FVec Ideal S1024x1024 .f32) (b e : FVec Ideal S1024 .f32) (n : Fin 4) (g : Fin 16) (r t : Fin 2048) :
    rAtt (rScore M (rProj X W b) (rProj Y U e)) (ix4 n g r t) = att (proj X W b) (proj Y U e) n g r t := by
  have hs : ∀ k : Fin 2048, rScore M (rProj X W b) (rProj Y U e) (ix4 n g r k) = score (proj X W b) (proj Y U e) n g r k.val := fun k => by
    rw [rScore_at]
    unfold score
    by_cases h : r.val < k.val
    · rw [if_pos ((hM n r k).2 h), dif_neg (by omega)]
    · rw [if_neg fun h' => h ((hM n r k).1 h'), dif_pos (by omega)]
      congr 1
      exact Finset.sum_congr rfl fun d _ => by rw [rProj_at, rProj_at]
  rw [rAtt_at]
  simp only [rExp_at, rMax_at, hs]
  rfl

variable (m : (ℓ : Loc nD τ sig) → Buf (Elt Ideal) ℓ) (c : Dev nD)

abbrev pQ := proj (m ((c.tc : Thread nD τ).loc main_arg0)) (m ((c.tc : Thread nD τ).loc main_arg4)) (m ((c.tc : Thread nD τ).loc main_arg5))
abbrev pK := proj (m ((c.tc : Thread nD τ).loc main_arg1)) (m ((c.tc : Thread nD τ).loc main_arg6)) (m ((c.tc : Thread nD τ).loc main_arg7))
abbrev pV := proj (m ((c.tc : Thread nD τ).loc main_arg2)) (m ((c.tc : Thread nD τ).loc main_arg8)) (m ((c.tc : Thread nD τ).loc main_arg9))

/-- Under the causal mask the reference's second result is the model's attention weights. -/
theorem ref_att (hM : ∀ n r t, (m ((c.tc : Thread nD τ).loc main_arg3) : IVec S4x2048x2048 1) (ix3 n r t) = 1#1 ↔ r.val < t.val) (n : Fin 4) (g : Fin 16) (r t : Fin 2048) :
    (Value.res_main_v36 m c : FVec Ideal S4x16x2048x2048 .f32) (ix4 n g r t) = att (pQ m c) (pK m c) n g r t := by
  rw [res36_eq]; exact rAtt_model _ hM _ _ _ _ _ _ n g r t

/-- Under the causal mask the reference's first result is the model's layer norm of the projected contexts. -/
theorem ref_out (hM : ∀ n r t, (m ((c.tc : Thread nD τ).loc main_arg3) : IVec S4x2048x2048 1) (ix3 n r t) = 1#1 ↔ r.val < t.val) (n : Fin 4) (r : Fin 2048) (h : Fin 1024) :
    (Value.res_main_v69 m c : FVec Ideal S4x2048x1024 .f32) (ix3 n r h) =
      norm (res (ctx (pQ m c) (pK m c) (pV m c)) (m ((c.tc : Thread nD τ).loc main_arg10)) (m ((c.tc : Thread nD τ).loc main_arg11)) (m ((c.tc : Thread nD τ).loc main_arg0)) n r)
        (m ((c.tc : Thread nD τ).loc main_arg12)) (m ((c.tc : Thread nD τ).loc main_arg13)) h := by
  rw [res69_eq, rNorm_at]
  congr 1
  funext k
  rw [rRes_at]
  unfold res
  congr 2
  refine Finset.sum_congr rfl fun j _ => ?_
  congr 1
  have hj : j = hcol (hd j) ⟨j.val % 64, Nat.mod_lt _ (by norm_num)⟩ := by
    apply Fin.ext; show j.val = j.val / 64 * 64 + j.val % 64; omega
  have hh : ∀ t, pV m c n t j = pV m c n t (hcol (hd j) ⟨j.val % 64, Nat.mod_lt _ (by norm_num)⟩) := fun t => by rw [← hj]
  unfold ctx
  simp only [hh]
  refine (congrArg (fun i => rCtx _ _ (ix3 n r i)) hj).trans ?_
  rw [rCtx_at]
  refine Finset.sum_congr rfl fun t _ => ?_
  rw [rProj_at]
  congr 1
  exact rAtt_model _ hM _ _ _ _ _ _ n (hd j) r t

end Cert.ReferenceIdeal.Stages

end
-- ==== Proof.IAttnMath.lean ====
/-
  The attention call's blocks over the extended reals, for each of its four bands of 512 rows: a block of weights, read at
  an index, is the model's softmax over all 2048 columns, and a block of contexts is the model's context.
-/
module

public import proofs.«01_k».proof.Proof.IAttnVals
public import proofs.«01_k».proof.Proof.Model
public import Idealize.ShloMosaic.Lib.Pipeline.ValueKit
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem Cert.Soft Cert.Model

/-- Column `e` of head group `u` of a row of 1024. -/
def gcol (u : Fin 4) (e : Fin 256) : Fin 1024 := ⟨256 * u.val + e.val, by omega⟩
/-- Head `h` of group `u`. -/
def ghead (u h : Fin 4) : Fin 16 := ⟨4 * u.val + h.val, by omega⟩
/-- Column `d` of head `h` of a block. -/
def bcol (h : Fin 4) (d : Fin 64) : Fin 256 := ⟨64 * h.val + d.val, by omega⟩
theorem gcol_bcol (u h : Fin 4) (d : Fin 64) : gcol u (bcol h d) = hcol (ghead u h) d := by
  apply Fin.ext; show 256 * u.val + (64 * h.val + d.val) = (4 * u.val + h.val) * 64 + d.val; omega
theorem hd_hcol (g : Fin 16) (d : Fin 64) : hd (hcol g d) = g := by
  apply Fin.ext; show (g.val * 64 + d.val) / 64 = g.val; omega
theorem bot_bits : Ideal.ofBits .f32 0xFF800000#32 = ⊥ := by simp [Ideal.ofBits, Ideal.ieee]

/-- The mask's bit at row `p` of the band that starts at row `B`. -/
theorem mask_bit (B p x : ℕ) (hB : B ≤ 1536) (hp : p < 512) (hx : x < 2048) :
    IntOp.cmpi .sgt (BitVec.ofNat 32 x) (IntOp.addi (BitVec.ofNat 32 B) (BitVec.ofNat 32 p)) = 1#1 ↔ B + p < x := by
  have e : IntOp.addi (BitVec.ofNat 32 B) (BitVec.ofNat 32 p) = BitVec.ofNat 32 (B + p) := (BitVec.ofNat_add B p).symm
  rw [e]
  exact WordCmp.cmpi_sgt_ofNat_eq_one_iff (by omega) (by omega)

variable {Q K : Fin 4 → Fin 2048 → Fin 1024 → EReal}

/-- A masked score of the band is the model's. -/
theorem sel_score (hQ : ∀ n s h, Fine (Q n s h)) (hK : ∀ n s h, Fine (K n s h)) (n : Fin 4) (g : Fin 16) (B p x : ℕ) (hB : B ≤ 1536) (hp : p < 512) (hx : x < 2048) (S : EReal)
    (hS : S = ∑ d : Fin 64, Q n ⟨B + p, by omega⟩ (hcol g d) * scale * K n ⟨x, hx⟩ (hcol g d)) :
    Scalar.select (IntOp.cmpi .sgt (BitVec.ofNat 32 x) (IntOp.addi (BitVec.ofNat 32 B) (BitVec.ofNat 32 p))) (Ideal.ofBits .f32 0xFF800000#32) S
      = score Q K n g ⟨B + p, by omega⟩ x := by
  show (if IntOp.cmpi .sgt (BitVec.ofNat 32 x) (IntOp.addi (BitVec.ofNat 32 B) (BitVec.ofNat 32 p)) = 1#1 then Ideal.ofBits .f32 0xFF800000#32 else S) = _
  by_cases h : B + p < x
  · rw [if_pos ((mask_bit B p x hB hp hx).2 h), bot_bits, score_gt n g _ h]
  · rw [if_neg fun h' => h ((mask_bit B p x hB hp hx).1 h'), hS]
    exact score_scaled hQ hK n g ⟨B + p, by omega⟩ ⟨x, hx⟩ (by show x ≤ B + p; omega)

theorem ldq_at (x : Vec Ideal S1x512x256 .bf16) (h : Fin 4) (k : Fin 512) (d : Fin 64) : ldq x h (ix3 0 k d) = x (ix3 0 k (bcol h d)) := by
  unfold ldq
  show x _ = x _
  refine congrArg x (funext fun a => Fin.ext ?_)
  fin_cases a
  · show 0 + 1 * 0 = 0; omega
  · show 0 + 1 * k.val = k.val; omega
  · show 64 * h.val + 1 * d.val = 64 * h.val + d.val; omega

/-- A piece of zeros. -/
theorem zero_piece (p t : Fin 512) : (k1_pay5 (F := Ideal)) (ix3 0 p t) = 0 := by
  pointwise [k1_pay5]
/-- The context block at a column of one of its four heads. -/
theorem ctxBlk_0 (T0 T1 T2 T3 : FVec Ideal S64x512 .f32) (p : Fin 512) (d : Fin 64) : ctxBlk T0 T1 T2 T3 (ix2 p (bcol 0 d)) = T0 (ix2 d p) := by
  pointwise [ctxBlk, bcol]
theorem ctxBlk_1 (T0 T1 T2 T3 : FVec Ideal S64x512 .f32) (p : Fin 512) (d : Fin 64) : ctxBlk T0 T1 T2 T3 (ix2 p (bcol 1 d)) = T1 (ix2 d p) := by
  pointwise [ctxBlk, bcol]
theorem ctxBlk_2 (T0 T1 T2 T3 : FVec Ideal S64x512 .f32) (p : Fin 512) (d : Fin 64) : ctxBlk T0 T1 T2 T3 (ix2 p (bcol 2 d)) = T2 (ix2 d p) := by
  pointwise [ctxBlk, bcol]
  rw [dif_neg (by omega), dif_neg (by omega), dif_pos (by omega)]
  exact congrArg (fun e : Fin 64 => T2 (ix2 e p)) (Fin.ext (by show 128 + d.val - 64 - 64 = d.val; omega))
theorem ctxBlk_3 (T0 T1 T2 T3 : FVec Ideal S64x512 .f32) (p : Fin 512) (d : Fin 64) : ctxBlk T0 T1 T2 T3 (ix2 p (bcol 3 d)) = T3 (ix2 d p) := by
  pointwise [ctxBlk, bcol]
  rw [dif_neg (by omega), dif_neg (by omega), dif_neg (by omega)]
  exact congrArg (fun e : Fin 64 => T3 (ix2 e p)) (Fin.ext (by show 192 + d.val - 64 - 64 - 64 = d.val; omega))

/-! ### The band of 512 columns -/

theorem ldk512_at (x : Vec Ideal S1x2048x256 .bf16) (h : Fin 4) (k : Fin 512) (d : Fin 64) : ldk512 x h (ix3 0 k d) = x (ix3 0 (⟨k.val, by omega⟩ : Fin 2048) (bcol h d)) := by
  unfold ldk512
  show x _ = x _
  refine congrArg x (funext fun a => Fin.ext ?_)
  fin_cases a
  · show 0 + 1 * 0 = 0; omega
  · show 0 + 1 * k.val = k.val; omega
  · show 64 * h.val + 1 * d.val = 64 * h.val + d.val; omega

/-- The band's weights are the model's. -/
theorem pr512_att (hQ : ∀ n s h, Fine (Q n s h)) (hK : ∀ n s h, Fine (K n s h)) (n : Fin 4) (g : Fin 16) (q : Vec Ideal S1x512x64 .bf16) (k : Vec Ideal S1x512x64 .bf16)
    (hq : ∀ (p : Fin 512) (d : Fin 64), q (ix3 0 p d) = Q n ⟨0 + p.val, by omega⟩ (hcol g d)) (hk : ∀ (t : Fin 512) (d : Fin 64), k (ix3 0 t d) = K n ⟨t.val, by omega⟩ (hcol g d))
    (p : Fin 512) (t : Fin 512) : pr512 q k (ix2 p t) = att Q K n g ⟨0 + p.val, by omega⟩ ⟨t.val, by omega⟩ := by
  have hs : ∀ x : Fin 512, Scalar.select (IntOp.cmpi .sgt (BitVec.ofNat 32 x.val) (IntOp.addi (0#32) (BitVec.ofNat 32 p.val))) (Ideal.ofBits .f32 0xFF800000#32)
      (∑ d : Fin 64, q (ix3 0 p d) * Ideal.ofBits .f32 0x3D000000#32 * k (ix3 0 x d)) = score Q K n g ⟨0 + p.val, by omega⟩ x.val := fun x =>
    sel_score hQ hK n g 0 p.val x.val (by omega) p.isLt (by omega) _ (Finset.sum_congr rfl fun d _ => by rw [hq, hk]; rfl)
  have ha := att_band hQ hK n g ⟨0 + p.val, by omega⟩ (w := 512) (by omega) (by show 0 + p.val < 512; omega) ⟨t.val, by omega⟩
  unfold rowSum rowMax at ha
  simp only [Nat.zero_add] at ha
  pointwise [pr512, k1_pay3, k1_pay1]
  simp only [hs, Nat.zero_add]
  rw [bot_bits]
  exact ha
theorem piece512_0 (P : FVec Ideal S512x512 .f32) (p t : Fin 512) : k1_pay4 P (ix3 0 p t) = P (ix2 p ⟨0 + t.val, by omega⟩) := by
  pointwise [k1_pay4]

/-- The block of weights of one head is the model's, over all 2048 columns. -/
theorem att512_block (hQ : ∀ n s h, Fine (Q n s h)) (hK : ∀ n s h, Fine (K n s h)) (n : Fin 4) (g : Fin 16) (q : Vec Ideal S1x512x64 .bf16) (k : Vec Ideal S1x512x64 .bf16)
    (hq : ∀ (p : Fin 512) (d : Fin 64), q (ix3 0 p d) = Q n ⟨0 + p.val, by omega⟩ (hcol g d)) (hk : ∀ (t : Fin 512) (d : Fin 64), k (ix3 0 t d) = K n ⟨t.val, by omega⟩ (hcol g d))
    (p : Fin 512) (t : Fin 2048) : att512 q k (ix2 p t) = att Q K n g ⟨0 + p.val, by omega⟩ t := by
  have ht := t.isLt
  unfold att512
  refine (cols4_ix _ _ _ _ p t).trans ?_
  by_cases h0 : t.val < 512
  · rw [dif_pos h0]
    refine (piece512_0 (pr512 q k) p _).trans ((pr512_att hQ hK n g q k hq hk p _).trans (congrArg (att Q K n g _) (Fin.ext ?_)))
    show 0 + t.val = t.val; omega
  rw [dif_neg h0]
  by_cases h1 : t.val - 512 < 512
  · rw [dif_pos h1]
    refine (zero_piece p _).trans (att_above hQ hK n g _ t ?_).symm
    show 0 + p.val < t.val; omega
  rw [dif_neg h1]
  by_cases h2 : t.val - 1024 < 512
  · rw [dif_pos h2]
    refine (zero_piece p _).trans (att_above hQ hK n g _ t ?_).symm
    show 0 + p.val < t.val; omega
  rw [dif_neg h2]
  refine (zero_piece p _).trans (att_above hQ hK n g _ t ?_).symm
  show 0 + p.val < t.val; omega

/-- The context of a head over the band's columns is the model's. -/
theorem hd512_ctx (V : Fin 4 → Fin 2048 → Fin 1024 → EReal) (hQ : ∀ n s h, Fine (Q n s h)) (hK : ∀ n s h, Fine (K n s h)) (n : Fin 4) (u h : Fin 4)
    (xq : Vec Ideal S1x512x256 .bf16) (xk xv : Vec Ideal S1x2048x256 .bf16)
    (hq : ∀ (p : Fin 512) (e : Fin 256), xq (ix3 0 p e) = Q n ⟨0 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (d : Fin 64) :
    hd512 (ldk512 xv h) (pr512 (ldq xq h) (ldk512 xk h)) (ix2 d p) = ctx Q K V n ⟨0 + p.val, by omega⟩ (gcol u (bcol h d)) := by
  have e : hd512 (ldk512 xv h) (pr512 (ldq xq h) (ldk512 xk h)) (ix2 d p) = ∑ t : Fin 512, ldk512 xv h (ix3 0 t d) * pr512 (ldq xq h) (ldk512 xk h) (ix2 p t) := by
    pointwise [hd512, k1_pay8, k1_pay2]
  rw [e, ← ctx_band V hQ hK n ⟨0 + p.val, by omega⟩ (gcol u (bcol h d)) (w := 512) (by omega) (by show 0 + p.val < 512; omega)]
  refine Finset.sum_congr rfl fun t _ => ?_
  rw [ldk512_at, hv, pr512_att hQ hK n (ghead u h) _ _ (fun p d => by rw [ldq_at, hq, gcol_bcol]) (fun t d => by rw [ldk512_at, hk, gcol_bcol]) p t, gcol_bcol, hd_hcol]
/-- The context block of four heads is the model's. -/
theorem ctx512_block (V : Fin 4 → Fin 2048 → Fin 1024 → EReal) (hQ : ∀ n s h, Fine (Q n s h)) (hK : ∀ n s h, Fine (K n s h)) (n : Fin 4) (u : Fin 4)
    (xq : Vec Ideal S1x512x256 .bf16) (xk xv : Vec Ideal S1x2048x256 .bf16)
    (hq : ∀ (p : Fin 512) (e : Fin 256), xq (ix3 0 p e) = Q n ⟨0 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (h : Fin 4) (d : Fin 64) :
    ctx512 xq xk xv (ix2 p (bcol h d)) = ctx Q K V n ⟨0 + p.val, by omega⟩ (gcol u (bcol h d)) := by
  unfold ctx512
  fin_cases h
  · exact (ctxBlk_0 _ _ _ _ p d).trans (hd512_ctx V hQ hK n u 0 xq xk xv hq hk hv p d)
  · exact (ctxBlk_1 _ _ _ _ p d).trans (hd512_ctx V hQ hK n u 1 xq xk xv hq hk hv p d)
  · exact (ctxBlk_2 _ _ _ _ p d).trans (hd512_ctx V hQ hK n u 2 xq xk xv hq hk hv p d)
  · exact (ctxBlk_3 _ _ _ _ p d).trans (hd512_ctx V hQ hK n u 3 xq xk xv hq hk hv p d)

/-! ### The band of 1024 columns -/

theorem ldk1024_at (x : Vec Ideal S1x2048x256 .bf16) (h : Fin 4) (k : Fin 1024) (d : Fin 64) : ldk1024 x h (ix3 0 k d) = x (ix3 0 (⟨k.val, by omega⟩ : Fin 2048) (bcol h d)) := by
  unfold ldk1024
  show x _ = x _
  refine congrArg x (funext fun a => Fin.ext ?_)
  fin_cases a
  · show 0 + 1 * 0 = 0; omega
  · show 0 + 1 * k.val = k.val; omega
  · show 64 * h.val + 1 * d.val = 64 * h.val + d.val; omega

/-- The band's weights are the model's. -/
theorem pr1024_att (hQ : ∀ n s h, Fine (Q n s h)) (hK : ∀ n s h, Fine (K n s h)) (n : Fin 4) (g : Fin 16) (q : Vec Ideal S1x512x64 .bf16) (k : Vec Ideal S1x1024x64 .bf16)
    (hq : ∀ (p : Fin 512) (d : Fin 64), q (ix3 0 p d) = Q n ⟨512 + p.val, by omega⟩ (hcol g d)) (hk : ∀ (t : Fin 1024) (d : Fin 64), k (ix3 0 t d) = K n ⟨t.val, by omega⟩ (hcol g d))
    (p : Fin 512) (t : Fin 1024) : pr1024 q k (ix2 p t) = att Q K n g ⟨512 + p.val, by omega⟩ ⟨t.val, by omega⟩ := by
  have hs : ∀ x : Fin 1024, Scalar.select (IntOp.cmpi .sgt (BitVec.ofNat 32 x.val) (IntOp.addi (512#32) (BitVec.ofNat 32 p.val))) (Ideal.ofBits .f32 0xFF800000#32)
      (∑ d : Fin 64, q (ix3 0 p d) * Ideal.ofBits .f32 0x3D000000#32 * k (ix3 0 x d)) = score Q K n g ⟨512 + p.val, by omega⟩ x.val := fun x =>
    sel_score hQ hK n g 512 p.val x.val (by omega) p.isLt (by omega) _ (Finset.sum_congr rfl fun d _ => by rw [hq, hk]; rfl)
  have ha := att_band hQ hK n g ⟨512 + p.val, by omega⟩ (w := 1024) (by omega) (by show 512 + p.val < 1024; omega) ⟨t.val, by omega⟩
  unfold rowSum rowMax at ha
  pointwise [pr1024, k1_pay71, k1_pay69]
  simp only [hs]
  rw [bot_bits]
  exact ha
theorem piece1024_0 (P : FVec Ideal S512x1024 .f32) (p t : Fin 512) : k1_pay73 (extractStridedSlice S512x512 ![0, 0] P slices_S512x1024_o0_0_S512x512) (ix3 0 p t) = P (ix2 p ⟨0 + t.val, by omega⟩) := by
  pointwise [k1_pay73]
theorem piece1024_1 (P : FVec Ideal S512x1024 .f32) (p t : Fin 512) : k1_pay74 P (ix3 0 p t) = P (ix2 p ⟨512 + t.val, by omega⟩) := by
  pointwise [k1_pay74]

/-- The block of weights of one head is the model's, over all 2048 columns. -/
theorem att1024_block (hQ : ∀ n s h, Fine (Q n s h)) (hK : ∀ n s h, Fine (K n s h)) (n : Fin 4) (g : Fin 16) (q : Vec Ideal S1x512x64 .bf16) (k : Vec Ideal S1x1024x64 .bf16)
    (hq : ∀ (p : Fin 512) (d : Fin 64), q (ix3 0 p d) = Q n ⟨512 + p.val, by omega⟩ (hcol g d)) (hk : ∀ (t : Fin 1024) (d : Fin 64), k (ix3 0 t d) = K n ⟨t.val, by omega⟩ (hcol g d))
    (p : Fin 512) (t : Fin 2048) : att1024 q k (ix2 p t) = att Q K n g ⟨512 + p.val, by omega⟩ t := by
  have ht := t.isLt
  unfold att1024
  refine (cols4_ix _ _ _ _ p t).trans ?_
  by_cases h0 : t.val < 512
  · rw [dif_pos h0]
    refine (piece1024_0 (pr1024 q k) p _).trans ((pr1024_att hQ hK n g q k hq hk p _).trans (congrArg (att Q K n g _) (Fin.ext ?_)))
    show 0 + t.val = t.val; omega
  rw [dif_neg h0]
  by_cases h1 : t.val - 512 < 512
  · rw [dif_pos h1]
    refine (piece1024_1 (pr1024 q k) p _).trans ((pr1024_att hQ hK n g q k hq hk p _).trans (congrArg (att Q K n g _) (Fin.ext ?_)))
    show 512 + (t.val - 512) = t.val; omega
  rw [dif_neg h1]
  by_cases h2 : t.val - 1024 < 512
  · rw [dif_pos h2]
    refine (zero_piece p _).trans (att_above hQ hK n g _ t ?_).symm
    show 512 + p.val < t.val; omega
  rw [dif_neg h2]
  refine (zero_piece p _).trans (att_above hQ hK n g _ t ?_).symm
  show 512 + p.val < t.val; omega

/-- The context of a head over the band's columns is the model's. -/
theorem hd1024_ctx (V : Fin 4 → Fin 2048 → Fin 1024 → EReal) (hQ : ∀ n s h, Fine (Q n s h)) (hK : ∀ n s h, Fine (K n s h)) (n : Fin 4) (u h : Fin 4)
    (xq : Vec Ideal S1x512x256 .bf16) (xk xv : Vec Ideal S1x2048x256 .bf16)
    (hq : ∀ (p : Fin 512) (e : Fin 256), xq (ix3 0 p e) = Q n ⟨512 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (d : Fin 64) :
    hd1024 (ldk1024 xv h) (pr1024 (ldq xq h) (ldk1024 xk h)) (ix2 d p) = ctx Q K V n ⟨512 + p.val, by omega⟩ (gcol u (bcol h d)) := by
  have e : hd1024 (ldk1024 xv h) (pr1024 (ldq xq h) (ldk1024 xk h)) (ix2 d p) = ∑ t : Fin 1024, ldk1024 xv h (ix3 0 t d) * pr1024 (ldq xq h) (ldk1024 xk h) (ix2 p t) := by
    pointwise [hd1024, k1_pay77, k1_pay70]
  rw [e, ← ctx_band V hQ hK n ⟨512 + p.val, by omega⟩ (gcol u (bcol h d)) (w := 1024) (by omega) (by show 512 + p.val < 1024; omega)]
  refine Finset.sum_congr rfl fun t _ => ?_
  rw [ldk1024_at, hv, pr1024_att hQ hK n (ghead u h) _ _ (fun p d => by rw [ldq_at, hq, gcol_bcol]) (fun t d => by rw [ldk1024_at, hk, gcol_bcol]) p t, gcol_bcol, hd_hcol]
/-- The context block of four heads is the model's. -/
theorem ctx1024_block (V : Fin 4 → Fin 2048 → Fin 1024 → EReal) (hQ : ∀ n s h, Fine (Q n s h)) (hK : ∀ n s h, Fine (K n s h)) (n : Fin 4) (u : Fin 4)
    (xq : Vec Ideal S1x512x256 .bf16) (xk xv : Vec Ideal S1x2048x256 .bf16)
    (hq : ∀ (p : Fin 512) (e : Fin 256), xq (ix3 0 p e) = Q n ⟨512 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (h : Fin 4) (d : Fin 64) :
    ctx1024 xq xk xv (ix2 p (bcol h d)) = ctx Q K V n ⟨512 + p.val, by omega⟩ (gcol u (bcol h d)) := by
  unfold ctx1024
  fin_cases h
  · exact (ctxBlk_0 _ _ _ _ p d).trans (hd1024_ctx V hQ hK n u 0 xq xk xv hq hk hv p d)
  · exact (ctxBlk_1 _ _ _ _ p d).trans (hd1024_ctx V hQ hK n u 1 xq xk xv hq hk hv p d)
  · exact (ctxBlk_2 _ _ _ _ p d).trans (hd1024_ctx V hQ hK n u 2 xq xk xv hq hk hv p d)
  · exact (ctxBlk_3 _ _ _ _ p d).trans (hd1024_ctx V hQ hK n u 3 xq xk xv hq hk hv p d)

/-! ### The band of 1536 columns -/

theorem ldk1536_at (x : Vec Ideal S1x2048x256 .bf16) (h : Fin 4) (k : Fin 1536) (d : Fin 64) : ldk1536 x h (ix3 0 k d) = x (ix3 0 (⟨k.val, by omega⟩ : Fin 2048) (bcol h d)) := by
  unfold ldk1536
  show x _ = x _
  refine congrArg x (funext fun a => Fin.ext ?_)
  fin_cases a
  · show 0 + 1 * 0 = 0; omega
  · show 0 + 1 * k.val = k.val; omega
  · show 64 * h.val + 1 * d.val = 64 * h.val + d.val; omega

/-- The band's weights are the model's. -/
theorem pr1536_att (hQ : ∀ n s h, Fine (Q n s h)) (hK : ∀ n s h, Fine (K n s h)) (n : Fin 4) (g : Fin 16) (q : Vec Ideal S1x512x64 .bf16) (k : Vec Ideal S1x1536x64 .bf16)
    (hq : ∀ (p : Fin 512) (d : Fin 64), q (ix3 0 p d) = Q n ⟨1024 + p.val, by omega⟩ (hcol g d)) (hk : ∀ (t : Fin 1536) (d : Fin 64), k (ix3 0 t d) = K n ⟨t.val, by omega⟩ (hcol g d))
    (p : Fin 512) (t : Fin 1536) : pr1536 q k (ix2 p t) = att Q K n g ⟨1024 + p.val, by omega⟩ ⟨t.val, by omega⟩ := by
  have hs : ∀ x : Fin 1536, Scalar.select (IntOp.cmpi .sgt (BitVec.ofNat 32 x.val) (IntOp.addi (1024#32) (BitVec.ofNat 32 p.val))) (Ideal.ofBits .f32 0xFF800000#32)
      (∑ d : Fin 64, q (ix3 0 p d) * Ideal.ofBits .f32 0x3D000000#32 * k (ix3 0 x d)) = score Q K n g ⟨1024 + p.val, by omega⟩ x.val := fun x =>
    sel_score hQ hK n g 1024 p.val x.val (by omega) p.isLt (by omega) _ (Finset.sum_congr rfl fun d _ => by rw [hq, hk]; rfl)
  have ha := att_band hQ hK n g ⟨1024 + p.val, by omega⟩ (w := 1536) (by omega) (by show 1024 + p.val < 1536; omega) ⟨t.val, by omega⟩
  unfold rowSum rowMax at ha
  pointwise [pr1536, k1_pay122, k1_pay103]
  simp only [hs]
  rw [bot_bits]
  exact ha
theorem piece1536_0 (P : FVec Ideal S512x1536 .f32) (p t : Fin 512) : k1_pay123 P (ix3 0 p t) = P (ix2 p ⟨0 + t.val, by omega⟩) := by
  pointwise [k1_pay123]
theorem piece1536_1 (P : FVec Ideal S512x1536 .f32) (p t : Fin 512) : k1_pay124 P (ix3 0 p t) = P (ix2 p ⟨512 + t.val, by omega⟩) := by
  pointwise [k1_pay124]
theorem piece1536_2 (P : FVec Ideal S512x1536 .f32) (p t : Fin 512) : k1_pay125 P (ix3 0 p t) = P (ix2 p ⟨1024 + t.val, by omega⟩) := by
  pointwise [k1_pay125]

/-- The block of weights of one head is the model's, over all 2048 columns. -/
theorem att1536_block (hQ : ∀ n s h, Fine (Q n s h)) (hK : ∀ n s h, Fine (K n s h)) (n : Fin 4) (g : Fin 16) (q : Vec Ideal S1x512x64 .bf16) (k : Vec Ideal S1x1536x64 .bf16)
    (hq : ∀ (p : Fin 512) (d : Fin 64), q (ix3 0 p d) = Q n ⟨1024 + p.val, by omega⟩ (hcol g d)) (hk : ∀ (t : Fin 1536) (d : Fin 64), k (ix3 0 t d) = K n ⟨t.val, by omega⟩ (hcol g d))
    (p : Fin 512) (t : Fin 2048) : att1536 q k (ix2 p t) = att Q K n g ⟨1024 + p.val, by omega⟩ t := by
  have ht := t.isLt
  unfold att1536
  refine (cols4_ix _ _ _ _ p t).trans ?_
  by_cases h0 : t.val < 512
  · rw [dif_pos h0]
    refine (piece1536_0 (pr1536 q k) p _).trans ((pr1536_att hQ hK n g q k hq hk p _).trans (congrArg (att Q K n g _) (Fin.ext ?_)))
    show 0 + t.val = t.val; omega
  rw [dif_neg h0]
  by_cases h1 : t.val - 512 < 512
  · rw [dif_pos h1]
    refine (piece1536_1 (pr1536 q k) p _).trans ((pr1536_att hQ hK n g q k hq hk p _).trans (congrArg (att Q K n g _) (Fin.ext ?_)))
    show 512 + (t.val - 512) = t.val; omega
  rw [dif_neg h1]
  by_cases h2 : t.val - 1024 < 512
  · rw [dif_pos h2]
    refine (piece1536_2 (pr1536 q k) p _).trans ((pr1536_att hQ hK n g q k hq hk p _).trans (congrArg (att Q K n g _) (Fin.ext ?_)))
    show 1024 + (t.val - 1024) = t.val; omega
  rw [dif_neg h2]
  refine (zero_piece p _).trans (att_above hQ hK n g _ t ?_).symm
  show 1024 + p.val < t.val; omega

/-- The context of a head over the band's columns is the model's. -/
theorem hd1536_ctx (V : Fin 4 → Fin 2048 → Fin 1024 → EReal) (hQ : ∀ n s h, Fine (Q n s h)) (hK : ∀ n s h, Fine (K n s h)) (n : Fin 4) (u h : Fin 4)
    (xq : Vec Ideal S1x512x256 .bf16) (xk xv : Vec Ideal S1x2048x256 .bf16)
    (hq : ∀ (p : Fin 512) (e : Fin 256), xq (ix3 0 p e) = Q n ⟨1024 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (d : Fin 64) :
    hd1536 (ldk1536 xv h) (pr1536 (ldq xq h) (ldk1536 xk h)) (ix2 d p) = ctx Q K V n ⟨1024 + p.val, by omega⟩ (gcol u (bcol h d)) := by
  have e : hd1536 (ldk1536 xv h) (pr1536 (ldq xq h) (ldk1536 xk h)) (ix2 d p) = ∑ t : Fin 1536, ldk1536 xv h (ix3 0 t d) * pr1536 (ldq xq h) (ldk1536 xk h) (ix2 p t) := by
    pointwise [hd1536, k1_pay127, k1_pay121]
  rw [e, ← ctx_band V hQ hK n ⟨1024 + p.val, by omega⟩ (gcol u (bcol h d)) (w := 1536) (by omega) (by show 1024 + p.val < 1536; omega)]
  refine Finset.sum_congr rfl fun t _ => ?_
  rw [ldk1536_at, hv, pr1536_att hQ hK n (ghead u h) _ _ (fun p d => by rw [ldq_at, hq, gcol_bcol]) (fun t d => by rw [ldk1536_at, hk, gcol_bcol]) p t, gcol_bcol, hd_hcol]
/-- The context block of four heads is the model's. -/
theorem ctx1536_block (V : Fin 4 → Fin 2048 → Fin 1024 → EReal) (hQ : ∀ n s h, Fine (Q n s h)) (hK : ∀ n s h, Fine (K n s h)) (n : Fin 4) (u : Fin 4)
    (xq : Vec Ideal S1x512x256 .bf16) (xk xv : Vec Ideal S1x2048x256 .bf16)
    (hq : ∀ (p : Fin 512) (e : Fin 256), xq (ix3 0 p e) = Q n ⟨1024 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (h : Fin 4) (d : Fin 64) :
    ctx1536 xq xk xv (ix2 p (bcol h d)) = ctx Q K V n ⟨1024 + p.val, by omega⟩ (gcol u (bcol h d)) := by
  unfold ctx1536
  fin_cases h
  · exact (ctxBlk_0 _ _ _ _ p d).trans (hd1536_ctx V hQ hK n u 0 xq xk xv hq hk hv p d)
  · exact (ctxBlk_1 _ _ _ _ p d).trans (hd1536_ctx V hQ hK n u 1 xq xk xv hq hk hv p d)
  · exact (ctxBlk_2 _ _ _ _ p d).trans (hd1536_ctx V hQ hK n u 2 xq xk xv hq hk hv p d)
  · exact (ctxBlk_3 _ _ _ _ p d).trans (hd1536_ctx V hQ hK n u 3 xq xk xv hq hk hv p d)

/-! ### The band of 2048 columns -/

theorem ldk2048_at (x : Vec Ideal S1x2048x256 .bf16) (h : Fin 4) (k : Fin 2048) (d : Fin 64) : ldk2048 x h (ix3 0 k d) = x (ix3 0 (⟨k.val, by omega⟩ : Fin 2048) (bcol h d)) := by
  unfold ldk2048
  show x _ = x _
  refine congrArg x (funext fun a => Fin.ext ?_)
  fin_cases a
  · show 0 + 1 * 0 = 0; omega
  · show 0 + 1 * k.val = k.val; omega
  · show 64 * h.val + 1 * d.val = 64 * h.val + d.val; omega

/-- The band's weights are the model's. -/
theorem pr2048_att (hQ : ∀ n s h, Fine (Q n s h)) (hK : ∀ n s h, Fine (K n s h)) (n : Fin 4) (g : Fin 16) (q : Vec Ideal S1x512x64 .bf16) (k : Vec Ideal S1x2048x64 .bf16)
    (hq : ∀ (p : Fin 512) (d : Fin 64), q (ix3 0 p d) = Q n ⟨1536 + p.val, by omega⟩ (hcol g d)) (hk : ∀ (t : Fin 2048) (d : Fin 64), k (ix3 0 t d) = K n ⟨t.val, by omega⟩ (hcol g d))
    (p : Fin 512) (t : Fin 2048) : pr2048 q k (ix2 p t) = att Q K n g ⟨1536 + p.val, by omega⟩ ⟨t.val, by omega⟩ := by
  have hs : ∀ x : Fin 2048, Scalar.select (IntOp.cmpi .sgt (BitVec.ofNat 32 x.val) (IntOp.addi (1536#32) (BitVec.ofNat 32 p.val))) (Ideal.ofBits .f32 0xFF800000#32)
      (∑ d : Fin 64, q (ix3 0 p d) * Ideal.ofBits .f32 0x3D000000#32 * k (ix3 0 x d)) = score Q K n g ⟨1536 + p.val, by omega⟩ x.val := fun x =>
    sel_score hQ hK n g 1536 p.val x.val (by omega) p.isLt (by omega) _ (Finset.sum_congr rfl fun d _ => by rw [hq, hk]; rfl)
  have ha := att_band hQ hK n g ⟨1536 + p.val, by omega⟩ (w := 2048) (by omega) (by show 1536 + p.val < 2048; omega) ⟨t.val, by omega⟩
  unfold rowSum rowMax at ha
  pointwise [pr2048, k1_pay54, k1_pay34]
  simp only [hs]
  rw [bot_bits]
  exact ha
theorem piece2048_0 (P : FVec Ideal S512x2048 .f32) (p t : Fin 512) : k1_pay56 (extractStridedSlice S512x512 ![0, 0] P slices_S512x2048_o0_0_S512x512) (ix3 0 p t) = P (ix2 p ⟨0 + t.val, by omega⟩) := by
  pointwise [k1_pay56]
theorem piece2048_1 (P : FVec Ideal S512x2048 .f32) (p t : Fin 512) : k1_pay57 P (ix3 0 p t) = P (ix2 p ⟨512 + t.val, by omega⟩) := by
  pointwise [k1_pay57]
theorem piece2048_2 (P : FVec Ideal S512x2048 .f32) (p t : Fin 512) : k1_pay58 P (ix3 0 p t) = P (ix2 p ⟨1024 + t.val, by omega⟩) := by
  pointwise [k1_pay58]
theorem piece2048_3 (P : FVec Ideal S512x2048 .f32) (p t : Fin 512) : k1_pay59 P (ix3 0 p t) = P (ix2 p ⟨1536 + t.val, by omega⟩) := by
  pointwise [k1_pay59]

/-- The block of weights of one head is the model's, over all 2048 columns. -/
theorem att2048_block (hQ : ∀ n s h, Fine (Q n s h)) (hK : ∀ n s h, Fine (K n s h)) (n : Fin 4) (g : Fin 16) (q : Vec Ideal S1x512x64 .bf16) (k : Vec Ideal S1x2048x64 .bf16)
    (hq : ∀ (p : Fin 512) (d : Fin 64), q (ix3 0 p d) = Q n ⟨1536 + p.val, by omega⟩ (hcol g d)) (hk : ∀ (t : Fin 2048) (d : Fin 64), k (ix3 0 t d) = K n ⟨t.val, by omega⟩ (hcol g d))
    (p : Fin 512) (t : Fin 2048) : att2048 q k (ix2 p t) = att Q K n g ⟨1536 + p.val, by omega⟩ t := by
  have ht := t.isLt
  unfold att2048
  refine (cols4_ix _ _ _ _ p t).trans ?_
  by_cases h0 : t.val < 512
  · rw [dif_pos h0]
    refine (piece2048_0 (pr2048 q k) p _).trans ((pr2048_att hQ hK n g q k hq hk p _).trans (congrArg (att Q K n g _) (Fin.ext ?_)))
    show 0 + t.val = t.val; omega
  rw [dif_neg h0]
  by_cases h1 : t.val - 512 < 512
  · rw [dif_pos h1]
    refine (piece2048_1 (pr2048 q k) p _).trans ((pr2048_att hQ hK n g q k hq hk p _).trans (congrArg (att Q K n g _) (Fin.ext ?_)))
    show 512 + (t.val - 512) = t.val; omega
  rw [dif_neg h1]
  by_cases h2 : t.val - 1024 < 512
  · rw [dif_pos h2]
    refine (piece2048_2 (pr2048 q k) p _).trans ((pr2048_att hQ hK n g q k hq hk p _).trans (congrArg (att Q K n g _) (Fin.ext ?_)))
    show 1024 + (t.val - 1024) = t.val; omega
  rw [dif_neg h2]
  refine (piece2048_3 (pr2048 q k) p _).trans ((pr2048_att hQ hK n g q k hq hk p _).trans (congrArg (att Q K n g _) (Fin.ext ?_)))
  show 1536 + (t.val - 1536) % 512 = t.val; omega

/-- The context of a head over the band's columns is the model's. -/
theorem hd2048_ctx (V : Fin 4 → Fin 2048 → Fin 1024 → EReal) (hQ : ∀ n s h, Fine (Q n s h)) (hK : ∀ n s h, Fine (K n s h)) (n : Fin 4) (u h : Fin 4)
    (xq : Vec Ideal S1x512x256 .bf16) (xk xv : Vec Ideal S1x2048x256 .bf16)
    (hq : ∀ (p : Fin 512) (e : Fin 256), xq (ix3 0 p e) = Q n ⟨1536 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (d : Fin 64) :
    hd2048 (ldk2048 xv h) (pr2048 (ldq xq h) (ldk2048 xk h)) (ix2 d p) = ctx Q K V n ⟨1536 + p.val, by omega⟩ (gcol u (bcol h d)) := by
  have e : hd2048 (ldk2048 xv h) (pr2048 (ldq xq h) (ldk2048 xk h)) (ix2 d p) = ∑ t : Fin 2048, ldk2048 xv h (ix3 0 t d) * pr2048 (ldq xq h) (ldk2048 xk h) (ix2 p t) := by
    pointwise [hd2048, k1_pay60, k1_pay53]
  rw [e, ← ctx_band V hQ hK n ⟨1536 + p.val, by omega⟩ (gcol u (bcol h d)) (w := 2048) (by omega) (by show 1536 + p.val < 2048; omega)]
  refine Finset.sum_congr rfl fun t _ => ?_
  rw [ldk2048_at, hv, pr2048_att hQ hK n (ghead u h) _ _ (fun p d => by rw [ldq_at, hq, gcol_bcol]) (fun t d => by rw [ldk2048_at, hk, gcol_bcol]) p t, gcol_bcol, hd_hcol]
/-- The context block of four heads is the model's. -/
theorem ctx2048_block (V : Fin 4 → Fin 2048 → Fin 1024 → EReal) (hQ : ∀ n s h, Fine (Q n s h)) (hK : ∀ n s h, Fine (K n s h)) (n : Fin 4) (u : Fin 4)
    (xq : Vec Ideal S1x512x256 .bf16) (xk xv : Vec Ideal S1x2048x256 .bf16)
    (hq : ∀ (p : Fin 512) (e : Fin 256), xq (ix3 0 p e) = Q n ⟨1536 + p.val, by omega⟩ (gcol u e)) (hk : ∀ (t : Fin 2048) (e : Fin 256), xk (ix3 0 t e) = K n t (gcol u e))
    (hv : ∀ (t : Fin 2048) (e : Fin 256), xv (ix3 0 t e) = V n t (gcol u e)) (p : Fin 512) (h : Fin 4) (d : Fin 64) :
    ctx2048 xq xk xv (ix2 p (bcol h d)) = ctx Q K V n ⟨1536 + p.val, by omega⟩ (gcol u (bcol h d)) := by
  unfold ctx2048
  fin_cases h
  · exact (ctxBlk_0 _ _ _ _ p d).trans (hd2048_ctx V hQ hK n u 0 xq xk xv hq hk hv p d)
  · exact (ctxBlk_1 _ _ _ _ p d).trans (hd2048_ctx V hQ hK n u 1 xq xk xv hq hk hv p d)
  · exact (ctxBlk_2 _ _ _ _ p d).trans (hd2048_ctx V hQ hK n u 2 xq xk xv hq hk hv p d)
  · exact (ctxBlk_3 _ _ _ _ p d).trans (hd2048_ctx V hQ hK n u 3 xq xk xv hq hk hv p d)

end Cert.KernelIdeal.Attn

end
-- ==== Proof.IAttnArr.lean ====
/-
  The attention call over the extended reals: the two arrays it leaves are the model's scores and contexts of the three
  arrays it is entered with, index by index.
-/
module

public import proofs.«01_k».proof.Proof.IAttnMath
public import proofs.«01_k».proof.Proof.IAttnEnds
public import proofs.«01_k».proof.Proof.Model
public import Idealize.ShloMosaic.Lib.Pipeline.ValueKit
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem Cert.Soft Cert.Model

variable (V : (c : Dev nD) → (b : Ref sig .tc) → Buf (Elt Ideal) ((c : Thread nD τ).loc b))
/-- Where each window's block stands at a step. -/
theorem idx : ∀ t : Fin cfg1.N, win1_0.index t = ![t.val / 8, t.val % 2, t.val % 8 / 2] ∧ win1_1.index t = ![t.val / 8, 3 - t.val % 2, t.val % 8 / 2]
    ∧ win1_2.index t = ![t.val / 8, 0, t.val % 8 / 2] ∧ win1_3.index t = ![t.val / 8, 0, t.val % 8 / 2] :=
  (by decide +kernel : ∀ t : Fin grid1.N, _)

/-! ### The blocks of a step, as parts of the arrays -/

theorem ix3_congr {a b c : ℕ} {i i' : Fin a} {j j' : Fin b} {k k' : Fin c} (hi : i = i') (hj : j = j') (hk : k = k') : ix3 i j k = ix3 i' j' k' := by
  rw [hi, hj, hk]

theorem win0_at (c : Dev nD) (t : Fin cfg1.N) (p : Fin 512) (e : Fin 256) : (iblk V c 0 t : Vec Ideal S1x512x256 .bf16) (ix3 0 p e)
    = (V c (Pipeline.arrRef spec1 0) : FVec Ideal S4x2048x1024 .bf16) (ix3 (⟨t.val / 8, by have := t.isLt.trans_eq N_1; omega⟩ : Fin 4) (⟨512 * (t.val % 2) + p.val, by omega⟩ : Fin 2048) (⟨256 * (t.val % 8 / 2) + e.val, by omega⟩ : Fin 1024)) := by
  blk_point [iblk, idx t]
/-- The lower band of queries of a step. -/
theorem X3_ix (c : Dev nD) (n u : Fin 4) (i : Fin 2) (p : Fin 512) (e : Fin 256) : X3 V c (8 * n.val + 2 * u.val + i.val) (ix3 0 p e)
    = (V c main_v10 : FVec Ideal S4x2048x1024 .bf16) (ix3 n (⟨512 * i.val + p.val, by omega⟩ : Fin 2048) (gcol u e)) := by
  obtain ⟨t, ht⟩ : ∃ t : Fin cfg1.N, t.val = 8 * n.val + 2 * u.val + i.val := ⟨⟨8 * n.val + 2 * u.val + i.val, Nat.lt_of_lt_of_eq (by omega) N_1.symm⟩, rfl⟩
  rw [← ht, X3_at, win0_at]
  refine congrArg (V c main_v10 : FVec Ideal S4x2048x1024 .bf16) (ix3_congr ?_ ?_ ?_) <;> apply Fin.ext
  · show t.val / 8 = n.val; omega
  · show 512 * (t.val % 2) + p.val = 512 * i.val + p.val; omega
  · show 256 * (t.val % 8 / 2) + e.val = 256 * u.val + e.val; omega

theorem win1_at (c : Dev nD) (t : Fin cfg1.N) (p : Fin 512) (e : Fin 256) : (iblk V c 1 t : Vec Ideal S1x512x256 .bf16) (ix3 0 p e)
    = (V c (Pipeline.arrRef spec1 1) : FVec Ideal S4x2048x1024 .bf16) (ix3 (⟨t.val / 8, by have := t.isLt.trans_eq N_1; omega⟩ : Fin 4) (⟨512 * (3 - t.val % 2) + p.val, by omega⟩ : Fin 2048) (⟨256 * (t.val % 8 / 2) + e.val, by omega⟩ : Fin 1024)) := by
  blk_point [iblk, idx t]
/-- The upper band of queries of a step. -/
theorem X4_ix (c : Dev nD) (n u : Fin 4) (i : Fin 2) (p : Fin 512) (e : Fin 256) : X4 V c (8 * n.val + 2 * u.val + i.val) (ix3 0 p e)
    = (V c main_v10 : FVec Ideal S4x2048x1024 .bf16) (ix3 n (⟨512 * (3 - i.val) + p.val, by omega⟩ : Fin 2048) (gcol u e)) := by
  obtain ⟨t, ht⟩ : ∃ t : Fin cfg1.N, t.val = 8 * n.val + 2 * u.val + i.val := ⟨⟨8 * n.val + 2 * u.val + i.val, Nat.lt_of_lt_of_eq (by omega) N_1.symm⟩, rfl⟩
  rw [← ht, X4_at, win1_at]
  refine congrArg (V c main_v10 : FVec Ideal S4x2048x1024 .bf16) (ix3_congr ?_ ?_ ?_) <;> apply Fin.ext
  · show t.val / 8 = n.val; omega
  · show 512 * (3 - t.val % 2) + p.val = 512 * (3 - i.val) + p.val; omega
  · show 256 * (t.val % 8 / 2) + e.val = 256 * u.val + e.val; omega

theorem win2_at (c : Dev nD) (t : Fin cfg1.N) (p : Fin 2048) (e : Fin 256) : (iblk V c 2 t : Vec Ideal S1x2048x256 .bf16) (ix3 0 p e)
    = (V c (Pipeline.arrRef spec1 2) : FVec Ideal S4x2048x1024 .bf16) (ix3 (⟨t.val / 8, by have := t.isLt.trans_eq N_1; omega⟩ : Fin 4) (⟨p.val, by omega⟩ : Fin 2048) (⟨256 * (t.val % 8 / 2) + e.val, by omega⟩ : Fin 1024)) := by
  blk_point [iblk, idx t]
/-- The keys of a step. -/
theorem X5_ix (c : Dev nD) (n u : Fin 4) (i : Fin 2) (p : Fin 2048) (e : Fin 256) : X5 V c (8 * n.val + 2 * u.val + i.val) (ix3 0 p e)
    = (V c main_v11 : FVec Ideal S4x2048x1024 .bf16) (ix3 n (⟨p.val, by omega⟩ : Fin 2048) (gcol u e)) := by
  obtain ⟨t, ht⟩ : ∃ t : Fin cfg1.N, t.val = 8 * n.val + 2 * u.val + i.val := ⟨⟨8 * n.val + 2 * u.val + i.val, Nat.lt_of_lt_of_eq (by omega) N_1.symm⟩, rfl⟩
  rw [← ht, X5_at, win2_at]
  refine congrArg (V c main_v11 : FVec Ideal S4x2048x1024 .bf16) (ix3_congr ?_ ?_ ?_) <;> apply Fin.ext
  · show t.val / 8 = n.val; omega
  · show p.val = p.val; omega
  · show 256 * (t.val % 8 / 2) + e.val = 256 * u.val + e.val; omega

theorem win3_at (c : Dev nD) (t : Fin cfg1.N) (p : Fin 2048) (e : Fin 256) : (iblk V c 3 t : Vec Ideal S1x2048x256 .bf16) (ix3 0 p e)
    = (V c (Pipeline.arrRef spec1 3) : FVec Ideal S4x2048x1024 .bf16) (ix3 (⟨t.val / 8, by have := t.isLt.trans_eq N_1; omega⟩ : Fin 4) (⟨p.val, by omega⟩ : Fin 2048) (⟨256 * (t.val % 8 / 2) + e.val, by omega⟩ : Fin 1024)) := by
  blk_point [iblk, idx t]
/-- The values of a step. -/
theorem X6_ix (c : Dev nD) (n u : Fin 4) (i : Fin 2) (p : Fin 2048) (e : Fin 256) : X6 V c (8 * n.val + 2 * u.val + i.val) (ix3 0 p e)
    = (V c main_v12 : FVec Ideal S4x2048x1024 .bf16) (ix3 n (⟨p.val, by omega⟩ : Fin 2048) (gcol u e)) := by
  obtain ⟨t, ht⟩ : ∃ t : Fin cfg1.N, t.val = 8 * n.val + 2 * u.val + i.val := ⟨⟨8 * n.val + 2 * u.val + i.val, Nat.lt_of_lt_of_eq (by omega) N_1.symm⟩, rfl⟩
  rw [← ht, X6_at, win3_at]
  refine congrArg (V c main_v12 : FVec Ideal S4x2048x1024 .bf16) (ix3_congr ?_ ?_ ?_) <;> apply Fin.ext
  · show t.val / 8 = n.val; omega
  · show p.val = p.val; omega
  · show 256 * (t.val % 8 / 2) + e.val = 256 * u.val + e.val; omega

variable {Q K X : Fin 4 → Fin 2048 → Fin 1024 → EReal} (c : Dev nD)
theorem hh_add (q : ℕ) (h : Fin 4) : hh (4 * q + h.val) = h := by
  apply Fin.ext; show (4 * q + h.val) % 4 = h.val; omega

/-- Score block `h` of a step of band pair 0: rows 0 to 511. -/
theorem attV_00 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h) (n u h : Fin 4) (a : Fin 512) (b : Fin 2048) :
    attV V c (8 * n.val + 2 * u.val + 0) (4 * 0 + h.val) (ix2 a b) = att Q K n (ghead u h) ⟨0 + a.val, by omega⟩ b := by
  have e : (8 * n.val + 2 * u.val + 0) % 2 = 0 := by omega
  unfold attV attS
  rw [e, if_pos rfl, if_pos (by omega), hh_add]
  exact att512_block hQ hK n (ghead u h) _ _ (fun p d => by rw [ldq_at, ← gcol_bcol]; exact (X3_ix V c n u 0 p (bcol h d)).trans ((h10 n ⟨0 + p.val, by omega⟩ _)))
    (fun t d => by rw [ldk512_at, ← gcol_bcol]; exact (X5_ix V c n u 0 ⟨t.val, by omega⟩ (bcol h d)).trans (h11 _ _ _)) a b
/-- Context block 0 of a step of band pair 0. -/
theorem ctxV_00 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h)
    (h12 : ∀ n s h, (V c main_v12 : FVec Ideal S4x2048x1024 .bf16) (ix3 n s h) = X n s h) (n u h : Fin 4) (a : Fin 512) (d : Fin 64) :
    ctxV V c (8 * n.val + 2 * u.val + 0) 0 (ix2 a (bcol h d)) = ctx Q K X n ⟨0 + a.val, by omega⟩ (gcol u (bcol h d)) := by
  have e : (8 * n.val + 2 * u.val + 0) % 2 = 0 := by omega
  unfold ctxV ctxS
  rw [e, if_pos rfl, if_pos rfl]
  exact ctx512_block X hQ hK n u _ _ _ (fun p e => (X3_ix V c n u 0 p e).trans ((h10 n ⟨0 + p.val, by omega⟩ _)))
    (fun t e => (X5_ix V c n u 0 t e).trans (h11 _ _ _)) (fun t e => (X6_ix V c n u 0 t e).trans (h12 _ _ _)) a h d

/-- Score block `4 + h` of a step of band pair 0: rows 1536 to 2047. -/
theorem attV_01 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h) (n u h : Fin 4) (a : Fin 512) (b : Fin 2048) :
    attV V c (8 * n.val + 2 * u.val + 0) (4 * 1 + h.val) (ix2 a b) = att Q K n (ghead u h) ⟨1536 + a.val, by omega⟩ b := by
  have e : (8 * n.val + 2 * u.val + 0) % 2 = 0 := by omega
  unfold attV attS
  rw [e, if_pos rfl, if_neg (by omega), hh_add]
  exact att2048_block hQ hK n (ghead u h) _ _ (fun p d => by rw [ldq_at, ← gcol_bcol]; exact (X4_ix V c n u 0 p (bcol h d)).trans ((h10 n ⟨1536 + p.val, by omega⟩ _)))
    (fun t d => by rw [ldk2048_at, ← gcol_bcol]; exact (X5_ix V c n u 0 ⟨t.val, by omega⟩ (bcol h d)).trans (h11 _ _ _)) a b
/-- Context block 1 of a step of band pair 0. -/
theorem ctxV_01 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h)
    (h12 : ∀ n s h, (V c main_v12 : FVec Ideal S4x2048x1024 .bf16) (ix3 n s h) = X n s h) (n u h : Fin 4) (a : Fin 512) (d : Fin 64) :
    ctxV V c (8 * n.val + 2 * u.val + 0) 1 (ix2 a (bcol h d)) = ctx Q K X n ⟨1536 + a.val, by omega⟩ (gcol u (bcol h d)) := by
  have e : (8 * n.val + 2 * u.val + 0) % 2 = 0 := by omega
  unfold ctxV ctxS
  rw [e, if_pos rfl, if_neg (by decide)]
  exact ctx2048_block X hQ hK n u _ _ _ (fun p e => (X4_ix V c n u 0 p e).trans ((h10 n ⟨1536 + p.val, by omega⟩ _)))
    (fun t e => (X5_ix V c n u 0 t e).trans (h11 _ _ _)) (fun t e => (X6_ix V c n u 0 t e).trans (h12 _ _ _)) a h d

/-- Score block `h` of a step of band pair 1: rows 512 to 1023. -/
theorem attV_10 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h) (n u h : Fin 4) (a : Fin 512) (b : Fin 2048) :
    attV V c (8 * n.val + 2 * u.val + 1) (4 * 0 + h.val) (ix2 a b) = att Q K n (ghead u h) ⟨512 + a.val, by omega⟩ b := by
  have e : (8 * n.val + 2 * u.val + 1) % 2 = 1 := by omega
  unfold attV attS
  rw [e, if_neg (by decide), if_pos (by omega), hh_add]
  exact att1024_block hQ hK n (ghead u h) _ _ (fun p d => by rw [ldq_at, ← gcol_bcol]; exact (X3_ix V c n u 1 p (bcol h d)).trans ((h10 n ⟨512 + p.val, by omega⟩ _)))
    (fun t d => by rw [ldk1024_at, ← gcol_bcol]; exact (X5_ix V c n u 1 ⟨t.val, by omega⟩ (bcol h d)).trans (h11 _ _ _)) a b
/-- Context block 0 of a step of band pair 1. -/
theorem ctxV_10 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h)
    (h12 : ∀ n s h, (V c main_v12 : FVec Ideal S4x2048x1024 .bf16) (ix3 n s h) = X n s h) (n u h : Fin 4) (a : Fin 512) (d : Fin 64) :
    ctxV V c (8 * n.val + 2 * u.val + 1) 0 (ix2 a (bcol h d)) = ctx Q K X n ⟨512 + a.val, by omega⟩ (gcol u (bcol h d)) := by
  have e : (8 * n.val + 2 * u.val + 1) % 2 = 1 := by omega
  unfold ctxV ctxS
  rw [e, if_neg (by decide), if_pos rfl]
  exact ctx1024_block X hQ hK n u _ _ _ (fun p e => (X3_ix V c n u 1 p e).trans ((h10 n ⟨512 + p.val, by omega⟩ _)))
    (fun t e => (X5_ix V c n u 1 t e).trans (h11 _ _ _)) (fun t e => (X6_ix V c n u 1 t e).trans (h12 _ _ _)) a h d

/-- Score block `4 + h` of a step of band pair 1: rows 1024 to 1535. -/
theorem attV_11 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h) (n u h : Fin 4) (a : Fin 512) (b : Fin 2048) :
    attV V c (8 * n.val + 2 * u.val + 1) (4 * 1 + h.val) (ix2 a b) = att Q K n (ghead u h) ⟨1024 + a.val, by omega⟩ b := by
  have e : (8 * n.val + 2 * u.val + 1) % 2 = 1 := by omega
  unfold attV attS
  rw [e, if_neg (by decide), if_neg (by omega), hh_add]
  exact att1536_block hQ hK n (ghead u h) _ _ (fun p d => by rw [ldq_at, ← gcol_bcol]; exact (X4_ix V c n u 1 p (bcol h d)).trans ((h10 n ⟨1024 + p.val, by omega⟩ _)))
    (fun t d => by rw [ldk1536_at, ← gcol_bcol]; exact (X5_ix V c n u 1 ⟨t.val, by omega⟩ (bcol h d)).trans (h11 _ _ _)) a b
/-- Context block 1 of a step of band pair 1. -/
theorem ctxV_11 (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h)
    (h12 : ∀ n s h, (V c main_v12 : FVec Ideal S4x2048x1024 .bf16) (ix3 n s h) = X n s h) (n u h : Fin 4) (a : Fin 512) (d : Fin 64) :
    ctxV V c (8 * n.val + 2 * u.val + 1) 1 (ix2 a (bcol h d)) = ctx Q K X n ⟨1024 + a.val, by omega⟩ (gcol u (bcol h d)) := by
  have e : (8 * n.val + 2 * u.val + 1) % 2 = 1 := by omega
  unfold ctxV ctxS
  rw [e, if_neg (by decide), if_neg (by decide)]
  exact ctx1536_block X hQ hK n u _ _ _ (fun p e => (X4_ix V c n u 1 p e).trans ((h10 n ⟨1024 + p.val, by omega⟩ _)))
    (fun t e => (X5_ix V c n u 1 t e).trans (h11 _ _ _)) (fun t e => (X6_ix V c n u 1 t e).trans (h12 _ _ _)) a h d

/-- The scores the call leaves are the model's. -/
theorem attArr_model (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h) (n : Fin 4) (g : Fin 16) (r t : Fin 2048) :
    (attArr V c : FVec Ideal S4x16x2048x2048 .f32) (ix4 n g r t) = att Q K n g r t := by
  have hr := r.isLt
  obtain ⟨u, hu⟩ : ∃ u : Fin 4, u.val = g.val / 4 := ⟨⟨g.val / 4, by omega⟩, rfl⟩
  obtain ⟨h, hh'⟩ : ∃ h : Fin 4, h.val = g.val % 4 := ⟨⟨g.val % 4, by omega⟩, rfl⟩
  have eg : ghead u h = g := Fin.ext (by show 4 * u.val + h.val = g.val; omega)
  have e0 : (gOf (ix4 n g r t)).val = (64 * n.val + 16 * (g.val / 4) + 8 * (if r.val / 512 = 1 ∨ r.val / 512 = 2 then 1 else 0) + 4 * (if 1024 ≤ r.val then 1 else 0) + g.val % 4) % 256 := rfl
  show attV V c ((gOf (ix4 n g r t)).val / 8) ((gOf (ix4 n g r t)).val % 8) (ix2 (rowOf r.val) t) = _
  by_cases h0 : r.val < 512
  · skip
    rw [if_neg (by omega), if_neg (by omega)] at e0
    rw [show (gOf (ix4 n g r t)).val / 8 = 8 * n.val + 2 * u.val + 0 by omega, show (gOf (ix4 n g r t)).val % 8 = 4 * 0 + h.val by omega, attV_00 V c hQ hK h10 h11 n u h (rowOf r.val) t, eg]
    exact congrArg (fun r => att Q K n g r t) (Fin.ext (by show 0 + r.val % 512 = r.val; omega) : (⟨0 + (rowOf r.val).val, by have := (rowOf r.val).isLt; omega⟩ : Fin 2048) = r)
  by_cases h1 : r.val < 1024
  · skip
    rw [if_pos (by omega), if_neg (by omega)] at e0
    rw [show (gOf (ix4 n g r t)).val / 8 = 8 * n.val + 2 * u.val + 1 by omega, show (gOf (ix4 n g r t)).val % 8 = 4 * 0 + h.val by omega, attV_10 V c hQ hK h10 h11 n u h (rowOf r.val) t, eg]
    exact congrArg (fun r => att Q K n g r t) (Fin.ext (by show 512 + r.val % 512 = r.val; omega) : (⟨512 + (rowOf r.val).val, by have := (rowOf r.val).isLt; omega⟩ : Fin 2048) = r)
  by_cases h2 : r.val < 1536
  · skip
    rw [if_pos (by omega), if_pos (by omega)] at e0
    rw [show (gOf (ix4 n g r t)).val / 8 = 8 * n.val + 2 * u.val + 1 by omega, show (gOf (ix4 n g r t)).val % 8 = 4 * 1 + h.val by omega, attV_11 V c hQ hK h10 h11 n u h (rowOf r.val) t, eg]
    exact congrArg (fun r => att Q K n g r t) (Fin.ext (by show 1024 + r.val % 512 = r.val; omega) : (⟨1024 + (rowOf r.val).val, by have := (rowOf r.val).isLt; omega⟩ : Fin 2048) = r)
  rw [if_neg (by omega), if_pos (by omega)] at e0
  rw [show (gOf (ix4 n g r t)).val / 8 = 8 * n.val + 2 * u.val + 0 by omega, show (gOf (ix4 n g r t)).val % 8 = 4 * 1 + h.val by omega, attV_01 V c hQ hK h10 h11 n u h (rowOf r.val) t, eg]
  exact congrArg (fun r => att Q K n g r t) (Fin.ext (by show 1536 + r.val % 512 = r.val; omega) : (⟨1536 + (rowOf r.val).val, by have := (rowOf r.val).isLt; omega⟩ : Fin 2048) = r)

/-- The contexts the call leaves are the model's. -/
theorem ctxArr_model (hQ : ∀ n s h, Fine (Q n s h)) (hK : ∀ n s h, Fine (K n s h))
    (h10 : ∀ n s h, (V c main_v10 : FVec Ideal S4x2048x1024 .bf16) (ix3 n s h) = Q n s h) (h11 : ∀ n s h, (V c main_v11 : FVec Ideal S4x2048x1024 .bf16) (ix3 n s h) = K n s h)
    (h12 : ∀ n s h, (V c main_v12 : FVec Ideal S4x2048x1024 .bf16) (ix3 n s h) = X n s h) (n : Fin 4) (r : Fin 2048) (k : Fin 1024) :
    (ctxArr V c : FVec Ideal S4x2048x1024 .bf16) (ix3 n r k) = ctx Q K X n r k := by
  have hr := r.isLt
  obtain ⟨u, hu⟩ : ∃ u : Fin 4, u.val = k.val / 256 := ⟨⟨k.val / 256, by omega⟩, rfl⟩
  obtain ⟨h, hh'⟩ : ∃ h : Fin 4, h.val = k.val % 256 / 64 := ⟨⟨k.val % 256 / 64, by omega⟩, rfl⟩
  obtain ⟨d, hd'⟩ : ∃ d : Fin 64, d.val = k.val % 64 := ⟨⟨k.val % 64, by omega⟩, rfl⟩
  have ec : colOf k.val = bcol h d := Fin.ext (by show k.val % 256 = 64 * h.val + d.val; omega)
  have ek : gcol u (bcol h d) = k := Fin.ext (by show 256 * u.val + (64 * h.val + d.val) = k.val; omega)
  have e0 : (qOf (ix3 n r k)).val = (16 * n.val + 4 * (k.val / 256) + 2 * (if r.val / 512 = 1 ∨ r.val / 512 = 2 then 1 else 0) + (if 1024 ≤ r.val then 1 else 0)) % 64 := rfl
  show ctxV V c ((qOf (ix3 n r k)).val / 2) ((qOf (ix3 n r k)).val % 2) (ix2 (rowOf r.val) (colOf k.val)) = _
  rw [ec]
  by_cases h0 : r.val < 512
  · skip
    rw [if_neg (by omega), if_neg (by omega)] at e0
    rw [show (qOf (ix3 n r k)).val / 2 = 8 * n.val + 2 * u.val + 0 by omega, show (qOf (ix3 n r k)).val % 2 = 0 by omega, ctxV_00 V c hQ hK h10 h11 h12 n u h (rowOf r.val) d, ek]
    exact congrArg (fun r => ctx Q K X n r k) (Fin.ext (by show 0 + r.val % 512 = r.val; omega) : (⟨0 + (rowOf r.val).val, by have := (rowOf r.val).isLt; omega⟩ : Fin 2048) = r)
  by_cases h1 : r.val < 1024
  · skip
    rw [if_pos (by omega), if_neg (by omega)] at e0
    rw [show (qOf (ix3 n r k)).val / 2 = 8 * n.val + 2 * u.val + 1 by omega, show (qOf (ix3 n r k)).val % 2 = 0 by omega, ctxV_10 V c hQ hK h10 h11 h12 n u h (rowOf r.val) d, ek]
    exact congrArg (fun r => ctx Q K X n r k) (Fin.ext (by show 512 + r.val % 512 = r.val; omega) : (⟨512 + (rowOf r.val).val, by have := (rowOf r.val).isLt; omega⟩ : Fin 2048) = r)
  by_cases h2 : r.val < 1536
  · skip
    rw [if_pos (by omega), if_pos (by omega)] at e0
    rw [show (qOf (ix3 n r k)).val / 2 = 8 * n.val + 2 * u.val + 1 by omega, show (qOf (ix3 n r k)).val % 2 = 1 by omega, ctxV_11 V c hQ hK h10 h11 h12 n u h (rowOf r.val) d, ek]
    exact congrArg (fun r => ctx Q K X n r k) (Fin.ext (by show 1024 + r.val % 512 = r.val; omega) : (⟨1024 + (rowOf r.val).val, by have := (rowOf r.val).isLt; omega⟩ : Fin 2048) = r)
  rw [if_neg (by omega), if_pos (by omega)] at e0
  rw [show (qOf (ix3 n r k)).val / 2 = 8 * n.val + 2 * u.val + 0 by omega, show (qOf (ix3 n r k)).val % 2 = 1 by omega, ctxV_01 V c hQ hK h10 h11 h12 n u h (rowOf r.val) d, ek]
  exact congrArg (fun r => ctx Q K X n r k) (Fin.ext (by show 1536 + r.val % 512 = r.val; omega) : (⟨1536 + (rowOf r.val).val, by have := (rowOf r.val).isLt; omega⟩ : Fin 2048) = r)

end Cert.KernelIdeal.Attn

end
-- ==== Proof.IQkvVal.lean ====
/-
  The projection call over the extended reals: each of its three result arrays is its operand's rows against the weights'
  rows, plus the bias.
-/
module

public import proofs.«01_k».proof.Proof.IRegQkv
public import proofs.«01_k».proof.Proof.Model
public import Idealize.ShloMosaic.Lib.Pipeline.ValueKit

@[expose] public section

set_option maxRecDepth 16384

noncomputable section

namespace Cert.KernelIdeal.Qkv

open Cert.KernelIdeal Cert.KernelIdeal.Gen Idealize.ShloMosaic Idealize.ShloMosaic.TcCoe Idealize.SL.Sem Cert.Soft

variable (V : (c : Dev nD) → (b : Ref sig .tc) → Buf (Elt Ideal) ((c : Thread nD τ).loc b))
/-- A row of `X` against a row of `W`, plus the bias. -/
def lin (X : FVec Ideal S8192x1024 .f32) (W : FVec Ideal S1024x1024 .f32) (b : FVec Ideal S1x1024 .f32) : FVec Ideal S8192x1024 .bf16 := fun i =>
  (∑ k : Fin 1024, X (ix2 (i 0) k) * W (ix2 (i 1) k)) + b (ix2 0 (i 1))
/-- Where each window's block stands at a point. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

theorem point9 (c : Dev nD) (t : Fin cfg0.N) (y) : k0_pay1 (iblk V c 0 t) (iblk V c 3 t) (iblk V c 4 t) y
    = lin (V c (Pipeline.arrRef spec0 0)) (V c (Pipeline.arrRef spec0 3)) (V c (Pipeline.arrRef spec0 4)) (((cfg0.win 9).blk t).view.emb y) := by
  pointwise [k0_pay1, lin]
  blk_point [iblk, idx t]
/-- The query array the call leaves: rows of its operand against rows of the weights, plus the bias. -/
theorem o9 (c : Dev nD) : (dats V c).arrAt 9 cfg0.N = lin (V c (Pipeline.arrRef spec0 0)) (V c (Pipeline.arrRef spec0 3)) (V c (Pipeline.arrRef spec0 4)) := by
  refine (dats V c).arrAt_eq_of_covers 9 _ (by decide +kernel) fun t _ y => ?_
  blk_simp
  rw [after0_9]
  frame_out
  exact point9 V c t y

theorem point10 (c : Dev nD) (t : Fin cfg0.N) (y) : k0_pay2 (iblk V c 1 t) (iblk V c 5 t) (iblk V c 6 t) y
    = lin (V c (Pipeline.arrRef spec0 1)) (V c (Pipeline.arrRef spec0 5)) (V c (Pipeline.arrRef spec0 6)) (((cfg0.win 10).blk t).view.emb y) := by
  pointwise [k0_pay2, lin]
  blk_point [iblk, idx t]
/-- The key array the call leaves: rows of its operand against rows of the weights, plus the bias. -/
theorem o10 (c : Dev nD) : (dats V c).arrAt 10 cfg0.N = lin (V c (Pipeline.arrRef spec0 1)) (V c (Pipeline.arrRef spec0 5)) (V c (Pipeline.arrRef spec0 6)) := by
  refine (dats V c).arrAt_eq_of_covers 10 _ (by decide +kernel) fun t _ y => ?_
  blk_simp
  rw [after0_10]
  frame_out
  exact point10 V c t y

theorem point11 (c : Dev nD) (t : Fin cfg0.N) (y) : k0_pay3 (iblk V c 2 t) (iblk V c 7 t) (iblk V c 8 t) y
    = lin (V c (Pipeline.arrRef spec0 2)) (V c (Pipeline.arrRef spec0 7)) (V c (Pipeline.arrRef spec0 8)) (((cfg0.win 11).blk t).view.emb y) := by
  pointwise [k0_pay3, lin]
  blk_point [iblk, idx t]
/-- The value array the call leaves: rows of its operand against rows of the weights, plus the bias. -/
theorem o11 (c : Dev nD) : (dats V c).arrAt 11 cfg0.N = lin (V c (Pipeline.arrRef spec0 2)) (V c (Pipeline.arrRef spec0 7)) (V c (Pipeline.arrRef spec0 8)) := by
  refine (dats V c).arrAt_eq_of_covers 11 _ (by decide +kernel) fun t _ y => ?_
  blk_simp
  rw [after0_11]
  frame_out
  exact point11 V c t y

end Cert.KernelIdeal.Qkv

end
-- ==== Proof.IOutVal.lean ====
/-
  The output call over the extended reals: its result array is the layer norm of the contexts' rows through the output
  projection, the bias and the residual.
-/
module

public import proofs.«01_k».proof.Proof.IRegOut
public import proofs.«01_k».proof.Proof.Model
public import Idealize.ShloMosaic.Lib.Pipeline.ValueKit

@[expose] public section

set_option maxRecDepth 16384

noncomputable section

namespace Cert.KernelIdeal.Outk

open Cert.KernelIdeal Cert.KernelIdeal.Gen Idealize.ShloMosaic Idealize.ShloMosaic.TcCoe Idealize.SL.Sem Cert.Soft Cert.Model

variable (V : (c : Dev nD) → (b : Ref sig .tc) → Buf (Elt Ideal) ((c : Thread nD τ).loc b))
/-- The row the layer norm is taken of: a row of the contexts through the output projection, its bias, the residual. -/
def row2 {s : Nat} (C : FVec Ideal ⟨2, ![s, 1024]⟩ .bf16) (X : FVec Ideal ⟨2, ![s, 1024]⟩ .f32) (W : FVec Ideal S1024x1024 .f32) (b : FVec Ideal S1x1024 .f32) (p : Fin s) (h : Fin 1024) : EReal :=
  (∑ k : Fin 1024, C (ix2 p k) * W (ix2 h k)) + b (ix2 0 h) + X (ix2 p h)
/-- A one-row array as a vector. -/
def vec (g : FVec Ideal S1x1024 .f32) : FVec Ideal T1 .f32 := fun j => g (ix2 0 (j 0))
/-- The array the call leaves. -/
def fin (C : FVec Ideal S8192x1024 .bf16) (X : FVec Ideal S8192x1024 .f32) (W : FVec Ideal S1024x1024 .f32) (b g e : FVec Ideal S1x1024 .f32) : FVec Ideal S8192x1024 .f32 := fun i =>
  norm (row2 C X W b (i 0)) (vec g) (vec e) (i 1)
/-- Where each window's block stands at a point. -/
theorem idx : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![t.val, 0] :=
  (by decide +kernel : ∀ t : Fin grid2.N, _)
theorem point (c : Dev nD) (t : Fin cfg2.N) (y) : k2_pay1 (iblk V c 0 t) (iblk V c 2 t) (iblk V c 3 t) (iblk V c 1 t) (iblk V c 4 t) (iblk V c 5 t) y
    = fin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb y) := by
  pointwise [k2_pay1, fin, Model.norm, Model.mean, row2, vec]
  blk_point [iblk, idx t]
/-- The array the call leaves is the layer norm of the projected contexts plus the residual, row by row. -/
theorem o6 (c : Dev nD) : (dats V c).arrAt 6 cfg2.N
    = fin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) := by
  refine (dats V c).arrAt_eq_of_covers 6 _ (by decide +kernel) fun t _ y => ?_
  blk_simp
  rw [after2_6]
  frame_out
  exact point V c t y

end Cert.KernelIdeal.Outk

end
-- ==== Proof.IVal.lean ====
/-
  The program over the extended reals: its two results, index by index, are the model's scores and layer norm of its
  arguments.
-/
module

public import proofs.«01_k».proof.Proof.IAttnArr
public import proofs.«01_k».proof.Proof.IQkvVal
public import proofs.«01_k».proof.Proof.IOutVal
public import proofs.«01_k».proof.Proof.IRun
public import proofs.«01_k».proof.Proof.Model
public import Idealize.ShloMosaic.Lib.Pipeline.ValueKit
public import Idealize.ShloMosaic.Lib.WordCmp

@[expose] public section

set_option maxRecDepth 16384

noncomputable section

namespace Cert.KernelIdeal.Regs

open Cert.KernelIdeal Cert.KernelIdeal.Gen Idealize.ShloMosaic Idealize.ShloMosaic.TcCoe Idealize.SL.Sem Cert.Soft Cert.Model

variable (m : (ℓ : Loc nD τ sig) → Buf (Elt Ideal) ℓ) (c : Dev nD)

/-- Row `s` of batch `n` among the rows of all batches. -/
def frow (n : Fin 4) (s : Fin 2048) : Fin 8192 := ⟨n.val * 2048 + s.val, by omega⟩

/-! ### The reshapes, read at an index -/

theorem flat_at (x : S4x2048x1024.Idx → EReal) (n : Fin 4) (s : Fin 2048) (k : Fin 1024) : shapeCast S8192x1024 x shapeCasts_S4x2048x1024_S8192x1024 (ix2 (frow n s) k) = x (ix3 n s k) := by
  pointwise [frow]
theorem deep_at (x : S8192x1024.Idx → EReal) (n : Fin 4) (s : Fin 2048) (k : Fin 1024) : shapeCast S4x2048x1024 x shapeCasts_S8192x1024_S4x2048x1024 (ix3 n s k) = x (ix2 (frow n s) k) := by
  pointwise [frow]
theorem vec_at (x : S1024.Idx → EReal) (k : Fin 1024) : shapeCast S1x1024 x shapeCasts_S1024_S1x1024 (ix2 0 k) = x (ix1 k) := by
  pointwise []

/-! ### The arrays before and between the calls -/

theorem eA_v0 (n : Fin 4) (s : Fin 2048) (k : Fin 1024) : (eA m c main_v0 : FVec Ideal S8192x1024 .f32) (ix2 (frow n s) k) = (m (c.tc.loc main_arg0) : FVec Ideal S4x2048x1024 .f32) (ix3 n s k) := by
  have e : (eA m c main_v0 : FVec Ideal S8192x1024 .f32) = shapeCast S8192x1024 (m (c.tc.loc main_arg0) : FVec Ideal S4x2048x1024 .f32) shapeCasts_S4x2048x1024_S8192x1024 := by
    unfold eA
    after_results_simp
    rfl
  rw [e, flat_at]
theorem eA_v1 (n : Fin 4) (s : Fin 2048) (k : Fin 1024) : (eA m c main_v1 : FVec Ideal S8192x1024 .f32) (ix2 (frow n s) k) = (m (c.tc.loc main_arg1) : FVec Ideal S4x2048x1024 .f32) (ix3 n s k) := by
  have e : (eA m c main_v1 : FVec Ideal S8192x1024 .f32) = shapeCast S8192x1024 (m (c.tc.loc main_arg1) : FVec Ideal S4x2048x1024 .f32) shapeCasts_S4x2048x1024_S8192x1024 := by
    unfold eA
    after_results_simp
    rfl
  rw [e, flat_at]
theorem eA_v2 (n : Fin 4) (s : Fin 2048) (k : Fin 1024) : (eA m c main_v2 : FVec Ideal S8192x1024 .f32) (ix2 (frow n s) k) = (m (c.tc.loc main_arg2) : FVec Ideal S4x2048x1024 .f32) (ix3 n s k) := by
  have e : (eA m c main_v2 : FVec Ideal S8192x1024 .f32) = shapeCast S8192x1024 (m (c.tc.loc main_arg2) : FVec Ideal S4x2048x1024 .f32) shapeCasts_S4x2048x1024_S8192x1024 := by
    unfold eA
    after_results_simp
    rfl
  rw [e, flat_at]
theorem eA_v3 (k : Fin 1024) : (eA m c main_v3 : FVec Ideal S1x1024 .f32) (ix2 0 k) = (m (c.tc.loc main_arg5) : FVec Ideal S1024 .f32) (ix1 k) := by
  have e : (eA m c main_v3 : FVec Ideal S1x1024 .f32) = shapeCast S1x1024 (m (c.tc.loc main_arg5) : FVec Ideal S1024 .f32) shapeCasts_S1024_S1x1024 := by
    unfold eA
    after_results_simp
    rfl
  rw [e, vec_at]
theorem eA_v4 (k : Fin 1024) : (eA m c main_v4 : FVec Ideal S1x1024 .f32) (ix2 0 k) = (m (c.tc.loc main_arg7) : FVec Ideal S1024 .f32) (ix1 k) := by
  have e : (eA m c main_v4 : FVec Ideal S1x1024 .f32) = shapeCast S1x1024 (m (c.tc.loc main_arg7) : FVec Ideal S1024 .f32) shapeCasts_S1024_S1x1024 := by
    unfold eA
    after_results_simp
    rfl
  rw [e, vec_at]
theorem eA_v5 (k : Fin 1024) : (eA m c main_v5 : FVec Ideal S1x1024 .f32) (ix2 0 k) = (m (c.tc.loc main_arg9) : FVec Ideal S1024 .f32) (ix1 k) := by
  have e : (eA m c main_v5 : FVec Ideal S1x1024 .f32) = shapeCast S1x1024 (m (c.tc.loc main_arg9) : FVec Ideal S1024 .f32) shapeCasts_S1024_S1x1024 := by
    unfold eA
    after_results_simp
    rfl
  rw [e, vec_at]
theorem eA_v6 (k : Fin 1024) : (eA m c main_v6 : FVec Ideal S1x1024 .f32) (ix2 0 k) = (m (c.tc.loc main_arg11) : FVec Ideal S1024 .f32) (ix1 k) := by
  have e : (eA m c main_v6 : FVec Ideal S1x1024 .f32) = shapeCast S1x1024 (m (c.tc.loc main_arg11) : FVec Ideal S1024 .f32) shapeCasts_S1024_S1x1024 := by
    unfold eA
    after_results_simp
    rfl
  rw [e, vec_at]
theorem eA_v7 (k : Fin 1024) : (eA m c main_v7 : FVec Ideal S1x1024 .f32) (ix2 0 k) = (m (c.tc.loc main_arg12) : FVec Ideal S1024 .f32) (ix1 k) := by
  have e : (eA m c main_v7 : FVec Ideal S1x1024 .f32) = shapeCast S1x1024 (m (c.tc.loc main_arg12) : FVec Ideal S1024 .f32) shapeCasts_S1024_S1x1024 := by
    unfold eA
    after_results_simp
    rfl
  rw [e, vec_at]
theorem eA_v8 (k : Fin 1024) : (eA m c main_v8 : FVec Ideal S1x1024 .f32) (ix2 0 k) = (m (c.tc.loc main_arg13) : FVec Ideal S1024 .f32) (ix1 k) := by
  have e : (eA m c main_v8 : FVec Ideal S1x1024 .f32) = shapeCast S1x1024 (m (c.tc.loc main_arg13) : FVec Ideal S1024 .f32) shapeCasts_S1024_S1x1024 := by
    unfold eA
    after_results_simp
    rfl
  rw [e, vec_at]
/-- What the first stretch does not write it leaves. -/
theorem eA_of (r : Ref sig .tc) (h : r ∉ hostOps0_W) : eA m c r = m (c.tc.loc r) := StableHlo.after_of_writes_sub hostOps0 _ hostOps0_writes h
/-- What neither the first call, the second nor the stretches between write, the third call finds as the first did. -/
theorem eC_of (r : Ref sig .tc) (h : r ∉ [main_v9_0, main_v9_1, main_v9_2, main_v10, main_v11, main_v12, main_v13_0, main_v13_1, main_v14]) : eC m c r = eA m c r := by
  simp only [List.mem_cons, not_or] at h
  obtain ⟨h0, h1, h2, h3, h4, h5, h6, h7, h8, -⟩ := h
  have e2 : eC m c r = nB (eB m) c r := StableHlo.after_of_writes_sub hostOps2 _ hostOps2_writes (by simp [h8])
  have e1 : eB m c r = nA (eA m) c r := StableHlo.after_of_writes_sub hostOps1 _ hostOps1_writes (by simp [h3, h4, h5])
  exact e2.trans ((nB_of (eB m) c r h6 h7).trans (e1.trans (nA_of (eA m) c r h0 h1 h2)))

/-! ### The projections -/

/-- A projection's rows, when the operands are known. -/
theorem lin_at (X : FVec Ideal S8192x1024 .f32) (W : FVec Ideal S1024x1024 .f32) (b : FVec Ideal S1x1024 .f32) (X' : FVec Ideal S4x2048x1024 .f32) (W' : FVec Ideal S1024x1024 .f32) (b' : FVec Ideal S1024 .f32)
    (hX : ∀ n s k, X (ix2 (frow n s) k) = X' (ix3 n s k)) (hW : W = W') (hb : ∀ k, b (ix2 0 k) = b' (ix1 k)) (n : Fin 4) (s : Fin 2048) (h : Fin 1024) :
    Qkv.lin X W b (ix2 (frow n s) h) = proj X' W' b' n s h := by
  subst hW
  show (∑ k : Fin 1024, X (ix2 (frow n s) k) * W (ix2 h k)) + b (ix2 0 h) = (∑ k : Fin 1024, X' (ix3 n s k) * W (ix2 h k)) + b' (ix1 h)
  rw [hb]
  exact congrArg (· + _) (Finset.sum_congr rfl fun k _ => by rw [hX])
/-- The queries the second call is entered with. -/
theorem eB_v10 (n : Fin 4) (s : Fin 2048) (h : Fin 1024) : (eB m c main_v10 : FVec Ideal S4x2048x1024 .bf16) (ix3 n s h)
    = proj (m (c.tc.loc main_arg0)) (m (c.tc.loc main_arg4)) (m (c.tc.loc main_arg5)) n s h := by
  have e : (eB m c main_v10 : FVec Ideal S4x2048x1024 .bf16) = shapeCast S4x2048x1024 (nA (eA m) c main_v9_0 : FVec Ideal S8192x1024 .bf16) shapeCasts_S8192x1024_S4x2048x1024 := by
    unfold eB
    after_results_simp
    rfl
  rw [e, deep_at, nA_0]
  unfold o9_0
  rw [Qkv.o9]
  exact lin_at _ _ _ _ _ _ (eA_v0 m c) (eA_of m c main_arg4 (by decide)) (eA_v3 m c) n s h
/-- The keys the second call is entered with. -/
theorem eB_v11 (n : Fin 4) (s : Fin 2048) (h : Fin 1024) : (eB m c main_v11 : FVec Ideal S4x2048x1024 .bf16) (ix3 n s h)
    = proj (m (c.tc.loc main_arg1)) (m (c.tc.loc main_arg6)) (m (c.tc.loc main_arg7)) n s h := by
  have e : (eB m c main_v11 : FVec Ideal S4x2048x1024 .bf16) = shapeCast S4x2048x1024 (nA (eA m) c main_v9_1 : FVec Ideal S8192x1024 .bf16) shapeCasts_S8192x1024_S4x2048x1024 := by
    unfold eB
    after_results_simp
    rfl
  rw [e, deep_at, nA_1]
  unfold o9_1
  rw [Qkv.o10]
  exact lin_at _ _ _ _ _ _ (eA_v1 m c) (eA_of m c main_arg6 (by decide)) (eA_v4 m c) n s h
/-- The values the second call is entered with. -/
theorem eB_v12 (n : Fin 4) (s : Fin 2048) (h : Fin 1024) : (eB m c main_v12 : FVec Ideal S4x2048x1024 .bf16) (ix3 n s h)
    = proj (m (c.tc.loc main_arg2)) (m (c.tc.loc main_arg8)) (m (c.tc.loc main_arg9)) n s h := by
  have e : (eB m c main_v12 : FVec Ideal S4x2048x1024 .bf16) = shapeCast S4x2048x1024 (nA (eA m) c main_v9_2 : FVec Ideal S8192x1024 .bf16) shapeCasts_S8192x1024_S4x2048x1024 := by
    unfold eB
    after_results_simp
    rfl
  rw [e, deep_at, nA_2]
  unfold o9_2
  rw [Qkv.o11]
  exact lin_at _ _ _ _ _ _ (eA_v2 m c) (eA_of m c main_arg8 (by decide)) (eA_v5 m c) n s h

/-! ### The two results -/

/-- The scores the program returns are the model's. -/
theorem res1_model (hQ : ∀ n s h, Fine (proj (m (c.tc.loc main_arg0)) (m (c.tc.loc main_arg4)) (m (c.tc.loc main_arg5)) n s h)) (hK : ∀ n s h, Fine (proj (m (c.tc.loc main_arg1)) (m (c.tc.loc main_arg6)) (m (c.tc.loc main_arg7)) n s h)) (n : Fin 4) (g : Fin 16) (r t : Fin 2048) :
    (res1 m c : FVec Ideal S4x16x2048x2048 .f32) (ix4 n g r t) = att (proj (m (c.tc.loc main_arg0)) (m (c.tc.loc main_arg4)) (m (c.tc.loc main_arg5))) (proj (m (c.tc.loc main_arg1)) (m (c.tc.loc main_arg6)) (m (c.tc.loc main_arg7))) n g r t :=
  Attn.attArr_model (at' (eB m)) c hQ hK (eB_v10 m c) (eB_v11 m c) n g r t
/-- The contexts the third call is entered with are the model's. -/
theorem eC_v14 (hQ : ∀ n s h, Fine (proj (m (c.tc.loc main_arg0)) (m (c.tc.loc main_arg4)) (m (c.tc.loc main_arg5)) n s h)) (hK : ∀ n s h, Fine (proj (m (c.tc.loc main_arg1)) (m (c.tc.loc main_arg6)) (m (c.tc.loc main_arg7)) n s h)) (n : Fin 4) (r : Fin 2048) (k : Fin 1024) :
    (eC m c main_v14 : FVec Ideal S8192x1024 .bf16) (ix2 (frow n r) k) = ctx (proj (m (c.tc.loc main_arg0)) (m (c.tc.loc main_arg4)) (m (c.tc.loc main_arg5))) (proj (m (c.tc.loc main_arg1)) (m (c.tc.loc main_arg6)) (m (c.tc.loc main_arg7))) (proj (m (c.tc.loc main_arg2)) (m (c.tc.loc main_arg8)) (m (c.tc.loc main_arg9))) n r k := by
  have e : (eC m c main_v14 : FVec Ideal S8192x1024 .bf16) = shapeCast S8192x1024 (nB (eB m) c main_v13_1 : FVec Ideal S4x2048x1024 .bf16) shapeCasts_S4x2048x1024_S8192x1024 := by
    unfold eC
    after_results_simp
    rfl
  rw [e, flat_at, nB_1]
  exact Attn.ctxArr_model (at' (eB m)) c hQ hK (eB_v10 m c) (eB_v11 m c) (eB_v12 m c) n r k
/-- The layer norm's rows, when the operands are known. -/
theorem fin_at (C X : FVec Ideal S8192x1024 .f32) (W : FVec Ideal S1024x1024 .f32) (b g e : FVec Ideal S1x1024 .f32) (C' : Fin 4 → Fin 2048 → Fin 1024 → EReal) (X' : FVec Ideal S4x2048x1024 .f32) (W' : FVec Ideal S1024x1024 .f32) (b' g' e' : FVec Ideal S1024 .f32)
    (hC : ∀ n s k, C (ix2 (frow n s) k) = C' n s k) (hX : ∀ n s k, X (ix2 (frow n s) k) = X' (ix3 n s k)) (hW : W = W') (hb : ∀ k, b (ix2 0 k) = b' (ix1 k))
    (hg : ∀ k, g (ix2 0 k) = g' (ix1 k)) (he : ∀ k, e (ix2 0 k) = e' (ix1 k)) (n : Fin 4) (r : Fin 2048) (h : Fin 1024) :
    Outk.fin C X W b g e (ix2 (frow n r) h) = norm (res C' W' b' X' n r) g' e' h := by
  subst hW
  have e1 : Outk.row2 C X W b (frow n r) = res C' W b' X' n r := by
    funext h
    unfold Outk.row2 res
    rw [hb, hX]
    exact congrArg (fun y => y + _ + _) (Finset.sum_congr rfl fun k _ => by rw [hC])
  show norm (Outk.row2 C X W b (frow n r)) (Outk.vec g) (Outk.vec e) h = _
  rw [e1]
  unfold Model.norm
  rw [show Outk.vec g (ix1 h) = g' (ix1 h) from hg h, show Outk.vec e (ix1 h) = e' (ix1 h) from he h]
/-- The output the program returns is the model's. -/
theorem res0_model (hQ : ∀ n s h, Fine (proj (m (c.tc.loc main_arg0)) (m (c.tc.loc main_arg4)) (m (c.tc.loc main_arg5)) n s h)) (hK : ∀ n s h, Fine (proj (m (c.tc.loc main_arg1)) (m (c.tc.loc main_arg6)) (m (c.tc.loc main_arg7)) n s h)) (n : Fin 4) (r : Fin 2048) (h : Fin 1024) :
    (res0 m c : FVec Ideal S4x2048x1024 .f32) (ix3 n r h) = norm (res (ctx (proj (m (c.tc.loc main_arg0)) (m (c.tc.loc main_arg4)) (m (c.tc.loc main_arg5))) (proj (m (c.tc.loc main_arg1)) (m (c.tc.loc main_arg6)) (m (c.tc.loc main_arg7))) (proj (m (c.tc.loc main_arg2)) (m (c.tc.loc main_arg8)) (m (c.tc.loc main_arg9)))) (m (c.tc.loc main_arg10)) (m (c.tc.loc main_arg11)) (m (c.tc.loc main_arg0)) n r) (m (c.tc.loc main_arg12)) (m (c.tc.loc main_arg13)) h := by
  have e : (res0 m c : FVec Ideal S4x2048x1024 .f32) = shapeCast S4x2048x1024 (nC (eC m) c main_v15 : FVec Ideal S8192x1024 .f32) shapeCasts_S8192x1024_S4x2048x1024 := by
    unfold res0 eZ
    after_results_simp
    rfl
  rw [e, deep_at, nC_0]
  unfold o15
  rw [Outk.o6]
  exact fin_at _ _ _ _ _ _ _ _ _ _ _ _ (eC_v14 m c hQ hK) (fun n s k => (congrFun (eC_of m c main_v0 (by decide)) _).trans (eA_v0 m c n s k))
    ((eC_of m c main_arg10 (by decide)).trans (eA_of m c main_arg10 (by decide)))
    (fun k => (congrFun (eC_of m c main_v6 (by decide)) _).trans (eA_v6 m c k))
    (fun k => (congrFun (eC_of m c main_v7 (by decide)) _).trans (eA_v7 m c k))
    (fun k => (congrFun (eC_of m c main_v8 (by decide)) _).trans (eA_v8 m c k)) n r h

end Cert.KernelIdeal.Regs

end
-- ==== Proof.Pre.lean ====
/-
  What the precondition says of the arguments: the mask is set exactly above the diagonal, and the arrays the scores are
  computed from hold real numbers.
-/
module

public import proofs.«01_k».proof.Pre_causal_and_finite
public import proofs.«01_k».proof.Proof.Soft
public import Idealize.ShloMosaic.Lib.Pipeline.ValueKit
public import Idealize.ShloMosaic.Lib.WordCmp

@[expose] public section

noncomputable section

namespace Cert.Pre_causal_and_finite

open Idealize.ShloMosaic Cert.Soft

/-- The predicate's broadcasts are broadcasts. -/
theorem facts : Facts := ⟨by decide, by decide, by decide⟩

/-- A mask equal to `column > row` everywhere is set exactly above the diagonal. -/
theorem mask_of (a3 : IVec S4x2048x2048 1) (h : cmpi .eq a3 (cmpi .sgt (iotaInDim S4x2048x2048 32 2) (iotaInDim S4x2048x2048 32 1)) = fun _ => 1#1)
    (n : Fin 4) (r t : Fin 2048) : a3 (ix3 n r t) = 1#1 ↔ r.val < t.val := by
  have e : BitVec.ofBool (a3 (ix3 n r t) == IntOp.cmpi .sgt (BitVec.ofNat 32 t.val) (BitVec.ofNat 32 r.val)) = 1#1 := congrFun h (ix3 n r t)
  have e' : a3 (ix3 n r t) = IntOp.cmpi .sgt (BitVec.ofNat 32 t.val) (BitVec.ofNat 32 r.val) := by
    by_contra hne
    rw [beq_eq_false_iff_ne.2 hne] at e
    exact absurd e (by decide)
  rw [e']
  exact WordCmp.cmpi_sgt_ofNat_eq_one_iff (by omega) (by omega)

/-- An array whose absolute values are everywhere below plus infinity holds real numbers. -/
theorem fine_of {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) : Fine (x i) := by
  have e : FloatOps.cmpf .olt (max (x i) (-(x i))) (Ideal.ofBits .f32 0x7F800000#32) = 1#1 := congrFun h i
  have et : Ideal.ofBits .f32 0x7F800000#32 = ⊤ := by simp [Ideal.ofBits, Ideal.ieee]
  rw [et] at e
  refine Fine.of_abs ?_
  by_contra hne
  have e0 : BitVec.ofBool (decide (max (x i) (-(x i)) < ⊤)) = 1#1 := e
  rw [decide_eq_false hne] at e0
  exact absurd e0 (by decide)

end Cert.Pre_causal_and_finite

end
-- ==== Proof.Value.lean ====
/-
  The two programs over the extended reals return the same: under the precondition each result of the kernel and the
  result of the reference in its place are the model's, index by index.
-/
module

public import proofs.«01_k».proof.Defs
public import proofs.«01_k».proof.Proof.RefVal
public import proofs.«01_k».proof.Proof.IVal
public import proofs.«01_k».proof.Proof.Pre

@[expose] public section

set_option maxRecDepth 16384

noncomputable section

namespace Cert.Proof

open Idealize.ShloMosaic Idealize.ShloMosaic.TcCoe Idealize.SL.Sem Cert.Soft Cert.Model

/-- The kernel's memories. -/
abbrev KM := (ℓ : Loc Cert.KernelIdeal.nD Cert.KernelIdeal.τ Cert.KernelIdeal.sig) → Buf (Elt Ideal) ℓ
/-- The reference's memories. -/
abbrev RM := (ℓ : Loc Cert.ReferenceIdeal.nD Cert.ReferenceIdeal.τ Cert.ReferenceIdeal.sig) → Buf (Elt Ideal) ℓ

/-- The queries and the keys, of arguments the precondition holds of, are real numbers, and the mask is causal. -/
theorem of_pre (m : KM) (h : Cert.Pre_KernelIdeal_causal_and_finite (hPre_causal_and_finite := Cert.Pre_causal_and_finite.facts) m) (c : Dev Cert.KernelIdeal.nD) :
    (∀ n r t, (m (c.tc.loc Cert.KernelIdeal.main_arg3) : IVec Cert.Pre_causal_and_finite.S4x2048x2048 1) (ix3 n r t) = 1#1 ↔ r.val < t.val)
    ∧ (∀ n s h, Fine (proj (m (c.tc.loc Cert.KernelIdeal.main_arg0)) (m (c.tc.loc Cert.KernelIdeal.main_arg4)) (m (c.tc.loc Cert.KernelIdeal.main_arg5)) n s h))
    ∧ (∀ n s h, Fine (proj (m (c.tc.loc Cert.KernelIdeal.main_arg1)) (m (c.tc.loc Cert.KernelIdeal.main_arg6)) (m (c.tc.loc Cert.KernelIdeal.main_arg7)) n s h)) := by
  obtain ⟨hm, h0, h1, h4, h5, h6, h7⟩ := h c
  exact ⟨fun n r t => Cert.Pre_causal_and_finite.mask_of _ hm n r t,
    proj_fine (fun i => Cert.Pre_causal_and_finite.fine_of _ _ h0 i) (fun i => Cert.Pre_causal_and_finite.fine_of _ _ h4 i) (fun i => Cert.Pre_causal_and_finite.fine_of _ _ h5 i),
    proj_fine (fun i => Cert.Pre_causal_and_finite.fine_of _ _ h1 i) (fun i => Cert.Pre_causal_and_finite.fine_of _ _ h6 i) (fun i => Cert.Pre_causal_and_finite.fine_of _ _ h7 i)⟩

/-- The two programs' arguments are the same on core `c`. -/
def Same (m : KM) (m' : RM) (c : Dev Cert.KernelIdeal.nD) : Prop :=
  m' ((c.tc : Thread Cert.ReferenceIdeal.nD Cert.ReferenceIdeal.τ).loc Cert.ReferenceIdeal.main_arg0) = m (c.tc.loc Cert.KernelIdeal.main_arg0)
    ∧ m' ((c.tc : Thread Cert.ReferenceIdeal.nD Cert.ReferenceIdeal.τ).loc Cert.ReferenceIdeal.main_arg1) = m (c.tc.loc Cert.KernelIdeal.main_arg1)
    ∧ m' ((c.tc : Thread Cert.ReferenceIdeal.nD Cert.ReferenceIdeal.τ).loc Cert.ReferenceIdeal.main_arg2) = m (c.tc.loc Cert.KernelIdeal.main_arg2)
    ∧ m' ((c.tc : Thread Cert.ReferenceIdeal.nD Cert.ReferenceIdeal.τ).loc Cert.ReferenceIdeal.main_arg3) = m (c.tc.loc Cert.KernelIdeal.main_arg3)
    ∧ m' ((c.tc : Thread Cert.ReferenceIdeal.nD Cert.ReferenceIdeal.τ).loc Cert.ReferenceIdeal.main_arg4) = m (c.tc.loc Cert.KernelIdeal.main_arg4)
    ∧ m' ((c.tc : Thread Cert.ReferenceIdeal.nD Cert.ReferenceIdeal.τ).loc Cert.ReferenceIdeal.main_arg5) = m (c.tc.loc Cert.KernelIdeal.main_arg5)
    ∧ m' ((c.tc : Thread Cert.ReferenceIdeal.nD Cert.ReferenceIdeal.τ).loc Cert.ReferenceIdeal.main_arg6) = m (c.tc.loc Cert.KernelIdeal.main_arg6)
    ∧ m' ((c.tc : Thread Cert.ReferenceIdeal.nD Cert.ReferenceIdeal.τ).loc Cert.ReferenceIdeal.main_arg7) = m (c.tc.loc Cert.KernelIdeal.main_arg7)
    ∧ m' ((c.tc : Thread Cert.ReferenceIdeal.nD Cert.ReferenceIdeal.τ).loc Cert.ReferenceIdeal.main_arg8) = m (c.tc.loc Cert.KernelIdeal.main_arg8)
    ∧ m' ((c.tc : Thread Cert.ReferenceIdeal.nD Cert.ReferenceIdeal.τ).loc Cert.ReferenceIdeal.main_arg9) = m (c.tc.loc Cert.KernelIdeal.main_arg9)
    ∧ m' ((c.tc : Thread Cert.ReferenceIdeal.nD Cert.ReferenceIdeal.τ).loc Cert.ReferenceIdeal.main_arg10) = m (c.tc.loc Cert.KernelIdeal.main_arg10)
    ∧ m' ((c.tc : Thread Cert.ReferenceIdeal.nD Cert.ReferenceIdeal.τ).loc Cert.ReferenceIdeal.main_arg11) = m (c.tc.loc Cert.KernelIdeal.main_arg11)
    ∧ m' ((c.tc : Thread Cert.ReferenceIdeal.nD Cert.ReferenceIdeal.τ).loc Cert.ReferenceIdeal.main_arg12) = m (c.tc.loc Cert.KernelIdeal.main_arg12)
    ∧ m' ((c.tc : Thread Cert.ReferenceIdeal.nD Cert.ReferenceIdeal.τ).loc Cert.ReferenceIdeal.main_arg13) = m (c.tc.loc Cert.KernelIdeal.main_arg13)

/-- The scores the two programs return are equal. -/
theorem scores_eq (m : KM) (m' : RM) (h : Cert.Pre_KernelIdeal_causal_and_finite (hPre_causal_and_finite := Cert.Pre_causal_and_finite.facts) m) (c : Dev Cert.KernelIdeal.nD) (ha : Same m m' c) :
    (Cert.ReferenceIdeal.Value.res_main_v36 m' c : FVec Ideal Cert.KernelIdeal.S4x16x2048x2048 .f32) = Cert.KernelIdeal.Regs.res1 m c := by
  obtain ⟨hm, hQ, hK⟩ := of_pre m h c
  obtain ⟨e0, e1, e2, e3, e4, e5, e6, e7, e8, e9, e10, e11, e12, e13⟩ := ha
  funext i
  rw [← ix4_eta i]
  refine (Cert.ReferenceIdeal.Stages.ref_att m' c (fun n r t => by rw [e3]; exact hm n r t) (i 0) (i 1) (i 2) (i 3)).trans ?_
  rw [Cert.ReferenceIdeal.Stages.pQ, Cert.ReferenceIdeal.Stages.pK, e0, e4, e5, e1, e6, e7]
  exact (Cert.KernelIdeal.Regs.res1_model m c hQ hK (i 0) (i 1) (i 2) (i 3)).symm

/-- The outputs the two programs return are equal. -/
theorem outputs_eq (m : KM) (m' : RM) (h : Cert.Pre_KernelIdeal_causal_and_finite (hPre_causal_and_finite := Cert.Pre_causal_and_finite.facts) m) (c : Dev Cert.KernelIdeal.nD) (ha : Same m m' c) :
    (Cert.ReferenceIdeal.Value.res_main_v69 m' c : FVec Ideal Cert.KernelIdeal.S4x2048x1024 .f32) = Cert.KernelIdeal.Regs.res0 m c := by
  obtain ⟨hm, hQ, hK⟩ := of_pre m h c
  obtain ⟨e0, e1, e2, e3, e4, e5, e6, e7, e8, e9, e10, e11, e12, e13⟩ := ha
  funext i
  rw [← ix3_eta i]
  refine (Cert.ReferenceIdeal.Stages.ref_out m' c (fun n r t => by rw [e3]; exact hm n r t) (i 0) (i 1) (i 2)).trans ?_
  rw [Cert.ReferenceIdeal.Stages.pQ, Cert.ReferenceIdeal.Stages.pK, Cert.ReferenceIdeal.Stages.pV, e0, e4, e5, e1, e6, e7, e2, e8, e9, e10, e11, e12, e13]
  exact (Cert.KernelIdeal.Regs.res0_model m c hQ hK (i 0) (i 1) (i 2)).symm

end Cert.Proof

end
-- ==== Proof.lean ====
module

public import proofs.«01_k».proof.Defs
public import proofs.«01_k».proof.Proof.Gen.ReferenceIdeal.Run
public import proofs.«01_k».proof.Proof.Run
public import proofs.«01_k».proof.Proof.IRun
public import proofs.«01_k».proof.Proof.Value
public import Idealize.ShloMosaic.Lib.Quiescent

@[expose] public section

noncomputable section

namespace Cert.Proof

open Idealize.ShloMosaic Idealize.ShloMosaic.TcCoe Idealize.SL.Sem

/-- The kernel runs, leaves its arguments as they were and every semaphore at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Regs.run_main (F := Bits) m g)

/-- The same of the kernel read over the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Regs.run_main (F := Ideal) m g)

/-- The same of the reference. -/
theorem frame_ref : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The kernel's frame under the precondition, which it does not need. -/
theorem frame_ideal_pre : Cert.quiescent_KernelIdeal_pre_causal_and_finite (hKernelIdeal := Cert.KernelIdeal.Gen.facts) (hPre_causal_and_finite := Cert.Pre_causal_and_finite.facts) :=
  fun m g _ => frame_ideal m g trivial

/-- The reference's frame under the precondition, which it does not need. -/
theorem frame_ref_pre : Cert.quiescent_ReferenceIdeal_pre_causal_and_finite (hReferenceIdeal := Cert.ReferenceIdeal.Gen.facts) (hPre_causal_and_finite := Cert.Pre_causal_and_finite.facts) :=
  fun m g _ => frame_ref m g trivial

/-- Under the precondition the kernel and the reference, from memories with the same arguments, end with the same output
    and the same scores, index by index, over the extended reals. -/
theorem algebraic : Cert.algebraic_KernelIdeal_ReferenceIdeal_pre_causal_and_finite (hKernelIdeal := Cert.KernelIdeal.Gen.facts) (hReferenceIdeal := Cert.ReferenceIdeal.Gen.facts)
    (hPre_causal_and_finite := Cert.Pre_causal_and_finite.facts) := fun m g m' g' h ha =>
  ⟨fun c => Cert.KernelIdeal.Regs.res0 m c, fun c => Cert.KernelIdeal.Regs.res1 m c,
    (θ_run Cert.KernelIdeal.defs _ _).mono (fun _ r c => ⟨(r.1 c).1.1, (r.1 c).1.2, (r.1 c).2⟩) (Cert.KernelIdeal.Regs.run_main (F := Ideal) m g),
    (θ_run Cert.ReferenceIdeal.defs _ _).mono (fun _ r c => ⟨(r c).1.trans (outputs_eq m m' h c (ha c)), (r c).2.1.trans (scores_eq m m' h c (ha c)), (r c).2.2⟩)
      (Cert.ReferenceIdeal.Value.run (F := Ideal) m' g')⟩

/-- Everything the statement claims. -/
theorem claim : Cert.Claim :=
  ⟨Cert.Kernel.Gen.facts, Cert.KernelIdeal.Gen.facts, Cert.ReferenceIdeal.Gen.facts, Cert.Pre_causal_and_finite.facts,
    frame_kernel, frame_ideal, frame_ideal_pre, frame_ref, frame_ref_pre, trivial, algebraic⟩

end Cert.Proof

end
